-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_standard_rates [hPre_standard_rates : Cert.Pre_standard_rates.Facts] (m : (ℓ : Loc Cert.KernelIdeal.nD Cert.KernelIdeal.τ Cert.KernelIdeal.sig) → Buf (Elt Ideal) ℓ) : Prop :=
  ∀ c : Dev Cert.KernelIdeal.nD,
    (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_standard_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_standard_rates [hPre_standard_rates : Cert.Pre_standard_rates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_standard_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_standard_rates [hKernelIdeal : Cert.KernelIdeal.Facts] [hPre_standard_rates : Cert.Pre_standard_rates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_standard_rates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_standard_rates [hReferenceIdeal : Cert.ReferenceIdeal.Facts] [hPre_standard_rates : Cert.Pre_standard_rates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_standard_rates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_standard_rates [hKernelIdeal : Cert.KernelIdeal.Facts] [hReferenceIdeal : Cert.ReferenceIdeal.Facts] [hPre_standard_rates : Cert.Pre_standard_rates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_standard_rates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_standard_rates : Cert.Pre_standard_rates.Facts),
    quiescent_Kernel (hKernel := hKernel)
    ∧ quiescent_KernelIdeal (hKernelIdeal := hKernelIdeal)
    ∧ quiescent_KernelIdeal_pre_standard_rates (hKernelIdeal := hKernelIdeal) (hPre_standard_rates := hPre_standard_rates)
    ∧ quiescent_ReferenceIdeal (hReferenceIdeal := hReferenceIdeal)
    ∧ quiescent_ReferenceIdeal_pre_standard_rates (hReferenceIdeal := hReferenceIdeal) (hPre_standard_rates := hPre_standard_rates)
    ∧ preserves_Kernel_KernelIdeal
    ∧ algebraic_KernelIdeal_ReferenceIdeal_pre_standard_rates (hKernelIdeal := hKernelIdeal) (hReferenceIdeal := hReferenceIdeal) (hPre_standard_rates := hPre_standard_rates)
-- ==== Pre_standard_rates.lean ====
abbrev S2x4096x1024 : Shape := ⟨3, ![2, 4096, 1024]⟩
abbrev S2x1x4096 : Shape := ⟨3, ![2, 1, 4096]⟩
abbrev S4096x1024 : Shape := ⟨2, ![4096, 1024]⟩
abbrev S2048x1x4 : Shape := ⟨3, ![2048, 1, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S_ : Shape := ⟨0, ![]⟩
abbrev S2048x1 : Shape := ⟨2, ![2048, 1]⟩
abbrev S16 : Shape := ⟨1, ![16]⟩
abbrev S1x16 : Shape := ⟨2, ![1, 16]⟩

class Facts : Prop where
  bcast_S_S2x4096x1024 : S_.BroadcastsInDim S2x4096x1024 (![] : Fin 0 → Fin S2x4096x1024.rank)
  bcast_S_S4096x1024 : S_.BroadcastsInDim S4096x1024 (![] : Fin 0 → Fin S4096x1024.rank)
  bcast_S_S2048x1x4 : S_.BroadcastsInDim S2048x1x4 (![] : Fin 0 → Fin S2048x1x4.rank)
  bcast_S_S2048 : S_.BroadcastsInDim S2048 (![] : Fin 0 → Fin S2048.rank)
  bcast_S_S96x2048 : S_.BroadcastsInDim S96x2048 (![] : Fin 0 → Fin S96x2048.rank)
  bcast_S_S2048x64 : S_.BroadcastsInDim S2048x64 (![] : Fin 0 → Fin S2048x64.rank)
  slices_S2048x16_S2048x1_0_0 : S2048x16.Slices ![0, 0] S2048x1
  bcast_S_S16 : S_.BroadcastsInDim S16 (![] : Fin 0 → Fin S16.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)

variable [Facts]

def fn_part2 {F : FTy → Type} [FloatOps F] (main_arg15 : FVec F S2048x16 .f32) (main_v2 : IVec S2x4096x1024 1) (main_v5 : IVec S4096x1024 1) (main_v8 : IVec S2048x1x4 1) (main_v11 : IVec S2048 1) (main_v14 : IVec S96x2048 1) (main_v17 : IVec S2048x64 1) (main_v20 : IVec S2048 1) (main_v23 : IVec S2048 1) (main_v33 : IVec S2048x16 1) (main_v34 : FVec F S2048x1 .f32) (main_v37 : FVec F S16 .f32) : IVec S2x4096x1024 1 × IVec S4096x1024 1 × IVec S2048x1x4 1 × IVec S2048 1 × IVec S96x2048 1 × IVec S2048x64 1 × IVec S2048 1 × IVec S2048 1 × IVec S2048x16 1 × IVec S2048x16 1 :=
  let main_v38 : FVec F S16 .f32 := Host.log main_v37
  let main_v39 : FVec F S1x16 .f32 := broadcastInDim S1x16 ![1] bcast_S16_S1x16_1 main_v38
  let main_v40 : FVec F S2048x16 .f32 := broadcastInDim S2048x16 ![0, 1] bcast_S2048x1_S2048x16_0_1 main_v34
  let main_v41 : FVec F S2048x16 .f32 := broadcastInDim S2048x16 ![0, 1] bcast_S1x16_S2048x16_0_1 main_v39
  let main_v42 : FVec F S2048x16 .f32 := addf main_v40 main_v41
  let main_v43 : IVec S2048x16 1 := cmpf .oeq main_arg15 main_v42
  (main_v2, main_v5, main_v8, main_v11, main_v14, main_v17, main_v20, main_v23, main_v33, main_v43)

def fn_part1 {F : FTy → Type} [FloatOps F] (main_arg7 : FVec F S2048 .f32) (main_arg8 : FVec F S2048x16 .f32) (main_arg9 : FVec F S2048 .f32) (main_arg15 : FVec F S2048x16 .f32) (main_v2 : IVec S2x4096x1024 1) (main_v5 : IVec S4096x1024 1) (main_v8 : IVec S2048x1x4 1) (main_v11 : IVec S2048 1) (main_v14 : IVec S96x2048 1) (main_v17 : IVec S2048x64 1) : IVec S2x4096x1024 1 × IVec S4096x1024 1 × IVec S2048x1x4 1 × IVec S2048 1 × IVec S96x2048 1 × IVec S2048x64 1 × IVec S2048 1 × IVec S2048 1 × IVec S2048x16 1 × IVec S2048x16 1 :=
  let main_v18 : FVec F S2048 .f32 := Host.absf main_arg7
  let main_cst_5 : FVec F S_ .f32 := constant S_ .f32 0x7F800000#32
  let main_v19 : FVec F S2048 .f32 := broadcastInDim S2048 ![] bcast_S_S2048 main_cst_5
  let main_v20 : IVec S2048 1 := cmpf .olt main_v18 main_v19
  let main_v21 : FVec F S2048 .f32 := Host.absf main_arg9
  let main_cst_6 : FVec F S_ .f32 := constant S_ .f32 0x7F800000#32
  let main_v22 : FVec F S2048 .f32 := broadcastInDim S2048 ![] bcast_S_S2048 main_cst_6
  let main_v23 : IVec S2048 1 := cmpf .olt main_v21 main_v22
  let main_v24 : FVec F S2048x1 .f32 := (extractStridedSlice S2048x1 ![0, 0] · slices_S2048x16_S2048x1_0_0) main_arg8
  let main_v25 : FVec F S16 .f32 := sitofp .f32 (iotaInDim S16 32 0)
  let main_cst_7 : FVec F S_ .f32 := constant S_ .f32 0x3F800000#32
  let main_v26 : FVec F S16 .f32 := broadcastInDim S16 ![] bcast_S_S16 main_cst_7
  let main_v27 : FVec F S16 .f32 := addf main_v25 main_v26
  let main_v28 : FVec F S16 .f32 := Host.log main_v27
  let main_v29 : FVec F S1x16 .f32 := broadcastInDim S1x16 ![1] bcast_S16_S1x16_1 main_v28
  let main_v30 : FVec F S2048x16 .f32 := broadcastInDim S2048x16 ![0, 1] bcast_S2048x1_S2048x16_0_1 main_v24
  let main_v31 : FVec F S2048x16 .f32 := broadcastInDim S2048x16 ![0, 1] bcast_S1x16_S2048x16_0_1 main_v29
  let main_v32 : FVec F S2048x16 .f32 := addf main_v30 main_v31
  let main_v33 : IVec S2048x16 1 := cmpf .oeq main_arg8 main_v32
  let main_v34 : FVec F S2048x1 .f32 := (extractStridedSlice S2048x1 ![0, 0] · slices_S2048x16_S2048x1_0_0) main_arg15
  let main_v35 : FVec F S16 .f32 := sitofp .f32 (iotaInDim S16 32 0)
  let main_cst_8 : FVec F S_ .f32 := constant S_ .f32 0x3F800000#32
  let main_v36 : FVec F S16 .f32 := broadcastInDim S16 ![] bcast_S_S16 main_cst_8
  let main_v37 : FVec F S16 .f32 := addf main_v35 main_v36
  fn_part2 (F := F) main_arg15 main_v2 main_v5 main_v8 main_v11 main_v14 main_v17 main_v20 main_v23 main_v33 main_v34 main_v37

def fn {F : FTy → Type} [FloatOps F] (main_arg0 : FVec F S2x4096x1024 .f32) (main_arg1 : IVec S2x1x4096 1) (main_arg2 : FVec F S4096x1024 .f32) (main_arg3 : FVec F S2048x1x4 .f32) (main_arg4 : FVec F S2048 .f32) (main_arg5 : FVec F S96x2048 .f32) (main_arg6 : FVec F S2048x64 .f32) (main_arg7 : FVec F S2048 .f32) (main_arg8 : FVec F S2048x16 .f32) (main_arg9 : FVec F S2048 .f32) (main_arg10 : FVec F S2048x1x4 .f32) (main_arg11 : FVec F S2048 .f32) (main_arg12 : FVec F S96x2048 .f32) (main_arg13 : FVec F S2048x64 .f32) (main_arg14 : FVec F S2048 .f32) (main_arg15 : FVec F S2048x16 .f32) (main_arg16 : FVec F S2048 .f32) (main_arg17 : FVec F S1024x2048 .f32) : IVec S2x4096x1024 1 × IVec S4096x1024 1 × IVec S2048x1x4 1 × IVec S2048 1 × IVec S96x2048 1 × IVec S2048x64 1 × IVec S2048 1 × IVec S2048 1 × IVec S2048x16 1 × IVec S2048x16 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S2048x1x4 .f32 := Host.absf main_arg3
  let main_cst_1 : FVec F S_ .f32 := constant S_ .f32 0x7F800000#32
  let main_v7 : FVec F S2048x1x4 .f32 := broadcastInDim S2048x1x4 ![] bcast_S_S2048x1x4 main_cst_1
  let main_v8 : IVec S2048x1x4 1 := cmpf .olt main_v6 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S96x2048 .f32 := Host.absf main_arg5
  let main_cst_3 : FVec F S_ .f32 := constant S_ .f32 0x7F800000#32
  let main_v13 : FVec F S96x2048 .f32 := broadcastInDim S96x2048 ![] bcast_S_S96x2048 main_cst_3
  let main_v14 : IVec S96x2048 1 := cmpf .olt main_v12 main_v13
  let main_v15 : FVec F S2048x64 .f32 := Host.absf main_arg6
  let main_cst_4 : FVec F S_ .f32 := constant S_ .f32 0x7F800000#32
  let main_v16 : FVec F S2048x64 .f32 := broadcastInDim S2048x64 ![] bcast_S_S2048x64 main_cst_4
  let main_v17 : IVec S2048x64 1 := cmpf .olt main_v15 main_v16
  fn_part1 (F := F) main_arg7 main_arg8 main_arg9 main_arg15 main_v2 main_v5 main_v8 main_v11 main_v14 main_v17
-- ==== Kernel.lean ====
abbrev S2x4096x1024 : Shape := ⟨3, ![2, 4096, 1024]⟩
abbrev S2x1x4096 : Shape := ⟨3, ![2, 1, 4096]⟩
abbrev S4096x1024 : Shape := ⟨2, ![4096, 1024]⟩
abbrev S2048x1x4 : Shape := ⟨3, ![2048, 1, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S2x4096x4096 : Shape := ⟨3, ![2, 4096, 4096]⟩
abbrev S1x512x1024 : Shape := ⟨3, ![1, 512, 1024]⟩
abbrev S512x1024 : Shape := ⟨2, ![512, 1024]⟩
abbrev S1x512x512 : Shape := ⟨3, ![1, 512, 512]⟩
abbrev S512x512 : Shape := ⟨2, ![512, 512]⟩
abbrev S2048x4 : Shape := ⟨2, ![2048, 4]⟩
abbrev S4x2048 : Shape := ⟨2, ![4, 2048]⟩
abbrev S1x2048 : Shape := ⟨2, ![1, 2048]⟩
abbrev S64x2048 : Shape := ⟨2, ![64, 2048]⟩
abbrev S16x2048 : Shape := ⟨2, ![16, 2048]⟩
abbrev S2x4096x2048 : Shape := ⟨3, ![2, 4096, 2048]⟩
abbrev S1x256x2048 : Shape := ⟨3, ![1, 256, 2048]⟩
abbrev S3x2048 : Shape := ⟨2, ![3, 2048]⟩
abbrev S256x2048 : Shape := ⟨2, ![256, 2048]⟩
abbrev S256x16 : Shape := ⟨2, ![256, 16]⟩
abbrev S8x16x2048 : Shape := ⟨3, ![8, 16, 2048]⟩
abbrev S259x2048 : Shape := ⟨2, ![259, 2048]⟩
abbrev S256x64 : Shape := ⟨2, ![256, 64]⟩
abbrev S8x2048 : Shape := ⟨2, ![8, 2048]⟩
abbrev S8x16 : Shape := ⟨2, ![8, 16]⟩
abbrev S8x1x2048 : Shape := ⟨3, ![8, 1, 2048]⟩
abbrev S8x1 : Shape := ⟨2, ![8, 1]⟩
abbrev S1x16x2048 : Shape := ⟨3, ![1, 16, 2048]⟩
abbrev S1x16 : Shape := ⟨2, ![1, 16]⟩
abbrev S1x8x2048 : Shape := ⟨3, ![1, 8, 2048]⟩
abbrev S2x4096 : Shape := ⟨2, ![2, 4096]⟩
abbrev S2x4096x1 : Shape := ⟨3, ![2, 4096, 1]⟩
abbrev S1x256x1 : Shape := ⟨3, ![1, 256, 1]⟩
abbrev S1x256x1024 : Shape := ⟨3, ![1, 256, 1024]⟩
abbrev S256x1 : Shape := ⟨2, ![256, 1]⟩
abbrev S256x1024 : Shape := ⟨2, ![256, 1024]⟩

abbrev nBuf : Space → Nat
  | .hbm => 48
  | .vmem => 59
  | .smem => 0
  | _ => 0

abbrev bufTy : (tb : Table) → Fin (tcTables nBuf tb) → BufTy
  | .hbm, ⟨0, _⟩ => ⟨S2x4096x1024, .f32⟩
  | .hbm, ⟨1, _⟩ => ⟨S2x1x4096, .i1⟩
  | .hbm, ⟨2, _⟩ => ⟨S4096x1024, .f32⟩
  | .hbm, ⟨3, _⟩ => ⟨S2048x1x4, .f32⟩
  | .hbm, ⟨4, _⟩ => ⟨S2048, .f32⟩
  | .hbm, ⟨5, _⟩ => ⟨S96x2048, .f32⟩
  | .hbm, ⟨6, _⟩ => ⟨S2048x64, .f32⟩
  | .hbm, ⟨7, _⟩ => ⟨S2048, .f32⟩
  | .hbm, ⟨8, _⟩ => ⟨S2048x16, .f32⟩
  | .hbm, ⟨9, _⟩ => ⟨S2048, .f32⟩
  | .hbm, ⟨10, _⟩ => ⟨S2048x1x4, .f32⟩
  | .hbm, ⟨11, _⟩ => ⟨S2048, .f32⟩
  | .hbm, ⟨12, _⟩ => ⟨S96x2048, .f32⟩
  | .hbm, ⟨13, _⟩ => ⟨S2048x64, .f32⟩
  | .hbm, ⟨14, _⟩ => ⟨S2048, .f32⟩
  | .hbm, ⟨15, _⟩ => ⟨S2048x16, .f32⟩
  | .hbm, ⟨16, _⟩ => ⟨S2048, .f32⟩
  | .hbm, ⟨17, _⟩ => ⟨S1024x2048, .f32⟩
  | .hbm, ⟨18, _⟩ => ⟨S2x4096x4096, .f32⟩
  | .hbm, ⟨19, _⟩ => ⟨S2048x4, .f32⟩
  | .hbm, ⟨20, _⟩ => ⟨S4x2048, .f32⟩
  | .hbm, ⟨21, _⟩ => ⟨S1x2048, .f32⟩
  | .hbm, ⟨22, _⟩ => ⟨S64x2048, .f32⟩
  | .hbm, ⟨23, _⟩ => ⟨S16x2048, .f32⟩
  | .hbm, ⟨24, _⟩ => ⟨S16x2048, .f32⟩
  | .hbm, ⟨25, _⟩ => ⟨S1x2048, .f32⟩
  | .hbm, ⟨26, _⟩ => ⟨S2048x16, .f32⟩
  | .hbm, ⟨27, _⟩ => ⟨S2048x16, .f32⟩
  | .hbm, ⟨28, _⟩ => ⟨S16x2048, .f32⟩
  | .hbm, ⟨29, _⟩ => ⟨S1x2048, .f32⟩
  | .hbm, ⟨30, _⟩ => ⟨S2x4096x2048, .f32⟩
  | .hbm, ⟨31, _⟩ => ⟨S2048x4, .f32⟩
  | .hbm, ⟨32, _⟩ => ⟨S2048x4, .f32⟩
  | .hbm, ⟨33, _⟩ => ⟨S4x2048, .f32⟩
  | .hbm, ⟨34, _⟩ => ⟨S1x2048, .f32⟩
  | .hbm, ⟨35, _⟩ => ⟨S64x2048, .f32⟩
  | .hbm, ⟨36, _⟩ => ⟨S16x2048, .f32⟩
  | .hbm, ⟨37, _⟩ => ⟨S16x2048, .f32⟩
  | .hbm, ⟨38, _⟩ => ⟨S1x2048, .f32⟩
  | .hbm, ⟨39, _⟩ => ⟨S2048x16, .f32⟩
  | .hbm, ⟨40, _⟩ => ⟨S2048x16, .f32⟩
  | .hbm, ⟨41, _⟩ => ⟨S16x2048, .f32⟩
  | .hbm, ⟨42, _⟩ => ⟨S1x2048, .f32⟩
  | .hbm, ⟨43, _⟩ => ⟨S2x4096x2048, .f32⟩
  | .hbm, ⟨44, _⟩ => ⟨S2x4096, .i1⟩
  | .hbm, ⟨45, _⟩ => ⟨S2x4096x1, .i1⟩
  | .hbm, ⟨46, _⟩ => ⟨S2x4096x1, .f32⟩
  | .hbm, ⟨47, _⟩ => ⟨S2x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x512, .f32⟩
  | .local _ .vmem, ⟨5, _⟩ => ⟨S1x512x512, .f32⟩
  | .local _ .vmem, ⟨6, _⟩ => ⟨S1x256x2048, .f32⟩
  | .local _ .vmem, ⟨7, _⟩ => ⟨S1x256x2048, .f32⟩
  | .local _ .vmem, ⟨8, _⟩ => ⟨S4x2048, .f32⟩
  | .local _ .vmem, ⟨9, _⟩ => ⟨S1x2048, .f32⟩
  | .local _ .vmem, ⟨10, _⟩ => ⟨S64x2048, .f32⟩
  | .local _ .vmem, ⟨11, _⟩ => ⟨S16x2048, .f32⟩
  | .local _ .vmem, ⟨12, _⟩ => ⟨S16x2048, .f32⟩
  | .local _ .vmem, ⟨13, _⟩ => ⟨S2048x64, .f32⟩
  | .local _ .vmem, ⟨14, _⟩ => ⟨S1x2048, .f32⟩
  | .local _ .vmem, ⟨15, _⟩ => ⟨S16x2048, .f32⟩
  | .local _ .vmem, ⟨16, _⟩ => ⟨S1x2048, .f32⟩
  | .local _ .vmem, ⟨17, _⟩ => ⟨S1x256x2048, .f32⟩
  | .local _ .vmem, ⟨18, _⟩ => ⟨S1x256x2048, .f32⟩
  | .local _ .vmem, ⟨19, _⟩ => ⟨S16x2048, .f32⟩
  | .local _ .vmem, ⟨20, _⟩ => ⟨S3x2048, .f32⟩
  | .local _ .vmem, ⟨21, _⟩ => ⟨S256x2048, .f32⟩
  | .local _ .vmem, ⟨22, _⟩ => ⟨S256x2048, .f32⟩
  | .local _ .vmem, ⟨23, _⟩ => ⟨S256x16, .f32⟩
  | .local _ .vmem, ⟨24, _⟩ => ⟨S256x16, .f32⟩
  | .local _ .vmem, ⟨25, _⟩ => ⟨S8x16x2048, .f32⟩
  | .local _ .vmem, ⟨26, _⟩ => ⟨S8x16x2048, .f32⟩
  | .local _ .vmem, ⟨27, _⟩ => ⟨S1x256x2048, .f32⟩
  | .local _ .vmem, ⟨28, _⟩ => ⟨S1x256x2048, .f32⟩
  | .local _ .vmem, ⟨29, _⟩ => ⟨S4x2048, .f32⟩
  | .local _ .vmem, ⟨30, _⟩ => ⟨S1x2048, .f32⟩
  | .local _ .vmem, ⟨31, _⟩ => ⟨S64x2048, .f32⟩
  | .local _ .vmem, ⟨32, _⟩ => ⟨S16x2048, .f32⟩
  | .local _ .vmem, ⟨33, _⟩ => ⟨S16x2048, .f32⟩
  | .local _ .vmem, ⟨34, _⟩ => ⟨S2048x64, .f32⟩
  | .local _ .vmem, ⟨35, _⟩ => ⟨S1x2048, .f32⟩
  | .local _ .vmem, ⟨36, _⟩ => ⟨S16x2048, .f32⟩
  | .local _ .vmem, ⟨37, _⟩ => ⟨S1x2048, .f32⟩
  | .local _ .vmem, ⟨38, _⟩ => ⟨S1x256x2048, .f32⟩
  | .local _ .vmem, ⟨39, _⟩ => ⟨S1x256x2048, .f32⟩
  | .local _ .vmem, ⟨40, _⟩ => ⟨S16x2048, .f32⟩
  | .local _ .vmem, ⟨41, _⟩ => ⟨S3x2048, .f32⟩
  | .local _ .vmem, ⟨42, _⟩ => ⟨S256x2048, .f32⟩
  | .local _ .vmem, ⟨43, _⟩ => ⟨S256x2048, .f32⟩
  | .local _ .vmem, ⟨44, _⟩ => ⟨S256x16, .f32⟩
  | .local _ .vmem, ⟨45, _⟩ => ⟨S256x16, .f32⟩
  | .local _ .vmem, ⟨46, _⟩ => ⟨S8x16x2048, .f32⟩
  | .local _ .vmem, ⟨47, _⟩ => ⟨S8x16x2048, .f32⟩
  | .local _ .vmem, ⟨48, _⟩ => ⟨S1x256x2048, .f32⟩
  | .local _ .vmem, ⟨49, _⟩ => ⟨S1x256x2048, .f32⟩
  | .local _ .vmem, ⟨50, _⟩ => ⟨S1x256x2048, .f32⟩
  | .local _ .vmem, ⟨51, _⟩ => ⟨S1x256x2048, .f32⟩
  | .local _ .vmem, ⟨52, _⟩ => ⟨S1x256x2048, .f32⟩
  | .local _ .vmem, ⟨53, _⟩ => ⟨S1x256x2048, .f32⟩
  | .local _ .vmem, ⟨54, _⟩ => ⟨S1x256x1, .f32⟩
  | .local _ .vmem, ⟨55, _⟩ => ⟨S1x256x1, .f32⟩
  | .local _ .vmem, ⟨56, _⟩ => ⟨S1024x2048, .f32⟩
  | .local _ .vmem, ⟨57, _⟩ => ⟨S1x256x1024, .f32⟩
  | .local _ .vmem, ⟨58, _⟩ => ⟨S1x256x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg10_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc1_scratch5 : Ref sig .tc := ⟨.vmem, 24, rfl⟩
abbrev cc1_scratch6 : Ref sig .tc := ⟨.vmem, 25, rfl⟩
abbrev cc1_scratch7 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg10_1 : Ref sig .tc := ⟨.vmem, 39, rfl⟩
abbrev cc2_scratch0 : Ref sig .tc := ⟨.vmem, 40, rfl⟩
abbrev cc2_scratch1 : Ref sig .tc := ⟨.vmem, 41, rfl⟩
abbrev cc2_scratch2 : Ref sig .tc := ⟨.vmem, 42, rfl⟩
abbrev cc2_scratch3 : Ref sig .tc := ⟨.vmem, 43, rfl⟩
abbrev cc2_scratch4 : Ref sig .tc := ⟨.vmem, 44, rfl⟩
abbrev cc2_scratch5 : Ref sig .tc := ⟨.vmem, 45, rfl⟩
abbrev cc2_scratch6 : Ref sig .tc := ⟨.vmem, 46, rfl⟩
abbrev cc2_scratch7 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg5_0 : Ref sig .tc := ⟨.vmem, 57, rfl⟩
abbrev cc3_stg5_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem10_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem10_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem5_0 : DmaSem sig := 41
abbrev cc3_sem5_1 : DmaSem sig := 42

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨2, ![2, 16], ![false, false]⟩

@[reducible] def k1_t1_loop : Scf.Loop 32 :=
  let c0_i32_41 : BitVec 32 := 0#32
  let c32_i32 : BitVec 32 := 32#32
  let v85 : BitVec 32 := Scalar.addi c0_i32_41 c32_i32
  let c1_i32 : BitVec 32 := 1#32
  ⟨c0_i32_41, v85, c1_i32⟩
def k1_off1 (k1_t1 : Fin k1_t1_loop.trips) : Fin 2 → Nat :=
  let c0_i32_41 : BitVec 32 := 0#32
  let c1_i32 : BitVec 32 := 1#32
  let arg21 : BitVec 32 := Scf.iv c0_i32_41 c1_i32 k1_t1
  let c8_i32 : BitVec 32 := 8#32
  let v100 : BitVec 32 := Scalar.muli arg21 c8_i32
  let v101 : Index := Scalar.indexCast v100
  let c0_53 : Index := 0#32
  ![v101.toNat, 0]
def k1_off2 (k1_t1 : Fin k1_t1_loop.trips) : Fin 2 → Nat :=
  let c0_i32_41 : BitVec 32 := 0#32
  let c1_i32 : BitVec 32 := 1#32
  let arg21 : BitVec 32 := Scf.iv c0_i32_41 c1_i32 k1_t1
  let c8_i32 : BitVec 32 := 8#32
  let v100 : BitVec 32 := Scalar.muli arg21 c8_i32
  let v105 : Index := Scalar.indexCast v100
  let c0_55 : Index := 0#32
  ![v105.toNat, 0]
def k1_off3 (k1_t1 : Fin k1_t1_loop.trips) : Fin 3 → Nat :=
  let c0_197 : Index := 0#32
  let c0_i32_41 : BitVec 32 := 0#32
  let c1_i32 : BitVec 32 := 1#32
  let arg21 : BitVec 32 := Scf.iv c0_i32_41 c1_i32 k1_t1
  let c8_i32 : BitVec 32 := 8#32
  let v100 : BitVec 32 := Scalar.muli arg21 c8_i32
  let v337 : Index := Scalar.indexCast v100
  let c0_198 : Index := 0#32
  ![0, v337.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2048x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S16x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x256x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![2, 16], ![false, false]⟩

@[reducible] def k2_t1_loop : Scf.Loop 32 :=
  let c0_i32_41 : BitVec 32 := 0#32
  let c32_i32 : BitVec 32 := 32#32
  let v85 : BitVec 32 := Scalar.addi c0_i32_41 c32_i32
  let c1_i32 : BitVec 32 := 1#32
  ⟨c0_i32_41, v85, c1_i32⟩
def k2_off1 (k2_t1 : Fin k2_t1_loop.trips) : Fin 2 → Nat :=
  let c31_i32 : BitVec 32 := 31#32
  let c0_i32_41 : BitVec 32 := 0#32
  let c1_i32 : BitVec 32 := 1#32
  let arg21 : BitVec 32 := Scf.iv c0_i32_41 c1_i32 k2_t1
  let v100 : BitVec 32 := Scalar.subi c31_i32 arg21
  let c8_i32 : BitVec 32 := 8#32
  let v101 : BitVec 32 := Scalar.muli v100 c8_i32
  let v102 : Index := Scalar.indexCast v101
  let c0_53 : Index := 0#32
  ![v102.toNat, 0]
def k2_off2 (k2_t1 : Fin k2_t1_loop.trips) : Fin 2 → Nat :=
  let c31_i32 : BitVec 32 := 31#32
  let c0_i32_41 : BitVec 32 := 0#32
  let c1_i32 : BitVec 32 := 1#32
  let arg21 : BitVec 32 := Scf.iv c0_i32_41 c1_i32 k2_t1
  let v100 : BitVec 32 := Scalar.subi c31_i32 arg21
  let c8_i32 : BitVec 32 := 8#32
  let v101 : BitVec 32 := Scalar.muli v100 c8_i32
  let v106 : Index := Scalar.indexCast v101
  let c0_55 : Index := 0#32
  ![v106.toNat, 0]
def k2_off3 (k2_t1 : Fin k2_t1_loop.trips) : Fin 3 → Nat :=
  let c0_197 : Index := 0#32
  let c31_i32 : BitVec 32 := 31#32
  let c0_i32_41 : BitVec 32 := 0#32
  let c1_i32 : BitVec 32 := 1#32
  let arg21 : BitVec 32 := Scf.iv c0_i32_41 c1_i32 k2_t1
  let v100 : BitVec 32 := Scalar.subi c31_i32 arg21
  let c8_i32 : BitVec 32 := 8#32
  let v101 : BitVec 32 := Scalar.muli v100 c8_i32
  let v338 : Index := Scalar.indexCast v101
  let c0_198 : Index := 0#32
  ![0, v338.toNat, 0]
def cc2_transform_0 (i : grid2.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage2_0 : Fin 2 → Memref sig .tc .vmem S1x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S16x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S16x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S2048x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S16x2048 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x2048 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x256x2048 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨2, ![2, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x256x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1024x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== ReferenceIdeal.lean ====
abbrev S2x4096x1024 : Shape := ⟨3, ![2, 4096, 1024]⟩
abbrev S2x1x4096 : Shape := ⟨3, ![2, 1, 4096]⟩
abbrev S4096x1024 : Shape := ⟨2, ![4096, 1024]⟩
abbrev S2048x1x4 : Shape := ⟨3, ![2048, 1, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S2x4096x4096 : Shape := ⟨3, ![2, 4096, 4096]⟩
abbrev S2x4096x2048 : Shape := ⟨3, ![2, 4096, 2048]⟩
abbrev S1x2x4096x2048 : Shape := ⟨4, ![1, 2, 4096, 2048]⟩
abbrev S2x2x4096x2048 : Shape := ⟨4, ![2, 2, 4096, 2048]⟩
abbrev S1x2048x1x4 : Shape := ⟨4, ![1, 2048, 1, 4]⟩
abbrev S2x2048x1x4 : Shape := ⟨4, ![2, 2048, 1, 4]⟩
abbrev S1x2048 : Shape := ⟨2, ![1, 2048]⟩
abbrev S2x2048 : Shape := ⟨2, ![2, 2048]⟩
abbrev S1x96x2048 : Shape := ⟨3, ![1, 96, 2048]⟩
abbrev S2x96x2048 : Shape := ⟨3, ![2, 96, 2048]⟩
abbrev S1x2048x64 : Shape := ⟨3, ![1, 2048, 64]⟩
abbrev S2x2048x64 : Shape := ⟨3, ![2, 2048, 64]⟩
abbrev S1x2048x16 : Shape := ⟨3, ![1, 2048, 16]⟩
abbrev S2x2048x16 : Shape := ⟨3, ![2, 2048, 16]⟩
abbrev S_ : Shape := ⟨0, ![]⟩
abbrev S2x2x4099x2048 : Shape := ⟨4, ![2, 2, 4099, 2048]⟩
abbrev S2x2048x1x1 : Shape := ⟨4, ![2, 2048, 1, 1]⟩
abbrev S2x1x1x2048 : Shape := ⟨4, ![2, 1, 1, 2048]⟩
abbrev S2x2x4096x96 : Shape := ⟨4, ![2, 2, 4096, 96]⟩
abbrev S2x2x4096x64 : Shape := ⟨4, ![2, 2, 4096, 64]⟩
abbrev S2x2x4096x16 : Shape := ⟨4, ![2, 2, 4096, 16]⟩
abbrev S2x4096x2x2048 : Shape := ⟨4, ![2, 4096, 2, 2048]⟩
abbrev S2x4096x2x16 : Shape := ⟨4, ![2, 4096, 2, 16]⟩
abbrev S2x2x2048x16 : Shape := ⟨4, ![2, 2, 2048, 16]⟩
abbrev S4096x2x2x2048 : Shape := ⟨4, ![4096, 2, 2, 2048]⟩
abbrev S4096x2x2x16 : Shape := ⟨4, ![4096, 2, 2, 16]⟩
abbrev S1x2x2x2048 : Shape := ⟨4, ![1, 2, 2, 2048]⟩
abbrev S2x2x2048 : Shape := ⟨3, ![2, 2, 2048]⟩
abbrev S1x2x2x16 : Shape := ⟨4, ![1, 2, 2, 16]⟩
abbrev S2x2x16 : Shape := ⟨3, ![2, 2, 16]⟩
abbrev S2x2x2048x1 : Shape := ⟨4, ![2, 2, 2048, 1]⟩
abbrev S2x1x2048x16 : Shape := ⟨4, ![2, 1, 2048, 16]⟩
abbrev S2x2x1x16 : Shape := ⟨4, ![2, 2, 1, 16]⟩
abbrev S2x4096 : Shape := ⟨2, ![2, 4096]⟩
abbrev S2x4096x1 : Shape := ⟨3, ![2, 4096, 1]⟩

abbrev nBuf : Space → Nat
  | .hbm => 214
  | .vmem => 0
  | .smem => 0
  | _ => 0

abbrev hbmTy0_0 (i : Nat) : BufTy := match i % 128 with
  | 0 => ⟨S2x4096x1024, .f32⟩
  | 1 => ⟨S2x1x4096, .i1⟩
  | 2 => ⟨S4096x1024, .f32⟩
  | 3 => ⟨S2048x1x4, .f32⟩
  | 4 => ⟨S2048, .f32⟩
  | 5 => ⟨S96x2048, .f32⟩
  | 6 => ⟨S2048x64, .f32⟩
  | 7 => ⟨S2048, .f32⟩
  | 8 => ⟨S2048x16, .f32⟩
  | 9 => ⟨S2048, .f32⟩
  | 10 => ⟨S2048x1x4, .f32⟩
  | 11 => ⟨S2048, .f32⟩
  | 12 => ⟨S96x2048, .f32⟩
  | 13 => ⟨S2048x64, .f32⟩
  | 14 => ⟨S2048, .f32⟩
  | 15 => ⟨S2048x16, .f32⟩
  | 16 => ⟨S2048, .f32⟩
  | 17 => ⟨S1024x2048, .f32⟩
  | 18 => ⟨S2x4096x4096, .f32⟩
  | 19 => ⟨S2x4096x2048, .f32⟩
  | 20 => ⟨S2x4096x2048, .f32⟩
  | 21 => ⟨S2x4096x2048, .f32⟩
  | 22 => ⟨S1x2x4096x2048, .f32⟩
  | 23 => ⟨S1x2x4096x2048, .f32⟩
  | 24 => ⟨S2x2x4096x2048, .f32⟩
  | 25 => ⟨S2x4096x2048, .f32⟩
  | 26 => ⟨S1x2x4096x2048, .f32⟩
  | 27 => ⟨S1x2x4096x2048, .f32⟩
  | 28 => ⟨S2x2x4096x2048, .f32⟩
  | 29 => ⟨S1x2048x1x4, .f32⟩
  | 30 => ⟨S1x2048x1x4, .f32⟩
  | 31 => ⟨S2x2048x1x4, .f32⟩
  | 32 => ⟨S1x2048, .f32⟩
  | 33 => ⟨S1x2048, .f32⟩
  | 34 => ⟨S2x2048, .f32⟩
  | 35 => ⟨S1x96x2048, .f32⟩
  | 36 => ⟨S1x96x2048, .f32⟩
  | 37 => ⟨S2x96x2048, .f32⟩
  | 38 => ⟨S1x2048x64, .f32⟩
  | 39 => ⟨S1x2048x64, .f32⟩
  | 40 => ⟨S2x2048x64, .f32⟩
  | 41 => ⟨S1x2048, .f32⟩
  | 42 => ⟨S1x2048, .f32⟩
  | 43 => ⟨S2x2048, .f32⟩
  | 44 => ⟨S1x2048x16, .f32⟩
  | 45 => ⟨S1x2048x16, .f32⟩
  | 46 => ⟨S2x2048x16, .f32⟩
  | 47 => ⟨S1x2048, .f32⟩
  | 48 => ⟨S1x2048, .f32⟩
  | 49 => ⟨S2x2048, .f32⟩
  | 50 => ⟨S_, .i32⟩
  | 51 => ⟨S_, .f32⟩
  | 52 => ⟨S2x2x4099x2048, .f32⟩
  | 53 => ⟨S2x2048x1x1, .f32⟩
  | 54 => ⟨S2x2048, .f32⟩
  | 55 => ⟨S2x2x4096x2048, .f32⟩
  | 56 => ⟨S2x1x1x2048, .f32⟩
  | 57 => ⟨S2x2x4096x2048, .f32⟩
  | 58 => ⟨S2x2x4096x2048, .f32⟩
  | 59 => ⟨S_, .f32⟩
  | 60 => ⟨S2x2x4096x2048, .f32⟩
  | 61 => ⟨S2x2x4096x2048, .f32⟩
  | 62 => ⟨S2x2048x1x1, .f32⟩
  | 63 => ⟨S2x2048, .f32⟩
  | 64 => ⟨S2x2x4096x2048, .f32⟩
  | 65 => ⟨S2x1x1x2048, .f32⟩
  | 66 => ⟨S2x2x4096x2048, .f32⟩
  | 67 => ⟨S2x2x4096x2048, .f32⟩
  | 68 => ⟨S2x2x4096x2048, .f32⟩
  | 69 => ⟨S2x2048x1x1, .f32⟩
  | 70 => ⟨S2x2048, .f32⟩
  | 71 => ⟨S2x2x4096x2048, .f32⟩
  | 72 => ⟨S2x1x1x2048, .f32⟩
  | 73 => ⟨S2x2x4096x2048, .f32⟩
  | 74 => ⟨S2x2x4096x2048, .f32⟩
  | 75 => ⟨S2x2x4096x2048, .f32⟩
  | 76 => ⟨S2x2048x1x1, .f32⟩
  | 77 => ⟨S2x2048, .f32⟩
  | 78 => ⟨S2x2x4096x2048, .f32⟩
  | 79 => ⟨S2x1x1x2048, .f32⟩
  | 80 => ⟨S2x2x4096x2048, .f32⟩
  | 81 => ⟨S2x2x4096x2048, .f32⟩
  | 82 => ⟨S2x2x4096x2048, .f32⟩
  | 83 => ⟨S2x1x1x2048, .f32⟩
  | 84 => ⟨S2x2x4096x2048, .f32⟩
  | 85 => ⟨S2x2x4096x2048, .f32⟩
  | 86 => ⟨S2x2x4096x2048, .f32⟩
  | 87 => ⟨S2x2x4096x2048, .f32⟩
  | 88 => ⟨S_, .f32⟩
  | 89 => ⟨S2x2x4096x2048, .f32⟩
  | 90 => ⟨S2x2x4096x2048, .f32⟩
  | 91 => ⟨S_, .f32⟩
  | 92 => ⟨S2x2x4096x2048, .f32⟩
  | 93 => ⟨S2x2x4096x2048, .f32⟩
  | 94 => ⟨S2x2x4096x2048, .f32⟩
  | 95 => ⟨S2x2x4096x96, .f32⟩
  | 96 => ⟨S2x2x4096x64, .f32⟩
  | 97 => ⟨S2x2x4096x16, .f32⟩
  | 98 => ⟨S2x2x4096x16, .f32⟩
  | 99 => ⟨S2x2x4096x2048, .f32⟩
  | 100 => ⟨S2x1x1x2048, .f32⟩
  | 101 => ⟨S2x2x4096x2048, .f32⟩
  | 102 => ⟨S2x2x4096x2048, .f32⟩
  | 103 => ⟨S_, .f32⟩
  | 104 => ⟨S2x2x4096x2048, .f32⟩
  | 105 => ⟨S2x2x4096x2048, .f32⟩
  | 106 => ⟨S2x2x4096x2048, .f32⟩
  | 107 => ⟨S2x2x4096x2048, .f32⟩
  | 108 => ⟨S2x2x4096x2048, .i1⟩
  | 109 => ⟨S2x2x4096x2048, .f32⟩
  | 110 => ⟨S2x2x4096x2048, .f32⟩
  | 111 => ⟨S2x2x4096x2048, .f32⟩
  | 112 => ⟨S2x2x4096x2048, .f32⟩
  | 113 => ⟨S2x2x4096x2048, .f32⟩
  | 114 => ⟨S2x2x4096x2048, .f32⟩
  | 115 => ⟨S2x2x4096x2048, .f32⟩
  | 116 => ⟨S2x2x4096x2048, .f32⟩
  | 117 => ⟨S2x2048x16, .f32⟩
  | 118 => ⟨S2x2048x16, .f32⟩
  | 119 => ⟨S_, .f32⟩
  | 120 => ⟨S2x2048x16, .f32⟩
  | 121 => ⟨S2x4096x2x2048, .f32⟩
  | 122 => ⟨S2x4096x2x2048, .f32⟩
  | 123 => ⟨S2x4096x2x16, .f32⟩
  | 124 => ⟨S2x4096x2x16, .f32⟩
  | 125 => ⟨S2x2x2048x16, .f32⟩
  | 126 => ⟨S4096x2x2x2048, .f32⟩
  | 127 => ⟨S4096x2x2x2048, .f32⟩
  | _ => ⟨S2x4096x1024, .f32⟩

abbrev hbmTy0_1 (i : Nat) : BufTy := match i % 128 with
  | 0 => ⟨S4096x2x2x16, .f32⟩
  | 1 => ⟨S4096x2x2x16, .f32⟩
  | 2 => ⟨S_, .f32⟩
  | 3 => ⟨S4096x2x2x2048, .f32⟩
  | 4 => ⟨S_, .i32⟩
  | 5 => ⟨S4096x2x2x2048, .f32⟩
  | 6 => ⟨S4096x2x2x2048, .f32⟩
  | 7 => ⟨S4096x2x2x16, .f32⟩
  | 8 => ⟨S4096x2x2x16, .f32⟩
  | 9 => ⟨S2x2048x16, .f32⟩
  | 10 => ⟨S_, .i32⟩
  | 11 => ⟨S2x2x2048x16, .f32⟩
  | 12 => ⟨S4096x2x2x2048, .f32⟩
  | 13 => ⟨S_, .i32⟩
  | 14 => ⟨S_, .i1⟩
  | 15 => ⟨S_, .i32⟩
  | 16 => ⟨S_, .i32⟩
  | 17 => ⟨S_, .i32⟩
  | 18 => ⟨S1x2x2x2048, .f32⟩
  | 19 => ⟨S2x2x2048, .f32⟩
  | 20 => ⟨S_, .i32⟩
  | 21 => ⟨S_, .i32⟩
  | 22 => ⟨S_, .i32⟩
  | 23 => ⟨S1x2x2x2048, .f32⟩
  | 24 => ⟨S2x2x2048, .f32⟩
  | 25 => ⟨S_, .i32⟩
  | 26 => ⟨S_, .i32⟩
  | 27 => ⟨S_, .i32⟩
  | 28 => ⟨S1x2x2x16, .f32⟩
  | 29 => ⟨S2x2x16, .f32⟩
  | 30 => ⟨S_, .i32⟩
  | 31 => ⟨S_, .i32⟩
  | 32 => ⟨S_, .i32⟩
  | 33 => ⟨S1x2x2x16, .f32⟩
  | 34 => ⟨S2x2x16, .f32⟩
  | 35 => ⟨S2x2x2048x1, .f32⟩
  | 36 => ⟨S2x1x2048x16, .f32⟩
  | 37 => ⟨S2x2x2048x16, .f32⟩
  | 38 => ⟨S2x2x2048x16, .f32⟩
  | 39 => ⟨S2x2x2048x16, .f32⟩
  | 40 => ⟨S2x2x2048x16, .f32⟩
  | 41 => ⟨S2x2x2048, .f32⟩
  | 42 => ⟨S2x2x2048x1, .f32⟩
  | 43 => ⟨S2x2x1x16, .f32⟩
  | 44 => ⟨S2x2x2048x16, .f32⟩
  | 45 => ⟨S2x2x2048x16, .f32⟩
  | 46 => ⟨S2x2x2048x16, .f32⟩
  | 47 => ⟨S2x2x2048x16, .f32⟩
  | 48 => ⟨S2x2x2048x16, .f32⟩
  | 49 => ⟨S2x2x2048, .f32⟩
  | 50 => ⟨S1x2x2x2048, .f32⟩
  | 51 => ⟨S_, .i32⟩
  | 52 => ⟨S_, .i32⟩
  | 53 => ⟨S_, .i32⟩
  | 54 => ⟨S4096x2x2x2048, .f32⟩
  | 55 => ⟨S_, .i32⟩
  | 56 => ⟨S_, .i32⟩
  | 57 => ⟨S2x2x4096x2048, .f32⟩
  | 58 => ⟨S2x1x1x2048, .f32⟩
  | 59 => ⟨S2x2x4096x2048, .f32⟩
  | 60 => ⟨S2x2x4096x2048, .f32⟩
  | 61 => ⟨S2x2x4096x2048, .f32⟩
  | 62 => ⟨S2x2x4096x2048, .f32⟩
  | 63 => ⟨S2x2x4096x2048, .f32⟩
  | 64 => ⟨S_, .f32⟩
  | 65 => ⟨S2x2x4096x2048, .f32⟩
  | 66 => ⟨S2x2x4096x2048, .f32⟩
  | 67 => ⟨S_, .f32⟩
  | 68 => ⟨S2x2x4096x2048, .f32⟩
  | 69 => ⟨S2x2x4096x2048, .f32⟩
  | 70 => ⟨S2x2x4096x2048, .f32⟩
  | 71 => ⟨S2x2x4096x2048, .f32⟩
  | 72 => ⟨S1x2x4096x2048, .f32⟩
  | 73 => ⟨S2x4096x2048, .f32⟩
  | 74 => ⟨S1x2x4096x2048, .f32⟩
  | 75 => ⟨S2x4096x2048, .f32⟩
  | 76 => ⟨S2x4096x2048, .f32⟩
  | 77 => ⟨S2x4096x2048, .f32⟩
  | 78 => ⟨S2x4096x1024, .f32⟩
  | 79 => ⟨S2x4096, .i1⟩
  | 80 => ⟨S2x4096x1, .i1⟩
  | 81 => ⟨S_, .f32⟩
  | 82 => ⟨S_, .f32⟩
  | 83 => ⟨S2x4096x1024, .i1⟩
  | 84 => ⟨S2x4096x1024, .f32⟩
  | 85 => ⟨S2x4096x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_call2_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call4_cst : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_0 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_1 : Ref sig .tc := ⟨.hbm, 130, rfl⟩
abbrev main_v87 : Ref sig .tc := ⟨.hbm, 131, rfl⟩
abbrev main_c_2 : Ref sig .tc := ⟨.hbm, 132, rfl⟩
abbrev main_v88_0 : Ref sig .tc := ⟨.hbm, 133, rfl⟩
abbrev main_v88_1 : Ref sig .tc := ⟨.hbm, 134, rfl⟩
abbrev main_v88_2 : Ref sig .tc := ⟨.hbm, 135, rfl⟩
abbrev main_v88_3 : Ref sig .tc := ⟨.hbm, 136, rfl⟩
abbrev main_v88_4 : Ref sig .tc := ⟨.hbm, 137, rfl⟩
abbrev main_v88_5 : Ref sig .tc := ⟨.hbm, 138, rfl⟩
abbrev main_v88_6 : Ref sig .tc := ⟨.hbm, 139, rfl⟩
abbrev main_v88_7 : Ref sig .tc := ⟨.hbm, 140, rfl⟩
abbrev main_while0c_c_11 : Ref sig .tc := ⟨.hbm, 141, rfl⟩
abbrev main_while0c_v106 : Ref sig .tc := ⟨.hbm, 142, rfl⟩
abbrev main_while0b_call5_c : Ref sig .tc := ⟨.hbm, 143, rfl⟩
abbrev main_while0b_call5_c_0 : Ref sig .tc := ⟨.hbm, 144, rfl⟩
abbrev main_while0b_call5_c_1 : Ref sig .tc := ⟨.hbm, 145, rfl⟩
abbrev main_while0b_call5_v0 : Ref sig .tc := ⟨.hbm, 146, rfl⟩
abbrev main_while0b_v106 : Ref sig .tc := ⟨.hbm, 147, rfl⟩
abbrev main_while0b_call6_c : Ref sig .tc := ⟨.hbm, 148, rfl⟩
abbrev main_while0b_call6_c_0 : Ref sig .tc := ⟨.hbm, 149, rfl⟩
abbrev main_while0b_call6_c_1 : Ref sig .tc := ⟨.hbm, 150, rfl⟩
abbrev main_while0b_call6_v0 : Ref sig .tc := ⟨.hbm, 151, rfl⟩
abbrev main_while0b_v107 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_call7_c_1 : Ref sig .tc := ⟨.hbm, 155, rfl⟩
abbrev main_while0b_call7_v0 : Ref sig .tc := ⟨.hbm, 156, rfl⟩
abbrev main_while0b_v108 : Ref sig .tc := ⟨.hbm, 157, rfl⟩
abbrev main_while0b_call8_c : Ref sig .tc := ⟨.hbm, 158, rfl⟩
abbrev main_while0b_call8_c_0 : Ref sig .tc := ⟨.hbm, 159, rfl⟩
abbrev main_while0b_call8_c_1 : Ref sig .tc := ⟨.hbm, 160, rfl⟩
abbrev main_while0b_call8_v0 : Ref sig .tc := ⟨.hbm, 161, rfl⟩
abbrev main_while0b_v109 : Ref sig .tc := ⟨.hbm, 162, rfl⟩
abbrev main_while0b_v110 : Ref sig .tc := ⟨.hbm, 163, rfl⟩
abbrev main_while0b_v111 : Ref sig .tc := ⟨.hbm, 164, rfl⟩
abbrev main_while0b_v112 : Ref sig .tc := ⟨.hbm, 165, rfl⟩
abbrev main_while0b_v113 : Ref sig .tc := ⟨.hbm, 166, rfl⟩
abbrev main_while0b_v114 : Ref sig .tc := ⟨.hbm, 167, rfl⟩
abbrev main_while0b_v115 : Ref sig .tc := ⟨.hbm, 168, rfl⟩
abbrev main_while0b_v116 : Ref sig .tc := ⟨.hbm, 169, rfl⟩
abbrev main_while0b_v117 : Ref sig .tc := ⟨.hbm, 170, rfl⟩
abbrev main_while0b_v118 : Ref sig .tc := ⟨.hbm, 171, rfl⟩
abbrev main_while0b_v119 : Ref sig .tc := ⟨.hbm, 172, rfl⟩
abbrev main_while0b_v120 : Ref sig .tc := ⟨.hbm, 173, rfl⟩
abbrev main_while0b_v121 : Ref sig .tc := ⟨.hbm, 174, rfl⟩
abbrev main_while0b_v122 : Ref sig .tc := ⟨.hbm, 175, rfl⟩
abbrev main_while0b_v123 : Ref sig .tc := ⟨.hbm, 176, rfl⟩
abbrev main_while0b_v124 : Ref sig .tc := ⟨.hbm, 177, rfl⟩
abbrev main_while0b_call9_v0 : Ref sig .tc := ⟨.hbm, 178, rfl⟩
abbrev main_while0b_call9_c : Ref sig .tc := ⟨.hbm, 179, rfl⟩
abbrev main_while0b_call9_c_0 : Ref sig .tc := ⟨.hbm, 180, rfl⟩
abbrev main_while0b_call9_c_1 : Ref sig .tc := ⟨.hbm, 181, rfl⟩
abbrev main_while0b_v125 : Ref sig .tc := ⟨.hbm, 182, rfl⟩
abbrev main_while0b_c_11 : Ref sig .tc := ⟨.hbm, 183, rfl⟩
abbrev main_while0b_v126 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_call10_v0 : Ref sig .tc := ⟨.hbm, 190, rfl⟩
abbrev main_call10_v1 : Ref sig .tc := ⟨.hbm, 191, rfl⟩
abbrev main_call10_cst : Ref sig .tc := ⟨.hbm, 192, rfl⟩
abbrev main_call10_v2 : Ref sig .tc := ⟨.hbm, 193, rfl⟩
abbrev main_call10_v3 : Ref sig .tc := ⟨.hbm, 194, rfl⟩
abbrev main_call10_cst_0 : Ref sig .tc := ⟨.hbm, 195, rfl⟩
abbrev main_call10_v4 : Ref sig .tc := ⟨.hbm, 196, rfl⟩
abbrev main_call10_v5 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_cst_3 : Ref sig .tc := ⟨.hbm, 209, rfl⟩
abbrev main_call12_v0 : Ref sig .tc := ⟨.hbm, 210, rfl⟩
abbrev main_call12_v1 : Ref sig .tc := ⟨.hbm, 211, rfl⟩
abbrev main_call12_v2 : Ref sig .tc := ⟨.hbm, 212, rfl⟩
abbrev main_v105 : Ref sig .tc := ⟨.hbm, 213, rfl⟩

abbrev nD : Nat := 1
abbrev τ : Topo := Topo.v7x

variable {F : FTy → Type} [FloatOps F]

abbrev main_while0_count : Scf.Loop 32 := ⟨0#32, 4096#32, 1#32⟩
-- ==== Proof.Reg0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Regions
public import Idealize.ShloMosaic.Lib.Pipeline.RegionArraysS

/-! Region 0 of the program: its proof data over the buffers it finds, its body, and what it leaves. -/

@[expose] public section

set_option maxRecDepth 16384

noncomputable section

namespace Cert.KernelIdeal.Reg0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-! ## The body's accesses -/

abbrev r0_0 : Rect S1x512x1024 := Rect.unit (s := S1x512x1024) ![0, 0, 0] S1x512x1024.size inb_S1x512x1024_S1x512x1024_0_0_0
abbrev r0_1 : Rect S512x1024 := Rect.unit (s := S512x1024) ![0, 0] S512x1024.size inb_S512x1024_S512x1024_0_0
abbrev r0_2 : Rect S1x512x512 := Rect.unit (s := S1x512x512) ![0, 0, 0] S1x512x512.size inb_S1x512x512_S1x512x512_0_0_0

/-! ## What the body leaves in each output window's buffer -/

/-- Window 2's staging buffer after the body, from the input windows' blocks: its 1 store as pieces, LAST
    FIRST (Lib/Pipeline/FrameBody.lean `View.canon`; the payloads are the skeleton's). -/
def out_2 (x0 : Vec F S1x512x1024 .f32) (x1 : Vec F S512x1024 .f32) : Vec F S1x512x512 .f32 :=
  View.canon [⟨r0_2, k0_pay1 (View.ld x0 r0_0) (View.ld x1 r0_1)⟩]

/-- Its stores tile the buffer (checked by evaluation), so they cover it. -/
theorem cover_2 (p0 : Vec F S1x512x512 .f32) (y : S1x512x512.Idx) :
    ∃ pc ∈ ([⟨r0_2, p0⟩] : List (View.Piece (Elt F) S1x512x512 .f32)), y ∈ pc.1.set :=
  View.cover_of_tiled [⟨r0_2, p0⟩] S1x512x512.size (by rfl) y

/-! ## The body's triple -/

set_option maxHeartbeats 1000000 in
/-- The kernel body on whole staging memrefs, the inputs' at read contents `xW` and the outputs' at anything, runs to
    the continuation holding the inputs' as they were and each output's at `out_W` of the inputs': the printed functions
    are their skeletons (`Gen.*_eq_skeleton`), which `sl_exec` runs (Lib/Exec.lean), through every part call. -/
theorem sound_kernel (c : Dev nD) (E : Set ℕ) (i : grid0.Coords) (arg3 : Memref sig .tc .vmem S1x512x1024 .f32) (harg3 : arg3.IsWhole) (arg4 : Memref sig .tc .vmem S512x1024 .f32) (harg4 : arg4.IsWhole) (arg5 : Memref sig .tc .vmem S1x512x512 .f32) (harg5 : arg5.IsWhole)
    (x0 : Vec F S1x512x1024 .f32) (x1 : Vec F S512x1024 .f32) (K : PUnit → sProp 𝕄G) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out_2 x0 x1)) -∗ K ⟨⟩))
      ⊢ wp frame (wpE (defs₀ (F := F)) Variants.none c none) E (cc0_bimamba_in_proj i arg3 harg3 arg4 harg4 arg5 harg5) K := by
  simp only [cc0_bimamba_in_proj_eq_skeleton]; unfold cc0_bimamba_in_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-- Core `c`'s buffers at the region's entry. -/
abbrev V (W : Dev nD → Valuation τ sig (Elt F)) (c : Dev nD) (b : Ref sig .tc) : Buf (Elt F) ((c : Thread nD τ).loc b) := W c (Proc.devRef .tc b)

variable (W : Dev nD → Valuation τ sig (Elt F))

/-- The block of window `w` at point `t`, as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input 0 is staged at its block at every point. -/
theorem staged_0 {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1 is staged at its block at every point. -/
theorem staged_1 {c : Dev nD} (dat : Dat τ (Elt F) Unit ℕ (UR sig nD τ) ℕ cfg0 c) (hA : dat.A 1 = V W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The region's proof data: every input staged at its block, the output at the body's value of them. -/
def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => iblk W c 1 t
    | ⟨2, _⟩ => out_2 (iblk W c 0 t) (iblk W c 1 t)
  Φ _ := Pipeline.ΦA spec0 c
  q _ := fullShare
  owed _ := 0

theorem A_eq (c : Dev nD) (w : Fin cfg0.W) : (dat W c).A w = V W c (Pipeline.arrRef spec0 w) := by dsimp only [dat]
theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = out_2 (iblk W c 0 t) (iblk W c 1 t) := by dsimp only [dat]
theorem before_0 (c : Dev nD) (t : Fin cfg0.N) (d) : (dat W c).before 0 t d = iblk W c 0 t :=
  staged_0 W (dat W c) (A_eq W c 0) (after_0 W c) t d
theorem before_1 (c : Dev nD) (t : Fin cfg0.N) (d) : (dat W c).before 1 t d = iblk W c 1 t :=
  staged_1 W (dat W c) (A_eq W c 1) (after_1 W c) t d

/-- What the body is called with at point `t`, -/
def bodyPre (c : Dev nD) (t : Fin cfg0.N) : sProp 𝕄G :=
  iprop((dat W c).Φ t.castSucc ∗ (dat W c).owesAt () t.castSucc
     ∗ (∃ d, owns (c : Thread nD τ) (st0_0 t) fullShare ((dat W c).before 0 t d)) ∗ (∃ d, owns (c : Thread nD τ) (st0_1 t) fullShare ((dat W c).before 1 t d)) ∗ (∃ d, owns (c : Thread nD τ) (st0_2 t) fullShare ((dat W c).before 2 t d)))

/-- and what it returns. -/
def bodyPost (c : Dev nD) (t : Fin cfg0.N) : sProp 𝕄G :=
  iprop((dat W c).Φ t.succ ∗ (dat W c).owesAt () t.succ
     ∗ owns (c : Thread nD τ) (st0_0 t) fullShare ((dat W c).after 0 t) ∗ owns (c : Thread nD τ) (st0_1 t) fullShare ((dat W c).after 1 t) ∗ owns (c : Thread nD τ) (st0_2 t) fullShare ((dat W c).after 2 t))

theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1]
  rw [show (dat W c).Φ t.succ = (dat W c).Φ t.castSucc from rfl,
    show (dat W c).owesAt () t.succ = (dat W c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk W c 0 t) (iblk W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dat W c) (defs₀ (F := F)) Variants.none () Set.univ := fun t => by
  rw [bigSep_W0, bigSep_W0, row]
  exact triple_restated (sound_body W c t) rfl .rfl fun _ => .rfl

/-- What the region leaves in its output array. -/
def res (c : Dev nD) : Buf (Elt F) ((c : Thread nD τ).loc main_v0) := (dat W c).arrAt 2 cfg0.N

theorem not_out : ∀ w : Fin cfg0.W, w ≠ 2 → (cfg0.win w).isOut = false := by decide

theorem arr_out : Pipeline.arrRef spec0 2 = main_v0 := rfl

/-- The buffers after the region: as before, but for the output array. -/
theorem after_eq (c : Dev nD) : ∀ b ∈ Pipeline.ucRefs τ sig,
    Pipeline.afterRegion (dat W c) (W c) b = Function.update (W c) (Proc.devRef .tc main_v0) (res W c) b := by
  intro b hb
  by_cases e : b = Proc.devRef .tc main_v0
  · subst e
    rw [Function.update_self]
    exact Pipeline.afterRegion_arr (dat W c) (W c) launch0.win.arr_inj 2
  · rw [Function.update_of_ne e]
    by_cases hw : ∃ w, Proc.devRef .tc (Pipeline.arrRef spec0 w) = b
    · obtain ⟨w, rfl⟩ := hw
      refine (Pipeline.afterRegion_arr (dat W c) (W c) launch0.win.arr_inj w).trans (((dat W c).arrAt_in w (not_out w fun h => e ?_) _).trans (A_eq W c w))
      subst h; rfl
    · unfold Pipeline.afterRegion
      exact dif_neg fun ⟨w, h⟩ => hw ⟨w, h.symm⟩

end Cert.KernelIdeal.Reg0

end
-- ==== Proof.ScanSpec.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ValueKit

/-! The values of the two selective scans, written over whole vectors: the convolution, the step size and the
two projections of a chunk of 256 time steps, and what one trip of eight time steps makes of the carried
state and of the rows of outputs. -/

@[expose] public section

set_option maxRecDepth 8192

noncomputable section

namespace Cert.KernelIdeal.Scan

open Cert.KernelIdeal.Gen
open Idealize.ShloMosaic Idealize.ShloMosaic.TcCoe

variable {F : FTy → Type} [FloatOps F]

/-- The decay factor of the first state column for the eight steps of a trip. -/
def pw1 (v82 : Vec F S16x2048 .f32) (dt8 : Vec F S8x2048 .f32) : FVec F S8x2048 .f32 :=
  exp (mulf dt8 (broadcastTo S8x2048 (extractStridedSlice S1x2048 ![0, 0] (shapeCast S16x2048 v82 shapeCasts_S16x2048_S16x2048) slices_S16x2048_o0_0_S1x2048) broadcasts_S1x2048_S8x2048))

/-- The decay factor of state column `n`: the `(n+1)`-st power of the first. -/
def pw (v82 : Vec F S16x2048 .f32) (dt8 : Vec F S8x2048 .f32) : ℕ → FVec F S8x2048 .f32
  | 0 => pw1 v82 dt8
  | n + 1 => mulf (pw v82 dt8 n) (pw1 v82 dt8)

/-- Eight rows as one column of the three-axis scratch. -/
def toCol (v : FVec F S8x2048 .f32) : FVec F S8x1x2048 .f32 :=
  shapeCast S8x1x2048 v shapeCasts_S8x2048_S8x1x2048

/-- The input of one state column for the eight steps of a trip. -/
def bx (dtu8 : Vec F S8x2048 .f32) (b : FVec F S8x1 .f32) : FVec F S8x2048 .f32 :=
  mulf dtu8 (broadcastTo S8x2048 b broadcasts_S8x1_S8x2048)

/-- The sixteen columns of decay factors that a trip stores. -/
def pA (v82 : Vec F S16x2048 .f32) (dt8 : Vec F S8x2048 .f32) : List (View.Piece (Elt F) S8x16x2048 .f32) :=
  [⟨Rect.unit (s := S8x16x2048) ![0, 15, 0] S8x1x2048.size inb_S8x16x2048_S8x1x2048_0_15_0, toCol (pw v82 dt8 15)⟩,
    ⟨Rect.unit (s := S8x16x2048) ![0, 14, 0] S8x1x2048.size inb_S8x16x2048_S8x1x2048_0_14_0, toCol (pw v82 dt8 14)⟩,
    ⟨Rect.unit (s := S8x16x2048) ![0, 13, 0] S8x1x2048.size inb_S8x16x2048_S8x1x2048_0_13_0, toCol (pw v82 dt8 13)⟩,
    ⟨Rect.unit (s := S8x16x2048) ![0, 12, 0] S8x1x2048.size inb_S8x16x2048_S8x1x2048_0_12_0, toCol (pw v82 dt8 12)⟩,
    ⟨Rect.unit (s := S8x16x2048) ![0, 11, 0] S8x1x2048.size inb_S8x16x2048_S8x1x2048_0_11_0, toCol (pw v82 dt8 11)⟩,
    ⟨Rect.unit (s := S8x16x2048) ![0, 10, 0] S8x1x2048.size inb_S8x16x2048_S8x1x2048_0_10_0, toCol (pw v82 dt8 10)⟩,
    ⟨Rect.unit (s := S8x16x2048) ![0, 9, 0] S8x1x2048.size inb_S8x16x2048_S8x1x2048_0_9_0, toCol (pw v82 dt8 9)⟩,
    ⟨Rect.unit (s := S8x16x2048) ![0, 8, 0] S8x1x2048.size inb_S8x16x2048_S8x1x2048_0_8_0, toCol (pw v82 dt8 8)⟩,
    ⟨Rect.unit (s := S8x16x2048) ![0, 7, 0] S8x1x2048.size inb_S8x16x2048_S8x1x2048_0_7_0, toCol (pw v82 dt8 7)⟩,
    ⟨Rect.unit (s := S8x16x2048) ![0, 6, 0] S8x1x2048.size inb_S8x16x2048_S8x1x2048_0_6_0, toCol (pw v82 dt8 6)⟩,
    ⟨Rect.unit (s := S8x16x2048) ![0, 5, 0] S8x1x2048.size inb_S8x16x2048_S8x1x2048_0_5_0, toCol (pw v82 dt8 5)⟩,
    ⟨Rect.unit (s := S8x16x2048) ![0, 4, 0] S8x1x2048.size inb_S8x16x2048_S8x1x2048_0_4_0, toCol (pw v82 dt8 4)⟩,
    ⟨Rect.unit (s := S8x16x2048) ![0, 3, 0] S8x1x2048.size inb_S8x16x2048_S8x1x2048_0_3_0, toCol (pw v82 dt8 3)⟩,
    ⟨Rect.unit (s := S8x16x2048) ![0, 2, 0] S8x1x2048.size inb_S8x16x2048_S8x1x2048_0_2_0, toCol (pw v82 dt8 2)⟩,
    ⟨Rect.unit (s := S8x16x2048) ![0, 1, 0] S8x1x2048.size inb_S8x16x2048_S8x1x2048_0_1_0, toCol (pw v82 dt8 1)⟩,
    ⟨Rect.unit (s := S8x16x2048) ![0, 0, 0] S8x1x2048.size inb_S8x16x2048_S8x1x2048_0_0_0, toCol (pw v82 dt8 0)⟩]

/-- The sixteen columns of inputs that a trip stores. -/
def pB (dtu8 : Vec F S8x2048 .f32) (b8 : Vec F S8x16 .f32) : List (View.Piece (Elt F) S8x16x2048 .f32) :=
  [⟨Rect.unit (s := S8x16x2048) ![0, 15, 0] S8x1x2048.size inb_S8x16x2048_S8x1x2048_0_15_0, toCol (bx dtu8 (extractStridedSlice S8x1 ![0, 15] b8 slices_S8x16_o0_15_S8x1))⟩,
    ⟨Rect.unit (s := S8x16x2048) ![0, 14, 0] S8x1x2048.size inb_S8x16x2048_S8x1x2048_0_14_0, toCol (bx dtu8 (extractStridedSlice S8x1 ![0, 14] b8 slices_S8x16_o0_14_S8x1))⟩,
    ⟨Rect.unit (s := S8x16x2048) ![0, 13, 0] S8x1x2048.size inb_S8x16x2048_S8x1x2048_0_13_0, toCol (bx dtu8 (extractStridedSlice S8x1 ![0, 13] b8 slices_S8x16_o0_13_S8x1))⟩,
    ⟨Rect.unit (s := S8x16x2048) ![0, 12, 0] S8x1x2048.size inb_S8x16x2048_S8x1x2048_0_12_0, toCol (bx dtu8 (extractStridedSlice S8x1 ![0, 12] b8 slices_S8x16_o0_12_S8x1))⟩,
    ⟨Rect.unit (s := S8x16x2048) ![0, 11, 0] S8x1x2048.size inb_S8x16x2048_S8x1x2048_0_11_0, toCol (bx dtu8 (extractStridedSlice S8x1 ![0, 11] b8 slices_S8x16_o0_11_S8x1))⟩,
    ⟨Rect.unit (s := S8x16x2048) ![0, 10, 0] S8x1x2048.size inb_S8x16x2048_S8x1x2048_0_10_0, toCol (bx dtu8 (extractStridedSlice S8x1 ![0, 10] b8 slices_S8x16_o0_10_S8x1))⟩,
    ⟨Rect.unit (s := S8x16x2048) ![0, 9, 0] S8x1x2048.size inb_S8x16x2048_S8x1x2048_0_9_0, toCol (bx dtu8 (extractStridedSlice S8x1 ![0, 9] b8 slices_S8x16_o0_9_S8x1))⟩,
    ⟨Rect.unit (s := S8x16x2048) ![0, 8, 0] S8x1x2048.size inb_S8x16x2048_S8x1x2048_0_8_0, toCol (bx dtu8 (extractStridedSlice S8x1 ![0, 8] b8 slices_S8x16_o0_8_S8x1))⟩,
    ⟨Rect.unit (s := S8x16x2048) ![0, 7, 0] S8x1x2048.size inb_S8x16x2048_S8x1x2048_0_7_0, toCol (bx dtu8 (extractStridedSlice S8x1 ![0, 7] b8 slices_S8x16_o0_7_S8x1))⟩,
    ⟨Rect.unit (s := S8x16x2048) ![0, 6, 0] S8x1x2048.size inb_S8x16x2048_S8x1x2048_0_6_0, toCol (bx dtu8 (extractStridedSlice S8x1 ![0, 6] b8 slices_S8x16_o0_6_S8x1))⟩,
    ⟨Rect.unit (s := S8x16x2048) ![0, 5, 0] S8x1x2048.size inb_S8x16x2048_S8x1x2048_0_5_0, toCol (bx dtu8 (extractStridedSlice S8x1 ![0, 5] b8 slices_S8x16_o0_5_S8x1))⟩,
    ⟨Rect.unit (s := S8x16x2048) ![0, 4, 0] S8x1x2048.size inb_S8x16x2048_S8x1x2048_0_4_0, toCol (bx dtu8 (extractStridedSlice S8x1 ![0, 4] b8 slices_S8x16_o0_4_S8x1))⟩,
    ⟨Rect.unit (s := S8x16x2048) ![0, 3, 0] S8x1x2048.size inb_S8x16x2048_S8x1x2048_0_3_0, toCol (bx dtu8 (extractStridedSlice S8x1 ![0, 3] b8 slices_S8x16_o0_3_S8x1))⟩,
    ⟨Rect.unit (s := S8x16x2048) ![0, 2, 0] S8x1x2048.size inb_S8x16x2048_S8x1x2048_0_2_0, toCol (bx dtu8 (extractStridedSlice S8x1 ![0, 2] b8 slices_S8x16_o0_2_S8x1))⟩,
    ⟨Rect.unit (s := S8x16x2048) ![0, 1, 0] S8x1x2048.size inb_S8x16x2048_S8x1x2048_0_1_0, toCol (bx dtu8 (extractStridedSlice S8x1 ![0, 1] b8 slices_S8x16_o0_1_S8x1))⟩,
    ⟨Rect.unit (s := S8x16x2048) ![0, 0, 0] S8x1x2048.size inb_S8x16x2048_S8x1x2048_0_0_0, toCol (bx dtu8 (extractStridedSlice S8x1 ![0, 0] b8 slices_S8x16_o0_0_S8x1))⟩]

/-- The sixteen columns fill the scratch. -/
theorem cover_pA (v82 : Vec F S16x2048 .f32) (dt8 : Vec F S8x2048 .f32) (y : S8x16x2048.Idx) :
    ∃ p ∈ pA v82 dt8, y ∈ p.1.set :=
  View.cover_of_tiled (pA v82 dt8) S8x1x2048.size (by rfl) y

/-- The sixteen columns fill the scratch. -/
theorem cover_pB (dtu8 : Vec F S8x2048 .f32) (b8 : Vec F S8x16 .f32) (y : S8x16x2048.Idx) :
    ∃ p ∈ pB dtu8 b8, y ∈ p.1.set :=
  View.cover_of_tiled (pB dtu8 b8) S8x1x2048.size (by rfl) y

theorem rowInb (j : Fin 8) : ∀ a, (![j.val, 0, 0] : Fin 3 → ℕ) a + S1x16x2048.size a ≤ S8x16x2048.size a := by
  revert j; decide

/-- Row `j` of the three-axis scratch, read from the memory it lies in. -/
def rowM (v : View sig .tc .vmem S8x16x2048 .f32) (L : List (View.Piece (Elt F) S8x16x2048 .f32)) (j : Fin 8) : Vec F S1x16x2048 .f32 :=
  v.readCov L (Rect.unit (s := S8x16x2048) ![j.val, 0, 0] S1x16x2048.size (rowInb j)).toLoadRect

/-- Row `j` of the three-axis scratch, as a function of what was stored alone. -/
def rowV (L : List (View.Piece (Elt F) S8x16x2048 .f32)) (j : Fin 8) : Vec F S1x16x2048 .f32 :=
  View.ld (View.canon L) (Rect.unit (s := S8x16x2048) ![j.val, 0, 0] S1x16x2048.size (rowInb j))

theorem rowM_pA (v : View sig .tc .vmem S8x16x2048 .f32) (v82 : Vec F S16x2048 .f32) (dt8 : Vec F S8x2048 .f32) (j : Fin 8) :
    rowM v (pA v82 dt8) j = rowV (pA v82 dt8) j :=
  View.readCov_eq_canon_ld _ _ _ (cover_pA v82 dt8)

theorem rowM_pB (v : View sig .tc .vmem S8x16x2048 .f32) (dtu8 : Vec F S8x2048 .f32) (b8 : Vec F S8x16 .f32) (j : Fin 8) :
    rowM v (pB dtu8 b8) j = rowV (pB dtu8 b8) j :=
  View.readCov_eq_canon_ld _ _ _ (cover_pB dtu8 b8)

theorem rowM_pA_fun (v : View sig .tc .vmem S8x16x2048 .f32) (v82 : Vec F S16x2048 .f32) (dt8 : Vec F S8x2048 .f32) :
    rowM v (pA v82 dt8) = rowV (pA v82 dt8) := funext fun j => rowM_pA v v82 dt8 j

theorem rowM_pB_fun (v : View sig .tc .vmem S8x16x2048 .f32) (dtu8 : Vec F S8x2048 .f32) (b8 : Vec F S8x16 .f32) :
    rowM v (pB dtu8 b8) = rowV (pB dtu8 b8) := funext fun j => rowM_pB v dtu8 b8 j

/-- One time step of the state: decay times state plus input. -/
def hStep (a b : Vec F S1x16x2048 .f32) (h : Vec F S16x2048 .f32) : FVec F S16x2048 .f32 :=
  addf (mulf (shapeCast S16x2048 a shapeCasts_S1x16x2048_S16x2048) h) (shapeCast S16x2048 b shapeCasts_S1x16x2048_S16x2048)

/-- The state after `s` steps, from the rows of decays and inputs in the order of the steps. -/
def hRun (ra rb : Fin 8 → Vec F S1x16x2048 .f32) (acc : Vec F S16x2048 .f32) : ℕ → Vec F S16x2048 .f32
  | 0 => acc
  | s + 1 => hStep (ra (Fin.ofNat 8 s)) (rb (Fin.ofNat 8 s)) (hRun ra rb acc s)

/-- One row of outputs: the state contracted with the step's output vector. -/
def yRow (c : FVec F S1x16 .f32) (h : FVec F S16x2048 .f32) : FVec F S1x2048 .f32 :=
  matmul dot_S1x16_S16x2048_S1x2048_1_0_0_1_n_n none c h (constant S1x2048 .f32 0x00000000#32)

/-- The eight rows of outputs that a trip stores, row `j` from the state `g j`. -/
def stackY (c8 : Vec F S8x16 .f32) (g : Fin 8 → Vec F S16x2048 .f32) : FVec F S1x8x2048 .f32 :=
  shapeCast S1x8x2048 (concatenate S8x2048 0 [⟨S1x2048, yRow (extractStridedSlice S1x16 ![0, 0] c8 slices_S8x16_o0_0_S1x16) (g 0)⟩, ⟨S1x2048, yRow (extractStridedSlice S1x16 ![1, 0] c8 slices_S8x16_o1_0_S1x16) (g 1)⟩, ⟨S1x2048, yRow (extractStridedSlice S1x16 ![2, 0] c8 slices_S8x16_o2_0_S1x16) (g 2)⟩, ⟨S1x2048, yRow (extractStridedSlice S1x16 ![3, 0] c8 slices_S8x16_o3_0_S1x16) (g 3)⟩, ⟨S1x2048, yRow (extractStridedSlice S1x16 ![4, 0] c8 slices_S8x16_o4_0_S1x16) (g 4)⟩, ⟨S1x2048, yRow (extractStridedSlice S1x16 ![5, 0] c8 slices_S8x16_o5_0_S1x16) (g 5)⟩, ⟨S1x2048, yRow (extractStridedSlice S1x16 ![6, 0] c8 slices_S8x16_o6_0_S1x16) (g 6)⟩, ⟨S1x2048, yRow (extractStridedSlice S1x16 ![7, 0] c8 slices_S8x16_o7_0_S1x16) (g 7)⟩] concatenates_S1x2048_S1x2048_S1x2048_S1x2048_S1x2048_S1x2048_S1x2048_S1x2048_S8x2048_d0) shapeCasts_S8x2048_S1x8x2048

/-- What a scan reads besides its carried state: the chunk of inputs and the nine weights. -/
structure In (F : FTy → Type) [FloatOps F] where
  x : Vec F S1x256x2048 .f32
  taps : Vec F S4x2048 .f32
  cb : Vec F S1x2048 .f32
  wdt : Vec F S64x2048 .f32
  wB : Vec F S16x2048 .f32
  wC : Vec F S16x2048 .f32
  dtw : Vec F S2048x64 .f32
  dtb : Vec F S1x2048 .f32
  nA : Vec F S16x2048 .f32
  dv : Vec F S1x2048 .f32

/-- The chunk as rows. -/
def rows (x : Vec F S1x256x2048 .f32) : FVec F S256x2048 .f32 := shapeCast S256x2048 x shapeCasts_S1x256x2048_S256x2048

/-- The chunk with the three rows before it. -/
def fullF (x : Vec F S1x256x2048 .f32) (halo : Vec F S3x2048 .f32) : FVec F S259x2048 .f32 :=
  concatenate S259x2048 0 [⟨S3x2048, halo⟩, ⟨S256x2048, rows x⟩] concatenates_S3x2048_S256x2048_S259x2048_d0

/-- The chunk with the three rows after it. -/
def fullB (x : Vec F S1x256x2048 .f32) (halo : Vec F S3x2048 .f32) : FVec F S259x2048 .f32 :=
  concatenate S259x2048 0 [⟨S256x2048, rows x⟩, ⟨S3x2048, halo⟩] concatenates_S256x2048_S3x2048_S259x2048_d0

/-- The chunk's last three rows, kept for the next chunk. -/
def keepF (x : Vec F S1x256x2048 .f32) : FVec F S3x2048 .f32 :=
  shapeCast S3x2048 (extractStridedSlice S3x2048 ![253, 0] (rows x) slices_S256x2048_o253_0_S3x2048) shapeCasts_S3x2048_S3x2048

/-- The chunk's first three rows, kept for the next chunk. -/
def keepB (x : Vec F S1x256x2048 .f32) : FVec F S3x2048 .f32 :=
  shapeCast S3x2048 (extractStridedSlice S3x2048 ![0, 0] (rows x) slices_S256x2048_o0_0_S3x2048) shapeCasts_S3x2048_S3x2048

/-- A row repeated over the chunk. -/
def bRow (v : Vec F S1x2048 .f32) : FVec F S256x2048 .f32 :=
  broadcastTo S256x2048 (shapeCast S1x2048 v shapeCasts_S1x2048_S1x2048) broadcasts_S1x2048_S256x2048

/-- The four-tap convolution over the rows of `full`. -/
def conv (full : FVec F S259x2048 .f32) (cb : Vec F S1x2048 .f32) (w : Vec F S4x2048 .f32) : FVec F S256x2048 .f32 :=
  addf (addf (addf (addf (bRow cb)
    (mulf (bRow (View.ld w (Rect.unit (s := S4x2048) ![0, 0] S1x2048.size inb_S4x2048_S1x2048_0_0))) (extractStridedSlice S256x2048 ![0, 0] full slices_S259x2048_o0_0_S256x2048)))
    (mulf (bRow (View.ld w (Rect.unit (s := S4x2048) ![1, 0] S1x2048.size inb_S4x2048_S1x2048_1_0))) (extractStridedSlice S256x2048 ![1, 0] full slices_S259x2048_o1_0_S256x2048)))
    (mulf (bRow (View.ld w (Rect.unit (s := S4x2048) ![2, 0] S1x2048.size inb_S4x2048_S1x2048_2_0))) (extractStridedSlice S256x2048 ![2, 0] full slices_S259x2048_o2_0_S256x2048)))
    (mulf (bRow (View.ld w (Rect.unit (s := S4x2048) ![3, 0] S1x2048.size inb_S4x2048_S1x2048_3_0))) (extractStridedSlice S256x2048 ![3, 0] full slices_S259x2048_o3_0_S256x2048))

/-- The activation `c * logistic c`. -/
def act (c : FVec F S256x2048 .f32) : FVec F S256x2048 .f32 := mulf c (logistic c)

/-- The step size before its activation: two projections and a bias. -/
def dtRaw (I : In F) (u : FVec F S256x2048 .f32) : FVec F S256x2048 .f32 :=
  addf (matmul dot_S256x64_S2048x64_S256x2048_1_1_0_0_n_n none
      (matmul dot_S256x2048_S64x2048_S256x64_1_1_0_0_n_n none u (shapeCast S64x2048 I.wdt shapeCasts_S64x2048_S64x2048) (constant S256x64 .f32 0x00000000#32))
      I.dtw (constant S256x2048 .f32 0x00000000#32)) (bRow I.dtb)

/-- `log (1 + exp v)`, by the larger of `v` and zero plus a correction. -/
def softplus (v : FVec F S256x2048 .f32) : FVec F S256x2048 .f32 :=
  select (cmpf .one (subf v (broadcast S256x2048 (Scalar.ofBits .f32 0x00000000#32))) (subf v (broadcast S256x2048 (Scalar.ofBits .f32 0x00000000#32))))
    (addf v (broadcast S256x2048 (Scalar.ofBits .f32 0x00000000#32)))
    (addf (maximumf v (broadcast S256x2048 (Scalar.ofBits .f32 0x00000000#32)))
      (log1p (exp (subf (broadcast S256x2048 (Scalar.ofBits .f32 0x00000000#32)) (absf (subf v (broadcast S256x2048 (Scalar.ofBits .f32 0x00000000#32))))))))

/-- A projection of the chunk to the sixteen state columns. -/
def proj16 (u : FVec F S256x2048 .f32) (w : Vec F S16x2048 .f32) : FVec F S256x16 .f32 :=
  shapeCast S256x16 (matmul dot_S256x2048_S16x2048_S256x16_1_1_0_0_n_n none u (shapeCast S16x2048 w shapeCasts_S16x2048_S16x2048) (constant S256x16 .f32 0x00000000#32)) shapeCasts_S256x16_S256x16

/-- The step sizes of the chunk. -/
def dtV (I : In F) (u : FVec F S256x2048 .f32) : FVec F S256x2048 .f32 :=
  shapeCast S256x2048 (softplus (dtRaw I u)) shapeCasts_S256x2048_S256x2048

/-- The step sizes times the activated inputs. -/
def dtuV (I : In F) (u : FVec F S256x2048 .f32) : FVec F S256x2048 .f32 :=
  shapeCast S256x2048 (mulf (softplus (dtRaw I u)) u) shapeCasts_S256x2048_S256x2048

/-- The state as it is kept between chunks. -/
def keepH (h : Vec F S16x2048 .f32) : FVec F S16x2048 .f32 := shapeCast S16x2048 h shapeCasts_S16x2048_S16x2048

/-- The chunk's outputs: the scanned rows plus the activated inputs times the skip weights. -/
def outY (u : FVec F S256x2048 .f32) (y : Vec F S1x256x2048 .f32) (d : Vec F S1x2048 .f32) : FVec F S1x256x2048 .f32 :=
  shapeCast S1x256x2048 (addf (shapeCast S256x2048 y shapeCasts_S1x256x2048_S256x2048) (mulf u (bRow d))) shapeCasts_S256x2048_S1x256x2048

/-- The state and the kept rows at the start of a sequence: zeros. -/
def zeroH : FVec F S16x2048 .f32 := shapeCast S16x2048 (broadcast S16x2048 (Scalar.ofBits .f32 0x00000000#32)) shapeCasts_S16x2048_S16x2048
def zeroK : FVec F S3x2048 .f32 := shapeCast S3x2048 (broadcast S3x2048 (Scalar.ofBits .f32 0x00000000#32)) shapeCasts_S3x2048_S3x2048

end Cert.KernelIdeal.Scan
-- ==== Proof.Scan1Trip.lean ====
module

public import proofs.«01_k».proof.Proof.ScanSpec

/-! One trip of the scan's inner loop, and the loop by an invariant over the trips. -/

@[expose] public section

set_option maxRecDepth 8192
set_option maxHeartbeats 4000000

noncomputable section

namespace Cert.KernelIdeal.Scan1

open Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The state after trip `k` from the state before it, the two scratches read from memory. -/
def tripRM (arg19 arg20 : Memref sig .tc .vmem S8x16x2048 .f32) (v82 : Vec F S16x2048 .f32) (x15 x16 : Vec F S256x2048 .f32) (x17 x18 : Vec F S256x16 .f32) (k : Fin k1_t1_loop.trips) (acc : Vec F S16x2048 .f32) : Vec F S16x2048 .f32 :=
  hRun (rowM arg19.view (pA v82 (View.ld x15 (Rect.unit (s := S256x2048) (k1_off1 k) S8x2048.size (k1_off1_inb k))))) (rowM arg20.view (pB (View.ld x16 (Rect.unit (s := S256x2048) (k1_off1 k) S8x2048.size (k1_off1_inb k))) (View.ld x17 (Rect.unit (s := S256x16) (k1_off2 k) S8x16.size (k1_off2_inb k))))) acc 8

/-- The rows that trip `k` stores, the two scratches read from memory. -/
def tripYM (arg19 arg20 : Memref sig .tc .vmem S8x16x2048 .f32) (v82 : Vec F S16x2048 .f32) (x15 x16 : Vec F S256x2048 .f32) (x17 x18 : Vec F S256x16 .f32) (k : Fin k1_t1_loop.trips) (acc : Vec F S16x2048 .f32) : Vec F S1x8x2048 .f32 :=
  stackY (View.ld x18 (Rect.unit (s := S256x16) (k1_off2 k) S8x16.size (k1_off2_inb k))) (fun j => hRun (rowM arg19.view (pA v82 (View.ld x15 (Rect.unit (s := S256x2048) (k1_off1 k) S8x2048.size (k1_off1_inb k))))) (rowM arg20.view (pB (View.ld x16 (Rect.unit (s := S256x2048) (k1_off1 k) S8x2048.size (k1_off1_inb k))) (View.ld x17 (Rect.unit (s := S256x16) (k1_off2 k) S8x16.size (k1_off2_inb k))))) acc (j.val + 1))

/-- The state after trip `k` from the state before it. -/
def tripR (v82 : Vec F S16x2048 .f32) (x15 x16 : Vec F S256x2048 .f32) (x17 x18 : Vec F S256x16 .f32) (k : Fin k1_t1_loop.trips) (acc : Vec F S16x2048 .f32) : Vec F S16x2048 .f32 :=
  hRun (rowV (pA v82 (View.ld x15 (Rect.unit (s := S256x2048) (k1_off1 k) S8x2048.size (k1_off1_inb k))))) (rowV (pB (View.ld x16 (Rect.unit (s := S256x2048) (k1_off1 k) S8x2048.size (k1_off1_inb k))) (View.ld x17 (Rect.unit (s := S256x16) (k1_off2 k) S8x16.size (k1_off2_inb k))))) acc 8

/-- The rows that trip `k` stores. -/
def tripY (v82 : Vec F S16x2048 .f32) (x15 x16 : Vec F S256x2048 .f32) (x17 x18 : Vec F S256x16 .f32) (k : Fin k1_t1_loop.trips) (acc : Vec F S16x2048 .f32) : Vec F S1x8x2048 .f32 :=
  stackY (View.ld x18 (Rect.unit (s := S256x16) (k1_off2 k) S8x16.size (k1_off2_inb k))) (fun j => hRun (rowV (pA v82 (View.ld x15 (Rect.unit (s := S256x2048) (k1_off1 k) S8x2048.size (k1_off1_inb k))))) (rowV (pB (View.ld x16 (Rect.unit (s := S256x2048) (k1_off1 k) S8x2048.size (k1_off1_inb k))) (View.ld x17 (Rect.unit (s := S256x16) (k1_off2 k) S8x16.size (k1_off2_inb k))))) acc (j.val + 1))

theorem tripRM_eq (arg19 arg20 : Memref sig .tc .vmem S8x16x2048 .f32) (v82 : Vec F S16x2048 .f32) (x15 x16 : Vec F S256x2048 .f32) (x17 x18 : Vec F S256x16 .f32) (k : Fin k1_t1_loop.trips) (acc : Vec F S16x2048 .f32) :
    tripRM arg19 arg20 v82 x15 x16 x17 x18 k acc = tripR v82 x15 x16 x17 x18 k acc := by
  unfold tripRM tripR
  simp only [rowM_pA_fun, rowM_pB_fun]

theorem tripYM_eq (arg19 arg20 : Memref sig .tc .vmem S8x16x2048 .f32) (v82 : Vec F S16x2048 .f32) (x15 x16 : Vec F S256x2048 .f32) (x17 x18 : Vec F S256x16 .f32) (k : Fin k1_t1_loop.trips) (acc : Vec F S16x2048 .f32) :
    tripYM arg19 arg20 v82 x15 x16 x17 x18 k acc = tripY v82 x15 x16 x17 x18 k acc := by
  unfold tripYM tripY
  simp only [rowM_pA_fun, rowM_pB_fun]

/-- The rectangle of rows that trip `k` stores. -/
abbrev tripRect (k : Fin k1_t1_loop.trips) : Rect S1x256x2048 := Rect.unit (s := S1x256x2048) (k1_off3 k) S1x8x2048.size (k1_off3_inb k)

/-- One trip run: it yields `tripR`, stores `tripY` at the trip's rows, keeps what it reads and leaves the two column scratches at anything. -/
theorem trip_run (𝒱 : Variants) (c : Dev nD) (bd : Option 𝒱.V) (i : grid1.Coords) (arg2 : Memref sig .tc .vmem S1x256x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S2048x64 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x256x2048 .f32) (harg12 : arg12.IsWhole) (arg13 : Memref sig .tc .vmem S16x2048 .f32) (harg13 : arg13.IsWhole) (arg14 : Memref sig .tc .vmem S3x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x16 .f32) (harg17 : arg17.IsWhole) (arg18 : Memref sig .tc .vmem S256x16 .f32) (harg18 : arg18.IsWhole) (arg19 : Memref sig .tc .vmem S8x16x2048 .f32) (harg19 : arg19.IsWhole) (arg20 : Memref sig .tc .vmem S8x16x2048 .f32) (harg20 : arg20.IsWhole) (v82 : Vec F S16x2048 .f32)
    (X15 : BufTy.Contents (Elt F) arg15.view.ty) (X16 : BufTy.Contents (Elt F) arg16.view.ty) (X17 : BufTy.Contents (Elt F) arg17.view.ty) (X18 : BufTy.Contents (Elt F) arg18.view.ty) (k : Fin k1_t1_loop.trips) (E : Set ℕ) (acc : Vec F S16x2048 .f32) (f12 : BufTy.Contents (Elt F) arg12.view.ty) (f19 : BufTy.Contents (Elt F) arg19.view.ty) (f20 : BufTy.Contents (Elt F) arg20.view.ty) :
      (iprop((arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg12.view.loc (c : Thread nD τ) ↦[arg12.view.set]{fullShare} f12) ∗ (arg19.view.loc (c : Thread nD τ) ↦[arg19.view.set]{fullShare} f19) ∗ (arg20.view.loc (c : Thread nD τ) ↦[arg20.view.set]{fullShare} f20)) : sProp 𝕄G)
      ⊢ wp frame (wpE (defs₀ (F := F)) 𝒱 (c : Thread nD τ) bd) E (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v82 k acc)
          (fun yld => (iprop(⌜yld = tripRM arg19 arg20 v82 (arg15.view.read (Elt F) X15) (arg16.view.read (Elt F) X16) (arg17.view.read (Elt F) X17) (arg18.view.read (Elt F) X18) k acc⌝ ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18)
            ∗ (arg12.view.loc (c : Thread nD τ) ↦[arg12.view.set]{fullShare} (arg12.view.writes (Elt F) f12 [⟨tripRect k, tripYM arg19 arg20 v82 (arg15.view.read (Elt F) X15) (arg16.view.read (Elt F) X16) (arg17.view.read (Elt F) X17) (arg18.view.read (Elt F) X18) k acc⟩]))
            ∗ (∃ f, (arg19.view.loc (c : Thread nD τ) ↦[arg19.view.set]{fullShare} f)) ∗ (∃ f, (arg20.view.loc (c : Thread nD τ) ↦[arg20.view.set]{fullShare} f))) : sProp 𝕄G)) := by
  have hk : k.val < 32 := Nat.lt_of_lt_of_le k.isLt k1_t1_abs.2.1
  unfold k1_t1_body
  iintro ⟨HR15, HR16, HR17, HR18, HW12, HW19, HW20⟩
  sl_exec
  sl_step
  isplitr
  · ipureintro; rfl
  isplitl [HR15]; · iexact HR15
  isplitl [HR16]; · iexact HR16
  isplitl [HR17]; · iexact HR17
  isplitl [HR18]; · iexact HR18
  isplitl [HW12]; · iexact HW12
  isplitl [HW19]; · iexists _; iexact HW19
  iexists _; iexact HW20

/-- The state before trip `k`, from the state `init` before the loop. -/
def hAt (v82 : Vec F S16x2048 .f32) (x15 x16 : Vec F S256x2048 .f32) (x17 x18 : Vec F S256x16 .f32) (init : Vec F S16x2048 .f32) : ℕ → Vec F S16x2048 .f32
  | 0 => init
  | k + 1 => if h : k < k1_t1_loop.trips then tripR v82 x15 x16 x17 x18 ⟨k, h⟩ (hAt v82 x15 x16 x17 x18 init k) else hAt v82 x15 x16 x17 x18 init k

/-- The rows that the trips before `k` store, the last trip's first. -/
def yPieces (v82 : Vec F S16x2048 .f32) (x15 x16 : Vec F S256x2048 .f32) (x17 x18 : Vec F S256x16 .f32) (init : Vec F S16x2048 .f32) : ℕ → List (View.Piece (Elt F) S1x256x2048 .f32)
  | 0 => []
  | k + 1 => if h : k < k1_t1_loop.trips then ⟨tripRect ⟨k, h⟩, tripY v82 x15 x16 x17 x18 ⟨k, h⟩ (hAt v82 x15 x16 x17 x18 init k)⟩ :: yPieces v82 x15 x16 x17 x18 init k else yPieces v82 x15 x16 x17 x18 init k

theorem hAt_succ (v82 : Vec F S16x2048 .f32) (x15 x16 : Vec F S256x2048 .f32) (x17 x18 : Vec F S256x16 .f32) (init : Vec F S16x2048 .f32) (k : Fin k1_t1_loop.trips) :
    hAt v82 x15 x16 x17 x18 init (k.val + 1) = tripR v82 x15 x16 x17 x18 k (hAt v82 x15 x16 x17 x18 init k.val) := by
  rw [hAt]; exact dif_pos k.isLt

theorem yPieces_succ (v82 : Vec F S16x2048 .f32) (x15 x16 : Vec F S256x2048 .f32) (x17 x18 : Vec F S256x16 .f32) (init : Vec F S16x2048 .f32) (k : Fin k1_t1_loop.trips) :
    yPieces v82 x15 x16 x17 x18 init (k.val + 1) = ⟨tripRect k, tripY v82 x15 x16 x17 x18 k (hAt v82 x15 x16 x17 x18 init k.val)⟩ :: yPieces v82 x15 x16 x17 x18 init k.val := by
  rw [yPieces]; exact dif_pos k.isLt

set_option warn.classDefReducibility false in
/-- The loop by its invariant: before trip `k` the carried state is `hAt k` and the output block holds the rows of the trips before `k`. -/
@[sl_loop] def loopInv (𝒱 : Variants) (c : Dev nD) (bd : Option 𝒱.V) (E : Set ℕ) (i : grid1.Coords) (arg2 : Memref sig .tc .vmem S1x256x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S2048x64 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x256x2048 .f32) (harg12 : arg12.IsWhole) (arg13 : Memref sig .tc .vmem S16x2048 .f32) (harg13 : arg13.IsWhole) (arg14 : Memref sig .tc .vmem S3x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x16 .f32) (harg17 : arg17.IsWhole) (arg18 : Memref sig .tc .vmem S256x16 .f32) (harg18 : arg18.IsWhole) (arg19 : Memref sig .tc .vmem S8x16x2048 .f32) (harg19 : arg19.IsWhole) (arg20 : Memref sig .tc .vmem S8x16x2048 .f32) (harg20 : arg20.IsWhole) (v82 : Vec F S16x2048 .f32)
    (X15 : BufTy.Contents (Elt F) arg15.view.ty) (X16 : BufTy.Contents (Elt F) arg16.view.ty) (X17 : BufTy.Contents (Elt F) arg17.view.ty) (X18 : BufTy.Contents (Elt F) arg18.view.ty) (G12 : BufTy.Contents (Elt F) arg12.view.ty) (init : Vec F S16x2048 .f32) :
    Idealize.ShloMosaic.LoopInv (M := 𝕄G) Idealize.ShloMosaic.frame (wpE defs₀ 𝒱 (c : Thread nD τ) bd) E
      k1_t1_loop.lb k1_t1_loop.ub k1_t1_loop.st k1_t1_ok init (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v82) where
  inv k acc := iprop((arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (∃ f, (arg12.view.loc (c : Thread nD τ) ↦[arg12.view.set]{fullShare} f) ∗ ⌜f = arg12.view.writes (Elt F) G12 (yPieces v82 (arg15.view.read (Elt F) X15) (arg16.view.read (Elt F) X16) (arg17.view.read (Elt F) X17) (arg18.view.read (Elt F) X18) init k)⌝)
    ∗ (∃ f, (arg19.view.loc (c : Thread nD τ) ↦[arg19.view.set]{fullShare} f)) ∗ (∃ f, (arg20.view.loc (c : Thread nD τ) ↦[arg20.view.set]{fullShare} f)) ∗ ⌜acc = hAt v82 (arg15.view.read (Elt F) X15) (arg16.view.read (Elt F) X16) (arg17.view.read (Elt F) X17) (arg18.view.read (Elt F) X18) init k⌝)
  step k acc := by
    iintro ⟨HR15, HR16, HR17, HR18, ⟨%f12, HW12, %h12⟩, ⟨%f19, HW19⟩, ⟨%f20, HW20⟩, %hacc⟩
    subst hacc
    iapply (wp_wand_r Idealize.ShloMosaic.frame (wpE (defs₀ (F := F)) 𝒱 (c : Thread nD τ) bd) E)
    isplitl [HR15 HR16 HR17 HR18 HW12 HW19 HW20]
    · iapply (trip_run (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v82 X15 X16 X17 X18 k E (hAt v82 (arg15.view.read (Elt F) X15) (arg16.view.read (Elt F) X16) (arg17.view.read (Elt F) X17) (arg18.view.read (Elt F) X18) init k.val) f12 f19 f20)
      isplitl [HR15]; · iexact HR15
      isplitl [HR16]; · iexact HR16
      isplitl [HR17]; · iexact HR17
      isplitl [HR18]; · iexact HR18
      isplitl [HW12]; · iexact HW12
      isplitl [HW19]; · iexact HW19
      iexact HW20
    · iintro %yld ⟨%hres, HR15, HR16, HR17, HR18, HW12, HW19, HW20⟩
      isplitl [HR15]; · iexact HR15
      isplitl [HR16]; · iexact HR16
      isplitl [HR17]; · iexact HR17
      isplitl [HR18]; · iexact HR18
      isplitl [HW12]
      · iexists _; isplitl [HW12]; · iexact HW12
        ipureintro; rw [h12, yPieces_succ, tripYM_eq]; rfl
      isplitl [HW19]; · iexact HW19
      isplitl [HW20]; · iexact HW20
      ipureintro; rw [hres, hAt_succ, tripRM_eq]

end Cert.KernelIdeal.Scan1
-- ==== Proof.Scan1Body.lean ====
module

public import proofs.«01_k».proof.Proof.Scan1Trip
public import Idealize.ShloMosaic.Lib.VecWindow

/-! One grid point of the scan: from a chunk's inputs, the kept state and the kept rows, the chunk's outputs,
the next state and the next kept rows. -/

@[expose] public section

set_option maxRecDepth 16384
set_option maxHeartbeats 4000000

noncomputable section

namespace Cert.KernelIdeal.Scan1

open Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem trips_eq : k1_t1_loop.trips = 32 := by decide

theorem trips_eq' : Scf.trips k1_t1_loop.lb k1_t1_loop.ub k1_t1_loop.st = 32 := by decide

/-- The chunk's activated convolution. -/
def uV (I : In F) (halo : Vec F S3x2048 .f32) : FVec F S256x2048 .f32 := act (conv (fullF I.x halo) I.cb I.taps)

/-- The state after the chunk's first `n` trips. -/
def hV (I : In F) (halo : Vec F S3x2048 .f32) (h : Vec F S16x2048 .f32) (n : ℕ) : Vec F S16x2048 .f32 :=
  hAt I.nA (dtV I (uV I halo)) (dtuV I (uV I halo)) (proj16 (uV I halo) I.wB) (proj16 (uV I halo) I.wC) h n

/-- The rows stored by the chunk's first `n` trips. -/
def yV (I : In F) (halo : Vec F S3x2048 .f32) (h : Vec F S16x2048 .f32) (n : ℕ) : List (View.Piece (Elt F) S1x256x2048 .f32) :=
  yPieces I.nA (dtV I (uV I halo)) (dtuV I (uV I halo)) (proj16 (uV I halo) I.wB) (proj16 (uV I halo) I.wC) h n

/-- The state kept after the chunk. -/
def hOut (I : In F) (halo : Vec F S3x2048 .f32) (h : Vec F S16x2048 .f32) : Vec F S16x2048 .f32 := keepH (hV I halo h 32)

/-- The chunk's outputs. -/
def yOut (I : In F) (halo : Vec F S3x2048 .f32) (h : Vec F S16x2048 .f32) : Vec F S1x256x2048 .f32 :=
  outY (uV I halo) (View.canon (yV I halo h 32)) I.dv

/-- The rows of every trip before the `n`-th are among the pieces. -/
theorem mem_yPieces (v82 : Vec F S16x2048 .f32) (x15 x16 : Vec F S256x2048 .f32) (x17 x18 : Vec F S256x16 .f32) (init : Vec F S16x2048 .f32) (n : ℕ) (hn : n ≤ k1_t1_loop.trips) (j : Fin k1_t1_loop.trips) (hj : j.val < n) :
    ⟨tripRect j, tripY v82 x15 x16 x17 x18 j (hAt v82 x15 x16 x17 x18 init j.val)⟩ ∈ yPieces v82 x15 x16 x17 x18 init n := by
  induction n with
  | zero => omega
  | succ n ih =>
    rw [yPieces_succ v82 x15 x16 x17 x18 init (⟨n, hn⟩ : Fin k1_t1_loop.trips)]
    rcases Nat.lt_succ_iff_lt_or_eq.mp hj with h | h
    · exact List.mem_cons_of_mem _ (ih (by omega) h)
    · have : j = ⟨n, hn⟩ := Fin.ext h
      subst this; exact List.mem_cons_self

/-- The trips' rows fill the block. -/
theorem cover_y (v82 : Vec F S16x2048 .f32) (x15 x16 : Vec F S256x2048 .f32) (x17 x18 : Vec F S256x16 .f32) (init : Vec F S16x2048 .f32) (y : S1x256x2048.Idx) :
    ∃ p ∈ yPieces v82 x15 x16 x17 x18 init 32, y ∈ p.1.set := by
  have h0 : (y 0).val < 1 := (y 0).isLt
  have h1 : (y 1).val < 256 := (y 1).isLt
  have h2 : (y 2).val < 2048 := (y 2).isLt
  have hj : (y 1).val / 8 < k1_t1_loop.trips := by rw [trips_eq]; omega
  refine ⟨_, mem_yPieces v82 x15 x16 x17 x18 init 32 (le_of_eq trips_eq.symm) ⟨_, hj⟩ (by show _ < 32; rw [trips_eq] at hj; exact hj), ?_⟩
  rw [Rect.mem_set_unit, k1_off3_eq]
  intro a
  fin_cases a <;> simp [S1x8x2048] <;> omega

theorem pay_u (x : Vec F S1x256x2048 .f32) (halo : Vec F S3x2048 .f32) (cb : Vec F S1x2048 .f32) (w : Vec F S4x2048 .f32) :
    k1_pay80 (k1_pay78 x halo cb (View.ld w (Rect.unit (s := S4x2048) ![0, 0] S1x2048.size inb_S4x2048_S1x2048_0_0)) (View.ld w (Rect.unit (s := S4x2048) ![1, 0] S1x2048.size inb_S4x2048_S1x2048_1_0)) (View.ld w (Rect.unit (s := S4x2048) ![2, 0] S1x2048.size inb_S4x2048_S1x2048_2_0)))
      (k1_pay79 x halo (View.ld w (Rect.unit (s := S4x2048) ![3, 0] S1x2048.size inb_S4x2048_S1x2048_3_0))) = act (conv (fullF x halo) cb w) := rfl

theorem pay_dt (I : In F) (a b : FVec F S256x2048 .f32) :
    k1_pay1 (k1_pay81 a b I.wdt I.dtw I.dtb) = dtV I (k1_pay80 a b) := rfl

theorem pay_dtu (I : In F) (a b : FVec F S256x2048 .f32) :
    k1_pay2 (k1_pay80 a b) (k1_pay81 a b I.wdt I.dtw I.dtb) = dtuV I (k1_pay80 a b) := rfl

theorem pay_B (a b : FVec F S256x2048 .f32) (w : Vec F S16x2048 .f32) :
    k1_pay82 a b w = proj16 (k1_pay80 a b) w := rfl

theorem pay_C (a b : FVec F S256x2048 .f32) (w : Vec F S16x2048 .f32) :
    k1_pay83 a b w = proj16 (k1_pay80 a b) w := rfl

theorem pay_h (h : Vec F S16x2048 .f32) : k1_pay6 h = keepH h := rfl

theorem pay_y (u : FVec F S256x2048 .f32) (y : Vec F S1x256x2048 .f32) (v : Vec F S1x2048 .f32) : k1_pay7 u y v = outY u y v := rfl

theorem pay_keep (x : Vec F S1x256x2048 .f32) : k1_pay77 x = keepF x := rfl

theorem pay_zh : k1_pay73 (F := F) = zeroH := rfl

theorem pay_zk : k1_pay74 (F := F) = zeroK := rfl

theorem fin_h (I : In F) (halo : Vec F S3x2048 .f32) (h : Vec F S16x2048 .f32) :
    k1_pay6 (hAt I.nA (k1_pay1 (k1_pay81 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0))) I.wdt I.dtw I.dtb)) (k1_pay2 (k1_pay80 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0)))) (k1_pay81 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0))) I.wdt I.dtw I.dtb)) (k1_pay82 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0))) I.wB) (k1_pay83 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0))) I.wC) h 32) = hOut I halo h := by
  rw [pay_h, pay_dt, pay_dtu, pay_B, pay_C, pay_u]; rfl

theorem fin_y (I : In F) (halo : Vec F S3x2048 .f32) (h : Vec F S16x2048 .f32) :
    k1_pay7 (k1_pay80 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0)))) (View.canon (yPieces I.nA (k1_pay1 (k1_pay81 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0))) I.wdt I.dtw I.dtb)) (k1_pay2 (k1_pay80 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0)))) (k1_pay81 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0))) I.wdt I.dtw I.dtb)) (k1_pay82 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0))) I.wB) (k1_pay83 (k1_pay78 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k1_pay79 I.x halo (View.ld I.taps (Rect.unit (s := S4x2048) ![3, 0] S1x2048.size inb_S4x2048_S1x2048_3_0))) I.wC) h 32)) I.dv = yOut I halo h := by
  rw [pay_y, pay_dt, pay_dtu, pay_B, pay_C, pay_u]; rfl

/-- The whole block read back after the trips. -/
theorem cov_y (v : View sig .tc .vmem S1x256x2048 .f32) (v82 : Vec F S16x2048 .f32) (x15 x16 : Vec F S256x2048 .f32) (x17 x18 : Vec F S256x16 .f32) (init : Vec F S16x2048 .f32) :
    v.readCov (yPieces v82 x15 x16 x17 x18 init 32) (Rect.unit (s := S1x256x2048) ![0, 0, 0] S1x256x2048.size inb_S1x256x2048_S1x256x2048_0_0_0).toLoadRect
      = View.canon (yPieces v82 x15 x16 x17 x18 init 32) := by
  rw [View.readCov_eq_canon_ld _ _ _ (cover_y v82 x15 x16 x17 x18 init)]
  funext y
  refine congrArg (View.canon (yPieces v82 x15 x16 x17 x18 init 32)) (funext fun a => Fin.ext ?_)
  show (![0, 0, 0] : Fin 3 → ℕ) a + 1 * (y a).val = (y a).val
  have : (![0, 0, 0] : Fin 3 → ℕ) a = 0 := by fin_cases a <;> rfl
  omega

/-- Whether a grid point is the first of its sequence, as the kernel computes it. -/
abbrev first (i : grid1.Coords) : Prop :=
  Scalar.cmpi .ne (Scalar.extui (Scalar.cmpi .eq (BitVec.ofNat 32 (i 1).val) 0#32) : BitVec 32) 0#32 = 1#1

/-- The kernel at the first point of a sequence. -/
theorem run_first (c : Dev nD) (E : Set ℕ) (i : grid1.Coords) (hc : first i) (arg2 : Memref sig .tc .vmem S1x256x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S2048x64 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x256x2048 .f32) (harg12 : arg12.IsWhole) (arg13 : Memref sig .tc .vmem S16x2048 .f32) (harg13 : arg13.IsWhole) (arg14 : Memref sig .tc .vmem S3x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x16 .f32) (harg17 : arg17.IsWhole) (arg18 : Memref sig .tc .vmem S256x16 .f32) (harg18 : arg18.IsWhole) (arg19 : Memref sig .tc .vmem S8x16x2048 .f32) (harg19 : arg19.IsWhole) (arg20 : Memref sig .tc .vmem S8x16x2048 .f32) (harg20 : arg20.IsWhole) (I : In F) (K : PUnit → sProp 𝕄G) :
    (iprop(owns (c : Thread nD τ) arg2 fullShare I.x ∗ owns (c : Thread nD τ) arg3 fullShare I.taps ∗ owns (c : Thread nD τ) arg4 fullShare I.cb ∗ owns (c : Thread nD τ) arg5 fullShare I.wdt ∗ owns (c : Thread nD τ) arg6 fullShare I.wB ∗ owns (c : Thread nD τ) arg7 fullShare I.wC ∗ owns (c : Thread nD τ) arg8 fullShare I.dtw ∗ owns (c : Thread nD τ) arg9 fullShare I.dtb ∗ owns (c : Thread nD τ) arg10 fullShare I.nA ∗ owns (c : Thread nD τ) arg11 fullShare I.dv ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))
      ∗ (iprop(owns (c : Thread nD τ) arg2 fullShare I.x ∗ owns (c : Thread nD τ) arg3 fullShare I.taps ∗ owns (c : Thread nD τ) arg4 fullShare I.cb ∗ owns (c : Thread nD τ) arg5 fullShare I.wdt ∗ owns (c : Thread nD τ) arg6 fullShare I.wB ∗ owns (c : Thread nD τ) arg7 fullShare I.wC ∗ owns (c : Thread nD τ) arg8 fullShare I.dtw ∗ owns (c : Thread nD τ) arg9 fullShare I.dtb ∗ owns (c : Thread nD τ) arg10 fullShare I.nA ∗ owns (c : Thread nD τ) arg11 fullShare I.dv ∗ owns (c : Thread nD τ) arg12 fullShare (yOut I zeroK zeroH) ∗ owns (c : Thread nD τ) arg13 fullShare (hOut I zeroK zeroH) ∗ owns (c : Thread nD τ) arg14 fullShare (keepF I.x) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩)) : sProp 𝕄G)
      ⊢ wp frame (wpE (defs₀ (F := F)) Variants.none (c : Thread nD τ) none) E (cc1_bimamba_scan_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  obtain ⟨x, taps, cb, wdt, wB, wC, dtw, dtb, nA, dv⟩ := I
  simp only [cc1_bimamba_scan_fwd_eq_skeleton]; unfold cc1_bimamba_scan_fwd_skel
  unfold owns
  unfold first at hc
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, Hk⟩
  subst hf2 hf3 hf4 hf5 hf6 hf7 hf8 hf9 hf10 hf11
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_run_names
    simp (config := {proj := false, dsimp := false}) only [hc, ↓reduceDIte, View.readAt_full, View.read_writes_full, View.readCov_full, trips_eq', pay_zh, pay_zk]
    rw [cov_y]
    simp (config := {proj := false, dsimp := false}) only [View.readAt_eq_ld]
    exact fin_y ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11⟩ zeroK zeroH
  isplitl [H13]
  · iexists _; isplitr
    swap; · iexact H13
    ipureintro
    sl_unfold_run_names
    simp (config := {proj := false, dsimp := false}) only [hc, ↓reduceDIte, View.readAt_full, View.read_writes_full, View.readCov_full, trips_eq', pay_zh, pay_zk]
    simp (config := {proj := false, dsimp := false}) only [View.readAt_eq_ld]
    exact fin_h ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11⟩ zeroK zeroH
  isplitl [H14]
  · iexists _; isplitr
    swap; · iexact H14
    ipureintro
    sl_unfold_run_names
    simp (config := {proj := false, dsimp := false}) only [hc, ↓reduceDIte, View.readAt_full, View.read_writes_full, View.readCov_full, trips_eq', pay_zh, pay_zk]
    rfl
  isplitl [H15]; · iexists _; iexact H15
  isplitl [H16]; · iexists _; iexact H16
  isplitl [H17]; · iexists _; iexact H17
  isplitl [H18]; · iexists _; iexact H18
  isplitl [H19]; · iexists _; iexact H19
  iexists _; iexact H20

/-- The kernel at a later point, from the kept state `h` and the kept rows `halo`. -/
theorem run_next (c : Dev nD) (E : Set ℕ) (i : grid1.Coords) (hc : ¬ first i) (arg2 : Memref sig .tc .vmem S1x256x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S2048x64 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x256x2048 .f32) (harg12 : arg12.IsWhole) (arg13 : Memref sig .tc .vmem S16x2048 .f32) (harg13 : arg13.IsWhole) (arg14 : Memref sig .tc .vmem S3x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x16 .f32) (harg17 : arg17.IsWhole) (arg18 : Memref sig .tc .vmem S256x16 .f32) (harg18 : arg18.IsWhole) (arg19 : Memref sig .tc .vmem S8x16x2048 .f32) (harg19 : arg19.IsWhole) (arg20 : Memref sig .tc .vmem S8x16x2048 .f32) (harg20 : arg20.IsWhole) (I : In F) (halo : Vec F S3x2048 .f32) (h : Vec F S16x2048 .f32) (K : PUnit → sProp 𝕄G) :
    (iprop(owns (c : Thread nD τ) arg2 fullShare I.x ∗ owns (c : Thread nD τ) arg3 fullShare I.taps ∗ owns (c : Thread nD τ) arg4 fullShare I.cb ∗ owns (c : Thread nD τ) arg5 fullShare I.wdt ∗ owns (c : Thread nD τ) arg6 fullShare I.wB ∗ owns (c : Thread nD τ) arg7 fullShare I.wC ∗ owns (c : Thread nD τ) arg8 fullShare I.dtw ∗ owns (c : Thread nD τ) arg9 fullShare I.dtb ∗ owns (c : Thread nD τ) arg10 fullShare I.nA ∗ owns (c : Thread nD τ) arg11 fullShare I.dv ∗ (∃ f, (arg12.view.loc (c : Thread nD τ) ↦[arg12.view.set]{fullShare} f)) ∗ owns (c : Thread nD τ) arg13 fullShare h ∗ owns (c : Thread nD τ) arg14 fullShare halo ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))
      ∗ (iprop(owns (c : Thread nD τ) arg2 fullShare I.x ∗ owns (c : Thread nD τ) arg3 fullShare I.taps ∗ owns (c : Thread nD τ) arg4 fullShare I.cb ∗ owns (c : Thread nD τ) arg5 fullShare I.wdt ∗ owns (c : Thread nD τ) arg6 fullShare I.wB ∗ owns (c : Thread nD τ) arg7 fullShare I.wC ∗ owns (c : Thread nD τ) arg8 fullShare I.dtw ∗ owns (c : Thread nD τ) arg9 fullShare I.dtb ∗ owns (c : Thread nD τ) arg10 fullShare I.nA ∗ owns (c : Thread nD τ) arg11 fullShare I.dv ∗ owns (c : Thread nD τ) arg12 fullShare (yOut I halo h) ∗ owns (c : Thread nD τ) arg13 fullShare (hOut I halo h) ∗ owns (c : Thread nD τ) arg14 fullShare (keepF I.x) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩)) : sProp 𝕄G)
      ⊢ wp frame (wpE (defs₀ (F := F)) Variants.none (c : Thread nD τ) none) E (cc1_bimamba_scan_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  obtain ⟨x, taps, cb, wdt, wB, wC, dtw, dtb, nA, dv⟩ := I
  simp only [cc1_bimamba_scan_fwd_eq_skeleton]; unfold cc1_bimamba_scan_fwd_skel
  unfold owns
  unfold first at hc
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, H12⟩, ⟨%f13, %hf13, H13⟩, ⟨%f14, %hf14, H14⟩, ⟨%f15, H15⟩, ⟨%f16, H16⟩, ⟨%f17, H17⟩, ⟨%f18, H18⟩, ⟨%f19, H19⟩, ⟨%f20, H20⟩, Hk⟩
  subst hf2 hf3 hf4 hf5 hf6 hf7 hf8 hf9 hf10 hf11 hf13 hf14
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_run_names
    simp (config := {proj := false, dsimp := false}) only [hc, ↓reduceDIte, View.readAt_full, View.read_writes_full, View.readCov_full, trips_eq']
    rw [cov_y]
    simp (config := {proj := false, dsimp := false}) only [View.readAt_eq_ld]
    exact fin_y ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11⟩ (arg14.view.read (Elt F) f14) (arg13.view.read (Elt F) f13)
  isplitl [H13]
  · iexists _; isplitr
    swap; · iexact H13
    ipureintro
    sl_unfold_run_names
    simp (config := {proj := false, dsimp := false}) only [hc, ↓reduceDIte, View.readAt_full, View.read_writes_full, View.readCov_full, trips_eq']
    simp (config := {proj := false, dsimp := false}) only [View.readAt_eq_ld]
    exact fin_h ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11⟩ (arg14.view.read (Elt F) f14) (arg13.view.read (Elt F) f13)
  isplitl [H14]
  · iexists _; isplitr
    swap; · iexact H14
    ipureintro
    sl_unfold_run_names
    simp (config := {proj := false, dsimp := false}) only [hc, ↓reduceDIte, View.readAt_full, View.read_writes_full, View.readCov_full, trips_eq']
    rfl
  isplitl [H15]; · iexists _; iexact H15
  isplitl [H16]; · iexists _; iexact H16
  isplitl [H17]; · iexists _; iexact H17
  isplitl [H18]; · iexists _; iexact H18
  isplitl [H19]; · iexists _; iexact H19
  iexists _; iexact H20

end Cert.KernelIdeal.Scan1
-- ==== Proof.Reg1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Regions
public import Idealize.ShloMosaic.Lib.Pipeline.RegionArraysS
public import proofs.«01_k».proof.Proof.Scan1Body

/-! Region 1 of the program: its proof data over the buffers it finds, its body with the state and rows it carries from point to point, and what it leaves. -/

@[expose] public section

set_option maxRecDepth 16384

noncomputable section

namespace Cert.KernelIdeal.Reg1

open Cert.KernelIdeal.Gen Cert.KernelIdeal.Scan Cert.KernelIdeal.Scan1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- Core `c`'s buffers at the region's entry. -/
abbrev V (W : Dev nD → Valuation τ sig (Elt F)) (c : Dev nD) (b : Ref sig .tc) : Buf (Elt F) ((c : Thread nD τ).loc b) := W c (Proc.devRef .tc b)

variable (W : Dev nD → Valuation τ sig (Elt F))

/-- The block of window `w` at point `t`, as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input 0 is staged at its block at every point. -/
theorem staged_0 {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1 is staged at its block at every point. -/
theorem staged_1 {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2 is staged at its block at every point. -/
theorem staged_2 {c : Dev nD} (dat : Dat τ (Elt F) Unit ℕ (UR sig nD τ) ℕ cfg1 c) (hA : dat.A 2 = V W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3 is staged at its block at every point. -/
theorem staged_3 {c : Dev nD} (dat : Dat τ (Elt F) Unit ℕ (UR sig nD τ) ℕ cfg1 c) (hA : dat.A 3 = V W c (Pipeline.arrRef spec1 3))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4 is staged at its block at every point. -/
theorem staged_4 {c : Dev nD} (dat : Dat τ (Elt F) Unit ℕ (UR sig nD τ) ℕ cfg1 c) (hA : dat.A 4 = V W c (Pipeline.arrRef spec1 4))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5 is staged at its block at every point. -/
theorem staged_5 {c : Dev nD} (dat : Dat τ (Elt F) Unit ℕ (UR sig nD τ) ℕ cfg1 c) (hA : dat.A 5 = V W c (Pipeline.arrRef spec1 5))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6 is staged at its block at every point. -/
theorem staged_6 {c : Dev nD} (dat : Dat τ (Elt F) Unit ℕ (UR sig nD τ) ℕ cfg1 c) (hA : dat.A 6 = V W c (Pipeline.arrRef spec1 6))
    (hafter : ∀ t, dat.after 6 t = iblk W c 6 t) (t : Fin cfg1.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7 is staged at its block at every point. -/
theorem staged_7 {c : Dev nD} (dat : Dat τ (Elt F) Unit ℕ (UR sig nD τ) ℕ cfg1 c) (hA : dat.A 7 = V W c (Pipeline.arrRef spec1 7))
    (hafter : ∀ t, dat.after 7 t = iblk W c 7 t) (t : Fin cfg1.N) (d) : dat.before 7 t d = iblk W c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8 is staged at its block at every point. -/
theorem staged_8 {c : Dev nD} (dat : Dat τ (Elt F) Unit ℕ (UR sig nD τ) ℕ cfg1 c) (hA : dat.A 8 = V W c (Pipeline.arrRef spec1 8))
    (hafter : ∀ t, dat.after 8 t = iblk W c 8 t) (t : Fin cfg1.N) (d) : dat.before 8 t d = iblk W c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9 is staged at its block at every point. -/
theorem staged_9 {c : Dev nD} (dat : Dat τ (Elt F) Unit ℕ (UR sig nD τ) ℕ cfg1 c) (hA : dat.A 9 = V W c (Pipeline.arrRef spec1 9))
    (hafter : ∀ t, dat.after 9 t = iblk W c 9 t) (t : Fin cfg1.N) (d) : dat.before 9 t d = iblk W c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Point `n` of the grid, for any natural number. -/
def pt (n : ℕ) : Fin cfg1.N := ⟨n % 32, lt_of_lt_of_eq (Nat.mod_lt _ (by norm_num)) N_1.symm⟩

theorem pt_val (t : Fin cfg1.N) : pt t.val = t := Fin.ext (Nat.mod_eq_of_lt (lt_of_lt_of_eq t.isLt N_1))

/-- What the scan reads at point `t`. -/
def inAt (c : Dev nD) (t : Fin cfg1.N) : In F where
  x := iblk W c 0 t
  taps := iblk W c 1 t
  cb := iblk W c 2 t
  wdt := iblk W c 3 t
  wB := iblk W c 4 t
  wC := iblk W c 5 t
  dtw := iblk W c 6 t
  dtb := iblk W c 7 t
  nA := iblk W c 8 t
  dv := iblk W c 9 t

/-- The state and the kept rows that point `n` starts from. -/
def carry (c : Dev nD) : ℕ → Vec F S16x2048 .f32 × Vec F S3x2048 .f32
  | 0 => (zeroH, zeroK)
  | n + 1 => if (n + 1) % 16 = 0 then (zeroH, zeroK) else
      (hOut (inAt W c (pt n)) (carry c n).2 (carry c n).1, keepF (inAt W c (pt n)).x)

/-- The outputs of point `t`. -/
def outAt (c : Dev nD) (t : Fin cfg1.N) : Vec F S1x256x2048 .f32 :=
  yOut (inAt W c t) (carry W c t.val).2 (carry W c t.val).1

/-- The invariant before point `n`: inside a sequence the state and the kept rows are held. -/
def inv (c : Dev nD) (n : ℕ) : sProp 𝕄G :=
  if n % 16 = 0 then Pipeline.ΦA spec1 c else
  iprop((owns (c : Thread nD τ) (Memref.whole cc1_scratch0) fullShare (carry W c n).1 ∗ owns (c : Thread nD τ) (Memref.whole cc1_scratch1) fullShare (carry W c n).2
     ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f) ∗ (∃ f : Buf (Elt F) ((c : Thread nD τ).loc cc1_scratch7), ((c : Thread nD τ).loc cc1_scratch7) ↦{fullShare} f))
    ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5, cc1_scratch6, cc1_scratch7] ∗ (∃ r, prngReg c r))

theorem inv_mid (c : Dev nD) (n : ℕ) (h : ¬ n % 16 = 0) : inv W c n = iprop((owns (c : Thread nD τ) (Memref.whole cc1_scratch0) fullShare (carry W c n).1 ∗ owns (c : Thread nD τ) (Memref.whole cc1_scratch1) fullShare (carry W c n).2
     ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f) ∗ (∃ f : Buf (Elt F) ((c : Thread nD τ).loc cc1_scratch7), ((c : Thread nD τ).loc cc1_scratch7) ↦{fullShare} f))
    ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5, cc1_scratch6, cc1_scratch7] ∗ (∃ r, prngReg c r)) := if_neg h

theorem inv_start (c : Dev nD) (n : ℕ) (h : n % 16 = 0) : inv W c n = Pipeline.ΦA spec1 c := if_pos h

theorem carry_start (c : Dev nD) (n : ℕ) (h : n % 16 = 0) : carry W c n = (zeroH, zeroK) := by
  cases n with
  | zero => rfl
  | succ n => exact if_pos h

theorem carry_next (c : Dev nD) (n : ℕ) (h : ¬ (n + 1) % 16 = 0) : carry W c (n + 1) =
    (hOut (inAt W c (pt n)) (carry W c n).2 (carry W c n).1, keepF (inAt W c (pt n)).x) := if_neg h

/-- The region's proof data. -/
def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => outAt W c t
  Φ n := inv W c n.val
  q _ := fullShare
  owed _ := 0

theorem A_eq (c : Dev nD) (w : Fin cfg1.W) : (dat W c).A w = V W c (Pipeline.arrRef spec1 w) := by dsimp only [dat]
theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = iblk W c 4 t := by dsimp only [dat]
theorem after_5 (c : Dev nD) (t : Fin cfg1.N) : (dat W c).after 5 t = iblk W c 5 t := by dsimp only [dat]
theorem after_6 (c : Dev nD) (t : Fin cfg1.N) : (dat W c).after 6 t = iblk W c 6 t := by dsimp only [dat]
theorem after_7 (c : Dev nD) (t : Fin cfg1.N) : (dat W c).after 7 t = iblk W c 7 t := by dsimp only [dat]
theorem after_8 (c : Dev nD) (t : Fin cfg1.N) : (dat W c).after 8 t = iblk W c 8 t := by dsimp only [dat]
theorem after_9 (c : Dev nD) (t : Fin cfg1.N) : (dat W c).after 9 t = iblk W c 9 t := by dsimp only [dat]
theorem after_10 (c : Dev nD) (t : Fin cfg1.N) : (dat W c).after 10 t = outAt W c t := by dsimp only [dat]
theorem before_0 (c : Dev nD) (t : Fin cfg1.N) (d) : (dat W c).before 0 t d = iblk W c 0 t :=
  staged_0 W (dat W c) (A_eq W c 0) (after_0 W c) t d
theorem before_1 (c : Dev nD) (t : Fin cfg1.N) (d) : (dat W c).before 1 t d = iblk W c 1 t :=
  staged_1 W (dat W c) (A_eq W c 1) (after_1 W c) t d
theorem before_2 (c : Dev nD) (t : Fin cfg1.N) (d) : (dat W c).before 2 t d = iblk W c 2 t :=
  staged_2 W (dat W c) (A_eq W c 2) (after_2 W c) t d
theorem before_3 (c : Dev nD) (t : Fin cfg1.N) (d) : (dat W c).before 3 t d = iblk W c 3 t :=
  staged_3 W (dat W c) (A_eq W c 3) (after_3 W c) t d
theorem before_4 (c : Dev nD) (t : Fin cfg1.N) (d) : (dat W c).before 4 t d = iblk W c 4 t :=
  staged_4 W (dat W c) (A_eq W c 4) (after_4 W c) t d
theorem before_5 (c : Dev nD) (t : Fin cfg1.N) (d) : (dat W c).before 5 t d = iblk W c 5 t :=
  staged_5 W (dat W c) (A_eq W c 5) (after_5 W c) t d
theorem before_6 (c : Dev nD) (t : Fin cfg1.N) (d) : (dat W c).before 6 t d = iblk W c 6 t :=
  staged_6 W (dat W c) (A_eq W c 6) (after_6 W c) t d
theorem before_7 (c : Dev nD) (t : Fin cfg1.N) (d) : (dat W c).before 7 t d = iblk W c 7 t :=
  staged_7 W (dat W c) (A_eq W c 7) (after_7 W c) t d
theorem before_8 (c : Dev nD) (t : Fin cfg1.N) (d) : (dat W c).before 8 t d = iblk W c 8 t :=
  staged_8 W (dat W c) (A_eq W c 8) (after_8 W c) t d
theorem before_9 (c : Dev nD) (t : Fin cfg1.N) (d) : (dat W c).before 9 t d = iblk W c 9 t :=
  staged_9 W (dat W c) (A_eq W c 9) (after_9 W c) t d

/-- What the body is called with at point `t`, -/
def bodyPre (c : Dev nD) (t : Fin cfg1.N) : sProp 𝕄G :=
  iprop((dat W c).Φ t.castSucc ∗ (dat W c).owesAt () t.castSucc
     ∗ (∃ d, owns (c : Thread nD τ) (st1_0 t) fullShare ((dat W c).before 0 t d)) ∗ (∃ d, owns (c : Thread nD τ) (st1_1 t) fullShare ((dat W c).before 1 t d)) ∗ (∃ d, owns (c : Thread nD τ) (st1_2 t) fullShare ((dat W c).before 2 t d)) ∗ (∃ d, owns (c : Thread nD τ) (st1_3 t) fullShare ((dat W c).before 3 t d)) ∗ (∃ d, owns (c : Thread nD τ) (st1_4 t) fullShare ((dat W c).before 4 t d)) ∗ (∃ d, owns (c : Thread nD τ) (st1_5 t) fullShare ((dat W c).before 5 t d)) ∗ (∃ d, owns (c : Thread nD τ) (st1_6 t) fullShare ((dat W c).before 6 t d)) ∗ (∃ d, owns (c : Thread nD τ) (st1_7 t) fullShare ((dat W c).before 7 t d)) ∗ (∃ d, owns (c : Thread nD τ) (st1_8 t) fullShare ((dat W c).before 8 t d)) ∗ (∃ d, owns (c : Thread nD τ) (st1_9 t) fullShare ((dat W c).before 9 t d)) ∗ (∃ d, owns (c : Thread nD τ) (st1_10 t) fullShare ((dat W c).before 10 t d)))

/-- and what it returns. -/
def bodyPost (c : Dev nD) (t : Fin cfg1.N) : sProp 𝕄G :=
  iprop((dat W c).Φ t.succ ∗ (dat W c).owesAt () t.succ
     ∗ owns (c : Thread nD τ) (st1_0 t) fullShare ((dat W c).after 0 t) ∗ owns (c : Thread nD τ) (st1_1 t) fullShare ((dat W c).after 1 t) ∗ owns (c : Thread nD τ) (st1_2 t) fullShare ((dat W c).after 2 t) ∗ owns (c : Thread nD τ) (st1_3 t) fullShare ((dat W c).after 3 t) ∗ owns (c : Thread nD τ) (st1_4 t) fullShare ((dat W c).after 4 t) ∗ owns (c : Thread nD τ) (st1_5 t) fullShare ((dat W c).after 5 t) ∗ owns (c : Thread nD τ) (st1_6 t) fullShare ((dat W c).after 6 t) ∗ owns (c : Thread nD τ) (st1_7 t) fullShare ((dat W c).after 7 t) ∗ owns (c : Thread nD τ) (st1_8 t) fullShare ((dat W c).after 8 t) ∗ owns (c : Thread nD τ) (st1_9 t) fullShare ((dat W c).after 9 t) ∗ owns (c : Thread nD τ) (st1_10 t) fullShare ((dat W c).after 10 t))

theorem first_iff : ∀ t : Fin grid1.N, first (grid1.coords t) ↔ t.val % 16 = 0 := by decide +kernel

theorem some_0 (c : Dev nD) (X : Vec F S16x2048 .f32) :
    (owns (c : Thread nD τ) (Memref.whole cc1_scratch0) fullShare X : sProp 𝕄G) ⊢ iprop(∃ f : Buf (Elt F) ((c : Thread nD τ).loc cc1_scratch0), ((c : Thread nD τ).loc cc1_scratch0) ↦{fullShare} f) := by
  rw [owns_whole]
  iintro H; iexists X; iexact H

theorem some_1 (c : Dev nD) (X : Vec F S3x2048 .f32) :
    (owns (c : Thread nD τ) (Memref.whole cc1_scratch1) fullShare X : sProp 𝕄G) ⊢ iprop(∃ f : Buf (Elt F) ((c : Thread nD τ).loc cc1_scratch1), ((c : Thread nD τ).loc cc1_scratch1) ↦{fullShare} f) := by
  rw [owns_whole]
  iintro H; iexists X; iexact H

/-- The carried buffers after a point make the next point's invariant. -/
theorem leave (c : Dev nD) (t : Fin cfg1.N) :
    iprop(owns (c : Thread nD τ) (Memref.whole cc1_scratch0) fullShare (hOut (inAt W c t) (carry W c t.val).2 (carry W c t.val).1)
      ∗ owns (c : Thread nD τ) (Memref.whole cc1_scratch1) fullShare (keepF (inAt W c t).x)
       ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f) ∗ (∃ f : Buf (Elt F) ((c : Thread nD τ).loc cc1_scratch7), ((c : Thread nD τ).loc cc1_scratch7) ↦{fullShare} f)
      ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5, cc1_scratch6, cc1_scratch7] ∗ (∃ r, prngReg c r)) ⊢ inv W c (t.val + 1) := by
  by_cases h : (t.val + 1) % 16 = 0
  · rw [inv_start W c _ h]
    unfold Pipeline.ΦA
    rw [scopedRest1_split]
    iintro ⟨S0, S1, S2, S3, S4, S5, S6, S7, Hb, Hr⟩
    ihave T0 := (some_0 c _) $$ S0
    ihave T1 := (some_1 c _) $$ S1
    isplitr [Hr]
    · isplitr [Hb]
      · isplitl [T0]; · iexact T0
        isplitl [T1]; · iexact T1
        isplitl [S2]; · iexact S2
        isplitl [S3]; · iexact S3
        isplitl [S4]; · iexact S4
        isplitl [S5]; · iexact S5
        isplitl [S6]; · iexact S6
        iexact S7
      iexact Hb
    iexact Hr
  · rw [inv_mid W c _ h, carry_next W c _ h, pt_val]
    iintro ⟨S0, S1, S2, S3, S4, S5, S6, S7, Hb, Hr⟩
    isplitr [Hb Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [Hb]; · iexact Hb
    iexact Hr

set_option maxHeartbeats 2000000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6, before_7, before_8, before_9]
  rw [show (dat W c).Φ t.succ = inv W c (t.val + 1) from rfl, show (dat W c).Φ t.castSucc = inv W c t.val from rfl,
    show (dat W c).owesAt () t.succ = (dat W c).owesAt () t.castSucc from rfl,
    after_0, after_1, after_2, after_3, after_4, after_5, after_6, after_7, after_8, after_9, after_10]
  by_cases h : t.val % 16 = 0
  · rw [inv_start W c _ h]
    unfold Pipeline.ΦA outAt
    rw [scopedRest1_split, carry_start W c _ h]
    iintro ⟨⟨⟨⟨⟨%g0, S0⟩, ⟨%g1, S1⟩, ⟨%g2, S2⟩, ⟨%g3, S3⟩, ⟨%g4, S4⟩, ⟨%g5, S5⟩, ⟨%g6, S6⟩, ⟨%g7, S7⟩⟩, Hb⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c Set.univ (grid1.coords t) ((first_iff t).mpr h) _ _ _ _ _ _ _ _ _ _ _ _ _ _ _ _ _ _ _ _ _ _ _ _ _ _ _ _ _ _ _ _ _ _ _ _ _ _ (inAt W c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; icases H10 with ⟨%f10, -, H10⟩; iexists f10; iexact H10
    isplitl [S0]
    · iexists g0; simp only [Memref.view_whole, View.set_whole]; iexact S0
    isplitl [S1]
    · iexists g1; simp only [Memref.view_whole, View.set_whole]; iexact S1
    isplitl [S2]
    · iexists g2; simp only [Memref.view_whole, View.set_whole]; iexact S2
    isplitl [S3]
    · iexists g3; simp only [Memref.view_whole, View.set_whole]; iexact S3
    isplitl [S4]
    · iexists g4; simp only [Memref.view_whole, View.set_whole]; iexact S4
    isplitl [S5]
    · iexists g5; simp only [Memref.view_whole, View.set_whole]; iexact S5
    isplitl [S6]
    · iexists g6; simp only [Memref.view_whole, View.set_whole]; iexact S6
    isplitl [S7]
    · iexists g7; simp only [Memref.view_whole, View.set_whole]; iexact S7
    iintro ⟨H0, H1, H2, H3, H4, H5, H6, H7, H8, H9, H10, S0, S1, ⟨%f2, S2⟩, ⟨%f3, S3⟩, ⟨%f4, S4⟩, ⟨%f5, S5⟩, ⟨%f6, S6⟩, ⟨%f7, S7⟩⟩
    isplitl [S0 S1 S2 S3 S4 S5 S6 S7 Hb Hr]
    · iapply (leave W c t)
      rw [carry_start W c _ h]
      simp only [Memref.view_whole, View.set_whole]
      isplitl [S0]; · iexact S0
      isplitl [S1]; · iexact S1
      isplitl [S2]; · iexists f2; iexact S2
      isplitl [S3]; · iexists f3; iexact S3
      isplitl [S4]; · iexists f4; iexact S4
      isplitl [S5]; · iexists f5; iexact S5
      isplitl [S6]; · iexists f6; iexact S6
      isplitl [S7]; · iexists f7; iexact S7
      isplitl [Hb]; · iexact Hb
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [inv_mid W c _ h]
    unfold outAt
    iintro ⟨⟨⟨S0, S1, ⟨%g2, S2⟩, ⟨%g3, S3⟩, ⟨%g4, S4⟩, ⟨%g5, S5⟩, ⟨%g6, S6⟩, ⟨%g7, S7⟩⟩, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_next c Set.univ (grid1.coords t) (fun hf => h ((first_iff t).mp hf)) _ _ _ _ _ _ _ _ _ _ _ _ _ _ _ _ _ _ _ _ _ _ _ _ _ _ _ _ _ _ _ _ _ _ _ _ _ _ (inAt W c t) (carry W c t.val).2 (carry W c t.val).1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; icases H10 with ⟨%f10, -, H10⟩; iexists f10; iexact H10
    isplitl [S0]; · iexact S0
    isplitl [S1]; · iexact S1
    isplitl [S2]
    · iexists g2; simp only [Memref.view_whole, View.set_whole]; iexact S2
    isplitl [S3]
    · iexists g3; simp only [Memref.view_whole, View.set_whole]; iexact S3
    isplitl [S4]
    · iexists g4; simp only [Memref.view_whole, View.set_whole]; iexact S4
    isplitl [S5]
    · iexists g5; simp only [Memref.view_whole, View.set_whole]; iexact S5
    isplitl [S6]
    · iexists g6; simp only [Memref.view_whole, View.set_whole]; iexact S6
    isplitl [S7]
    · iexists g7; simp only [Memref.view_whole, View.set_whole]; iexact S7
    iintro ⟨H0, H1, H2, H3, H4, H5, H6, H7, H8, H9, H10, S0, S1, ⟨%f2, S2⟩, ⟨%f3, S3⟩, ⟨%f4, S4⟩, ⟨%f5, S5⟩, ⟨%f6, S6⟩, ⟨%f7, S7⟩⟩
    isplitl [S0 S1 S2 S3 S4 S5 S6 S7 Hb Hr]
    · iapply (leave W c t)
      simp only [Memref.view_whole, View.set_whole]
      isplitl [S0]; · iexact S0
      isplitl [S1]; · iexact S1
      isplitl [S2]; · iexists f2; iexact S2
      isplitl [S3]; · iexists f3; iexact S3
      isplitl [S4]; · iexists f4; iexact S4
      isplitl [S5]; · iexists f5; iexact S5
      isplitl [S6]; · iexists f6; iexact S6
      isplitl [S7]; · iexists f7; iexact S7
      isplitl [Hb]; · iexact Hb
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem row (t : Fin cfg1.N) : defs₀ (F := F) .tc cfg1.body (cfg1.bodyArgs t (cfg1.slots t)) = bodyAt1 t := by
  unfold defs₀; rw [Defs.onTc_tc]

/-- The body's obligation at every point. -/
theorem obligation (c : Dev nD) : BodyObligation (dat W c) (defs₀ (F := F)) Variants.none () Set.univ := fun t => by
  rw [bigSep_W1, bigSep_W1, row]
  exact triple_restated (sound_body W c t) rfl .rfl fun _ => .rfl

/-- What the region leaves in its output array. -/
def res (c : Dev nD) : Buf (Elt F) ((c : Thread nD τ).loc main_v12) := (dat W c).arrAt 10 cfg1.N

theorem not_out : ∀ w : Fin cfg1.W, w ≠ 10 → (cfg1.win w).isOut = false := by decide

theorem arr_out : Pipeline.arrRef spec1 10 = main_v12 := rfl

/-- The buffers after the region: as before, but for the output array. -/
theorem after_eq (c : Dev nD) : ∀ b ∈ Pipeline.ucRefs τ sig,
    Pipeline.afterRegion (dat W c) (W c) b = Function.update (W c) (Proc.devRef .tc main_v12) (res W c) b := by
  intro b hb
  by_cases e : b = Proc.devRef .tc main_v12
  · subst e
    rw [Function.update_self]
    exact Pipeline.afterRegion_arr (dat W c) (W c) launch1.win.arr_inj 10
  · rw [Function.update_of_ne e]
    by_cases hw : ∃ w, Proc.devRef .tc (Pipeline.arrRef spec1 w) = b
    · obtain ⟨w, rfl⟩ := hw
      refine (Pipeline.afterRegion_arr (dat W c) (W c) launch1.win.arr_inj w).trans (((dat W c).arrAt_in w (not_out w fun h => e ?_) _).trans (A_eq W c w))
      subst h; rfl
    · unfold Pipeline.afterRegion
      exact dif_neg fun ⟨w, h⟩ => hw ⟨w, h.symm⟩

end Cert.KernelIdeal.Reg1

end
-- ==== Proof.Scan2Trip.lean ====
module

public import proofs.«01_k».proof.Proof.ScanSpec

/-! One trip of the scan's inner loop, and the loop by an invariant over the trips. -/

@[expose] public section

set_option maxRecDepth 8192
set_option maxHeartbeats 4000000

noncomputable section

namespace Cert.KernelIdeal.Scan2

open Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The state after trip `k` from the state before it, the two scratches read from memory. -/
def tripRM (arg19 arg20 : Memref sig .tc .vmem S8x16x2048 .f32) (v82 : Vec F S16x2048 .f32) (x15 x16 : Vec F S256x2048 .f32) (x17 x18 : Vec F S256x16 .f32) (k : Fin k2_t1_loop.trips) (acc : Vec F S16x2048 .f32) : Vec F S16x2048 .f32 :=
  hRun (fun s => rowM arg19.view (pA v82 (View.ld x15 (Rect.unit (s := S256x2048) (k2_off1 k) S8x2048.size (k2_off1_inb k)))) s.rev) (fun s => rowM arg20.view (pB (View.ld x16 (Rect.unit (s := S256x2048) (k2_off1 k) S8x2048.size (k2_off1_inb k))) (View.ld x17 (Rect.unit (s := S256x16) (k2_off2 k) S8x16.size (k2_off2_inb k)))) s.rev) acc 8

/-- The rows that trip `k` stores, the two scratches read from memory. -/
def tripYM (arg19 arg20 : Memref sig .tc .vmem S8x16x2048 .f32) (v82 : Vec F S16x2048 .f32) (x15 x16 : Vec F S256x2048 .f32) (x17 x18 : Vec F S256x16 .f32) (k : Fin k2_t1_loop.trips) (acc : Vec F S16x2048 .f32) : Vec F S1x8x2048 .f32 :=
  stackY (View.ld x18 (Rect.unit (s := S256x16) (k2_off2 k) S8x16.size (k2_off2_inb k))) (fun j => hRun (fun s => rowM arg19.view (pA v82 (View.ld x15 (Rect.unit (s := S256x2048) (k2_off1 k) S8x2048.size (k2_off1_inb k)))) s.rev) (fun s => rowM arg20.view (pB (View.ld x16 (Rect.unit (s := S256x2048) (k2_off1 k) S8x2048.size (k2_off1_inb k))) (View.ld x17 (Rect.unit (s := S256x16) (k2_off2 k) S8x16.size (k2_off2_inb k)))) s.rev) acc (8 - j.val))

/-- The state after trip `k` from the state before it. -/
def tripR (v82 : Vec F S16x2048 .f32) (x15 x16 : Vec F S256x2048 .f32) (x17 x18 : Vec F S256x16 .f32) (k : Fin k2_t1_loop.trips) (acc : Vec F S16x2048 .f32) : Vec F S16x2048 .f32 :=
  hRun (fun s => rowV (pA v82 (View.ld x15 (Rect.unit (s := S256x2048) (k2_off1 k) S8x2048.size (k2_off1_inb k)))) s.rev) (fun s => rowV (pB (View.ld x16 (Rect.unit (s := S256x2048) (k2_off1 k) S8x2048.size (k2_off1_inb k))) (View.ld x17 (Rect.unit (s := S256x16) (k2_off2 k) S8x16.size (k2_off2_inb k)))) s.rev) acc 8

/-- The rows that trip `k` stores. -/
def tripY (v82 : Vec F S16x2048 .f32) (x15 x16 : Vec F S256x2048 .f32) (x17 x18 : Vec F S256x16 .f32) (k : Fin k2_t1_loop.trips) (acc : Vec F S16x2048 .f32) : Vec F S1x8x2048 .f32 :=
  stackY (View.ld x18 (Rect.unit (s := S256x16) (k2_off2 k) S8x16.size (k2_off2_inb k))) (fun j => hRun (fun s => rowV (pA v82 (View.ld x15 (Rect.unit (s := S256x2048) (k2_off1 k) S8x2048.size (k2_off1_inb k)))) s.rev) (fun s => rowV (pB (View.ld x16 (Rect.unit (s := S256x2048) (k2_off1 k) S8x2048.size (k2_off1_inb k))) (View.ld x17 (Rect.unit (s := S256x16) (k2_off2 k) S8x16.size (k2_off2_inb k)))) s.rev) acc (8 - j.val))

theorem tripRM_eq (arg19 arg20 : Memref sig .tc .vmem S8x16x2048 .f32) (v82 : Vec F S16x2048 .f32) (x15 x16 : Vec F S256x2048 .f32) (x17 x18 : Vec F S256x16 .f32) (k : Fin k2_t1_loop.trips) (acc : Vec F S16x2048 .f32) :
    tripRM arg19 arg20 v82 x15 x16 x17 x18 k acc = tripR v82 x15 x16 x17 x18 k acc := by
  unfold tripRM tripR
  simp only [rowM_pA_fun, rowM_pB_fun]

theorem tripYM_eq (arg19 arg20 : Memref sig .tc .vmem S8x16x2048 .f32) (v82 : Vec F S16x2048 .f32) (x15 x16 : Vec F S256x2048 .f32) (x17 x18 : Vec F S256x16 .f32) (k : Fin k2_t1_loop.trips) (acc : Vec F S16x2048 .f32) :
    tripYM arg19 arg20 v82 x15 x16 x17 x18 k acc = tripY v82 x15 x16 x17 x18 k acc := by
  unfold tripYM tripY
  simp only [rowM_pA_fun, rowM_pB_fun]

/-- The rectangle of rows that trip `k` stores. -/
abbrev tripRect (k : Fin k2_t1_loop.trips) : Rect S1x256x2048 := Rect.unit (s := S1x256x2048) (k2_off3 k) S1x8x2048.size (k2_off3_inb k)

/-- One trip run: it yields `tripR`, stores `tripY` at the trip's rows, keeps what it reads and leaves the two column scratches at anything. -/
theorem trip_run (𝒱 : Variants) (c : Dev nD) (bd : Option 𝒱.V) (i : grid2.Coords) (arg2 : Memref sig .tc .vmem S1x256x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S2048x64 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x256x2048 .f32) (harg12 : arg12.IsWhole) (arg13 : Memref sig .tc .vmem S16x2048 .f32) (harg13 : arg13.IsWhole) (arg14 : Memref sig .tc .vmem S3x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x16 .f32) (harg17 : arg17.IsWhole) (arg18 : Memref sig .tc .vmem S256x16 .f32) (harg18 : arg18.IsWhole) (arg19 : Memref sig .tc .vmem S8x16x2048 .f32) (harg19 : arg19.IsWhole) (arg20 : Memref sig .tc .vmem S8x16x2048 .f32) (harg20 : arg20.IsWhole) (v82 : Vec F S16x2048 .f32)
    (X15 : BufTy.Contents (Elt F) arg15.view.ty) (X16 : BufTy.Contents (Elt F) arg16.view.ty) (X17 : BufTy.Contents (Elt F) arg17.view.ty) (X18 : BufTy.Contents (Elt F) arg18.view.ty) (k : Fin k2_t1_loop.trips) (E : Set ℕ) (acc : Vec F S16x2048 .f32) (f12 : BufTy.Contents (Elt F) arg12.view.ty) (f19 : BufTy.Contents (Elt F) arg19.view.ty) (f20 : BufTy.Contents (Elt F) arg20.view.ty) :
      (iprop((arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg12.view.loc (c : Thread nD τ) ↦[arg12.view.set]{fullShare} f12) ∗ (arg19.view.loc (c : Thread nD τ) ↦[arg19.view.set]{fullShare} f19) ∗ (arg20.view.loc (c : Thread nD τ) ↦[arg20.view.set]{fullShare} f20)) : sProp 𝕄G)
      ⊢ wp frame (wpE (defs₀ (F := F)) 𝒱 (c : Thread nD τ) bd) E (k2_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v82 k acc)
          (fun yld => (iprop(⌜yld = tripRM arg19 arg20 v82 (arg15.view.read (Elt F) X15) (arg16.view.read (Elt F) X16) (arg17.view.read (Elt F) X17) (arg18.view.read (Elt F) X18) k acc⌝ ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18)
            ∗ (arg12.view.loc (c : Thread nD τ) ↦[arg12.view.set]{fullShare} (arg12.view.writes (Elt F) f12 [⟨tripRect k, tripYM arg19 arg20 v82 (arg15.view.read (Elt F) X15) (arg16.view.read (Elt F) X16) (arg17.view.read (Elt F) X17) (arg18.view.read (Elt F) X18) k acc⟩]))
            ∗ (∃ f, (arg19.view.loc (c : Thread nD τ) ↦[arg19.view.set]{fullShare} f)) ∗ (∃ f, (arg20.view.loc (c : Thread nD τ) ↦[arg20.view.set]{fullShare} f))) : sProp 𝕄G)) := by
  have hk : k.val < 32 := Nat.lt_of_lt_of_le k.isLt k2_t1_abs.2.1
  unfold k2_t1_body
  iintro ⟨HR15, HR16, HR17, HR18, HW12, HW19, HW20⟩
  sl_exec
  sl_step
  isplitr
  · ipureintro; rfl
  isplitl [HR15]; · iexact HR15
  isplitl [HR16]; · iexact HR16
  isplitl [HR17]; · iexact HR17
  isplitl [HR18]; · iexact HR18
  isplitl [HW12]; · iexact HW12
  isplitl [HW19]; · iexists _; iexact HW19
  iexists _; iexact HW20

/-- The state before trip `k`, from the state `init` before the loop. -/
def hAt (v82 : Vec F S16x2048 .f32) (x15 x16 : Vec F S256x2048 .f32) (x17 x18 : Vec F S256x16 .f32) (init : Vec F S16x2048 .f32) : ℕ → Vec F S16x2048 .f32
  | 0 => init
  | k + 1 => if h : k < k2_t1_loop.trips then tripR v82 x15 x16 x17 x18 ⟨k, h⟩ (hAt v82 x15 x16 x17 x18 init k) else hAt v82 x15 x16 x17 x18 init k

/-- The rows that the trips before `k` store, the last trip's first. -/
def yPieces (v82 : Vec F S16x2048 .f32) (x15 x16 : Vec F S256x2048 .f32) (x17 x18 : Vec F S256x16 .f32) (init : Vec F S16x2048 .f32) : ℕ → List (View.Piece (Elt F) S1x256x2048 .f32)
  | 0 => []
  | k + 1 => if h : k < k2_t1_loop.trips then ⟨tripRect ⟨k, h⟩, tripY v82 x15 x16 x17 x18 ⟨k, h⟩ (hAt v82 x15 x16 x17 x18 init k)⟩ :: yPieces v82 x15 x16 x17 x18 init k else yPieces v82 x15 x16 x17 x18 init k

theorem hAt_succ (v82 : Vec F S16x2048 .f32) (x15 x16 : Vec F S256x2048 .f32) (x17 x18 : Vec F S256x16 .f32) (init : Vec F S16x2048 .f32) (k : Fin k2_t1_loop.trips) :
    hAt v82 x15 x16 x17 x18 init (k.val + 1) = tripR v82 x15 x16 x17 x18 k (hAt v82 x15 x16 x17 x18 init k.val) := by
  rw [hAt]; exact dif_pos k.isLt

theorem yPieces_succ (v82 : Vec F S16x2048 .f32) (x15 x16 : Vec F S256x2048 .f32) (x17 x18 : Vec F S256x16 .f32) (init : Vec F S16x2048 .f32) (k : Fin k2_t1_loop.trips) :
    yPieces v82 x15 x16 x17 x18 init (k.val + 1) = ⟨tripRect k, tripY v82 x15 x16 x17 x18 k (hAt v82 x15 x16 x17 x18 init k.val)⟩ :: yPieces v82 x15 x16 x17 x18 init k.val := by
  rw [yPieces]; exact dif_pos k.isLt

set_option warn.classDefReducibility false in
/-- The loop by its invariant: before trip `k` the carried state is `hAt k` and the output block holds the rows of the trips before `k`. -/
@[sl_loop] def loopInv (𝒱 : Variants) (c : Dev nD) (bd : Option 𝒱.V) (E : Set ℕ) (i : grid2.Coords) (arg2 : Memref sig .tc .vmem S1x256x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S2048x64 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x256x2048 .f32) (harg12 : arg12.IsWhole) (arg13 : Memref sig .tc .vmem S16x2048 .f32) (harg13 : arg13.IsWhole) (arg14 : Memref sig .tc .vmem S3x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x16 .f32) (harg17 : arg17.IsWhole) (arg18 : Memref sig .tc .vmem S256x16 .f32) (harg18 : arg18.IsWhole) (arg19 : Memref sig .tc .vmem S8x16x2048 .f32) (harg19 : arg19.IsWhole) (arg20 : Memref sig .tc .vmem S8x16x2048 .f32) (harg20 : arg20.IsWhole) (v82 : Vec F S16x2048 .f32)
    (X15 : BufTy.Contents (Elt F) arg15.view.ty) (X16 : BufTy.Contents (Elt F) arg16.view.ty) (X17 : BufTy.Contents (Elt F) arg17.view.ty) (X18 : BufTy.Contents (Elt F) arg18.view.ty) (G12 : BufTy.Contents (Elt F) arg12.view.ty) (init : Vec F S16x2048 .f32) :
    Idealize.ShloMosaic.LoopInv (M := 𝕄G) Idealize.ShloMosaic.frame (wpE defs₀ 𝒱 (c : Thread nD τ) bd) E
      k2_t1_loop.lb k2_t1_loop.ub k2_t1_loop.st k2_t1_ok init (k2_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v82) where
  inv k acc := iprop((arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (∃ f, (arg12.view.loc (c : Thread nD τ) ↦[arg12.view.set]{fullShare} f) ∗ ⌜f = arg12.view.writes (Elt F) G12 (yPieces v82 (arg15.view.read (Elt F) X15) (arg16.view.read (Elt F) X16) (arg17.view.read (Elt F) X17) (arg18.view.read (Elt F) X18) init k)⌝)
    ∗ (∃ f, (arg19.view.loc (c : Thread nD τ) ↦[arg19.view.set]{fullShare} f)) ∗ (∃ f, (arg20.view.loc (c : Thread nD τ) ↦[arg20.view.set]{fullShare} f)) ∗ ⌜acc = hAt v82 (arg15.view.read (Elt F) X15) (arg16.view.read (Elt F) X16) (arg17.view.read (Elt F) X17) (arg18.view.read (Elt F) X18) init k⌝)
  step k acc := by
    iintro ⟨HR15, HR16, HR17, HR18, ⟨%f12, HW12, %h12⟩, ⟨%f19, HW19⟩, ⟨%f20, HW20⟩, %hacc⟩
    subst hacc
    iapply (wp_wand_r Idealize.ShloMosaic.frame (wpE (defs₀ (F := F)) 𝒱 (c : Thread nD τ) bd) E)
    isplitl [HR15 HR16 HR17 HR18 HW12 HW19 HW20]
    · iapply (trip_run (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v82 X15 X16 X17 X18 k E (hAt v82 (arg15.view.read (Elt F) X15) (arg16.view.read (Elt F) X16) (arg17.view.read (Elt F) X17) (arg18.view.read (Elt F) X18) init k.val) f12 f19 f20)
      isplitl [HR15]; · iexact HR15
      isplitl [HR16]; · iexact HR16
      isplitl [HR17]; · iexact HR17
      isplitl [HR18]; · iexact HR18
      isplitl [HW12]; · iexact HW12
      isplitl [HW19]; · iexact HW19
      iexact HW20
    · iintro %yld ⟨%hres, HR15, HR16, HR17, HR18, HW12, HW19, HW20⟩
      isplitl [HR15]; · iexact HR15
      isplitl [HR16]; · iexact HR16
      isplitl [HR17]; · iexact HR17
      isplitl [HR18]; · iexact HR18
      isplitl [HW12]
      · iexists _; isplitl [HW12]; · iexact HW12
        ipureintro; rw [h12, yPieces_succ, tripYM_eq]; rfl
      isplitl [HW19]; · iexact HW19
      isplitl [HW20]; · iexact HW20
      ipureintro; rw [hres, hAt_succ, tripRM_eq]

end Cert.KernelIdeal.Scan2
-- ==== Proof.Scan2Body.lean ====
module

public import proofs.«01_k».proof.Proof.Scan2Trip
public import Idealize.ShloMosaic.Lib.VecWindow

/-! One grid point of the scan: from a chunk's inputs, the kept state and the kept rows, the chunk's outputs,
the next state and the next kept rows. -/

@[expose] public section

set_option maxRecDepth 16384
set_option maxHeartbeats 4000000

noncomputable section

namespace Cert.KernelIdeal.Scan2

open Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem trips_eq : k2_t1_loop.trips = 32 := by decide

theorem trips_eq' : Scf.trips k2_t1_loop.lb k2_t1_loop.ub k2_t1_loop.st = 32 := by decide

/-- The chunk's activated convolution. -/
def uV (I : In F) (halo : Vec F S3x2048 .f32) : FVec F S256x2048 .f32 := act (conv (fullB I.x halo) I.cb I.taps)

/-- The state after the chunk's first `n` trips. -/
def hV (I : In F) (halo : Vec F S3x2048 .f32) (h : Vec F S16x2048 .f32) (n : ℕ) : Vec F S16x2048 .f32 :=
  hAt I.nA (dtV I (uV I halo)) (dtuV I (uV I halo)) (proj16 (uV I halo) I.wB) (proj16 (uV I halo) I.wC) h n

/-- The rows stored by the chunk's first `n` trips. -/
def yV (I : In F) (halo : Vec F S3x2048 .f32) (h : Vec F S16x2048 .f32) (n : ℕ) : List (View.Piece (Elt F) S1x256x2048 .f32) :=
  yPieces I.nA (dtV I (uV I halo)) (dtuV I (uV I halo)) (proj16 (uV I halo) I.wB) (proj16 (uV I halo) I.wC) h n

/-- The state kept after the chunk. -/
def hOut (I : In F) (halo : Vec F S3x2048 .f32) (h : Vec F S16x2048 .f32) : Vec F S16x2048 .f32 := keepH (hV I halo h 32)

/-- The chunk's outputs. -/
def yOut (I : In F) (halo : Vec F S3x2048 .f32) (h : Vec F S16x2048 .f32) : Vec F S1x256x2048 .f32 :=
  outY (uV I halo) (View.canon (yV I halo h 32)) I.dv

/-- The rows of every trip before the `n`-th are among the pieces. -/
theorem mem_yPieces (v82 : Vec F S16x2048 .f32) (x15 x16 : Vec F S256x2048 .f32) (x17 x18 : Vec F S256x16 .f32) (init : Vec F S16x2048 .f32) (n : ℕ) (hn : n ≤ k2_t1_loop.trips) (j : Fin k2_t1_loop.trips) (hj : j.val < n) :
    ⟨tripRect j, tripY v82 x15 x16 x17 x18 j (hAt v82 x15 x16 x17 x18 init j.val)⟩ ∈ yPieces v82 x15 x16 x17 x18 init n := by
  induction n with
  | zero => omega
  | succ n ih =>
    rw [yPieces_succ v82 x15 x16 x17 x18 init (⟨n, hn⟩ : Fin k2_t1_loop.trips)]
    rcases Nat.lt_succ_iff_lt_or_eq.mp hj with h | h
    · exact List.mem_cons_of_mem _ (ih (by omega) h)
    · have : j = ⟨n, hn⟩ := Fin.ext h
      subst this; exact List.mem_cons_self

/-- The trips' rows fill the block. -/
theorem cover_y (v82 : Vec F S16x2048 .f32) (x15 x16 : Vec F S256x2048 .f32) (x17 x18 : Vec F S256x16 .f32) (init : Vec F S16x2048 .f32) (y : S1x256x2048.Idx) :
    ∃ p ∈ yPieces v82 x15 x16 x17 x18 init 32, y ∈ p.1.set := by
  have h0 : (y 0).val < 1 := (y 0).isLt
  have h1 : (y 1).val < 256 := (y 1).isLt
  have h2 : (y 2).val < 2048 := (y 2).isLt
  have hj : 31 - (y 1).val / 8 < k2_t1_loop.trips := by rw [trips_eq]; omega
  refine ⟨_, mem_yPieces v82 x15 x16 x17 x18 init 32 (le_of_eq trips_eq.symm) ⟨_, hj⟩ (by show _ < 32; rw [trips_eq] at hj; exact hj), ?_⟩
  rw [Rect.mem_set_unit, k2_off3_eq]
  intro a
  fin_cases a <;> simp [S1x8x2048] <;> omega

theorem pay_u (x : Vec F S1x256x2048 .f32) (halo : Vec F S3x2048 .f32) (cb : Vec F S1x2048 .f32) (w : Vec F S4x2048 .f32) :
    k2_pay81 (k2_pay79 x halo cb (View.ld w (Rect.unit (s := S4x2048) ![0, 0] S1x2048.size inb_S4x2048_S1x2048_0_0)) (View.ld w (Rect.unit (s := S4x2048) ![1, 0] S1x2048.size inb_S4x2048_S1x2048_1_0)) (View.ld w (Rect.unit (s := S4x2048) ![2, 0] S1x2048.size inb_S4x2048_S1x2048_2_0)))
      (k2_pay80 x halo (View.ld w (Rect.unit (s := S4x2048) ![3, 0] S1x2048.size inb_S4x2048_S1x2048_3_0))) = act (conv (fullB x halo) cb w) := rfl

theorem pay_dt (I : In F) (a b : FVec F S256x2048 .f32) :
    k2_pay1 (k2_pay82 a b I.wdt I.dtw I.dtb) = dtV I (k2_pay81 a b) := rfl

theorem pay_dtu (I : In F) (a b : FVec F S256x2048 .f32) :
    k2_pay2 (k2_pay81 a b) (k2_pay82 a b I.wdt I.dtw I.dtb) = dtuV I (k2_pay81 a b) := rfl

theorem pay_B (a b : FVec F S256x2048 .f32) (w : Vec F S16x2048 .f32) :
    k2_pay83 a b w = proj16 (k2_pay81 a b) w := rfl

theorem pay_C (a b : FVec F S256x2048 .f32) (w : Vec F S16x2048 .f32) :
    k2_pay84 a b w = proj16 (k2_pay81 a b) w := rfl

theorem pay_h (h : Vec F S16x2048 .f32) : k2_pay6 h = keepH h := rfl

theorem pay_y (u : FVec F S256x2048 .f32) (y : Vec F S1x256x2048 .f32) (v : Vec F S1x2048 .f32) : k2_pay7 u y v = outY u y v := rfl

theorem pay_keep (x : Vec F S1x256x2048 .f32) : k2_pay78 x = keepB x := rfl

theorem pay_zh : k2_pay74 (F := F) = zeroH := rfl

theorem pay_zk : k2_pay75 (F := F) = zeroK := rfl

theorem fin_h (I : In F) (halo : Vec F S3x2048 .f32) (h : Vec F S16x2048 .f32) :
    k2_pay6 (hAt I.nA (k2_pay1 (k2_pay82 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0))) I.wdt I.dtw I.dtb)) (k2_pay2 (k2_pay81 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0)))) (k2_pay82 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0))) I.wdt I.dtw I.dtb)) (k2_pay83 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0))) I.wB) (k2_pay84 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0))) I.wC) h 32) = hOut I halo h := by
  rw [pay_h, pay_dt, pay_dtu, pay_B, pay_C, pay_u]; rfl

theorem fin_y (I : In F) (halo : Vec F S3x2048 .f32) (h : Vec F S16x2048 .f32) :
    k2_pay7 (k2_pay81 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0)))) (View.canon (yPieces I.nA (k2_pay1 (k2_pay82 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0))) I.wdt I.dtw I.dtb)) (k2_pay2 (k2_pay81 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0)))) (k2_pay82 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0))) I.wdt I.dtw I.dtb)) (k2_pay83 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0))) I.wB) (k2_pay84 (k2_pay79 I.x halo I.cb (View.ld I.taps (Rect.unit (s := S4x2048) ![0, 0] S1x2048.size inb_S4x2048_S1x2048_0_0)) (View.ld I.taps (Rect.unit (s := S4x2048) ![1, 0] S1x2048.size inb_S4x2048_S1x2048_1_0)) (View.ld I.taps (Rect.unit (s := S4x2048) ![2, 0] S1x2048.size inb_S4x2048_S1x2048_2_0))) (k2_pay80 I.x halo (View.ld I.taps (Rect.unit (s := S4x2048) ![3, 0] S1x2048.size inb_S4x2048_S1x2048_3_0))) I.wC) h 32)) I.dv = yOut I halo h := by
  rw [pay_y, pay_dt, pay_dtu, pay_B, pay_C, pay_u]; rfl

/-- The whole block read back after the trips. -/
theorem cov_y (v : View sig .tc .vmem S1x256x2048 .f32) (v82 : Vec F S16x2048 .f32) (x15 x16 : Vec F S256x2048 .f32) (x17 x18 : Vec F S256x16 .f32) (init : Vec F S16x2048 .f32) :
    v.readCov (yPieces v82 x15 x16 x17 x18 init 32) (Rect.unit (s := S1x256x2048) ![0, 0, 0] S1x256x2048.size inb_S1x256x2048_S1x256x2048_0_0_0).toLoadRect
      = View.canon (yPieces v82 x15 x16 x17 x18 init 32) := by
  rw [View.readCov_eq_canon_ld _ _ _ (cover_y v82 x15 x16 x17 x18 init)]
  funext y
  refine congrArg (View.canon (yPieces v82 x15 x16 x17 x18 init 32)) (funext fun a => Fin.ext ?_)
  show (![0, 0, 0] : Fin 3 → ℕ) a + 1 * (y a).val = (y a).val
  have : (![0, 0, 0] : Fin 3 → ℕ) a = 0 := by fin_cases a <;> rfl
  omega

/-- Whether a grid point is the first of its sequence, as the kernel computes it. -/
abbrev first (i : grid2.Coords) : Prop :=
  Scalar.cmpi .ne (Scalar.extui (Scalar.cmpi .eq (BitVec.ofNat 32 (i 1).val) 0#32) : BitVec 32) 0#32 = 1#1

/-- The kernel at the first point of a sequence. -/
theorem run_first (c : Dev nD) (E : Set ℕ) (i : grid2.Coords) (hc : first i) (arg2 : Memref sig .tc .vmem S1x256x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S2048x64 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x256x2048 .f32) (harg12 : arg12.IsWhole) (arg13 : Memref sig .tc .vmem S16x2048 .f32) (harg13 : arg13.IsWhole) (arg14 : Memref sig .tc .vmem S3x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x16 .f32) (harg17 : arg17.IsWhole) (arg18 : Memref sig .tc .vmem S256x16 .f32) (harg18 : arg18.IsWhole) (arg19 : Memref sig .tc .vmem S8x16x2048 .f32) (harg19 : arg19.IsWhole) (arg20 : Memref sig .tc .vmem S8x16x2048 .f32) (harg20 : arg20.IsWhole) (I : In F) (K : PUnit → sProp 𝕄G) :
    (iprop(owns (c : Thread nD τ) arg2 fullShare I.x ∗ owns (c : Thread nD τ) arg3 fullShare I.taps ∗ owns (c : Thread nD τ) arg4 fullShare I.cb ∗ owns (c : Thread nD τ) arg5 fullShare I.wdt ∗ owns (c : Thread nD τ) arg6 fullShare I.wB ∗ owns (c : Thread nD τ) arg7 fullShare I.wC ∗ owns (c : Thread nD τ) arg8 fullShare I.dtw ∗ owns (c : Thread nD τ) arg9 fullShare I.dtb ∗ owns (c : Thread nD τ) arg10 fullShare I.nA ∗ owns (c : Thread nD τ) arg11 fullShare I.dv ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))
      ∗ (iprop(owns (c : Thread nD τ) arg2 fullShare I.x ∗ owns (c : Thread nD τ) arg3 fullShare I.taps ∗ owns (c : Thread nD τ) arg4 fullShare I.cb ∗ owns (c : Thread nD τ) arg5 fullShare I.wdt ∗ owns (c : Thread nD τ) arg6 fullShare I.wB ∗ owns (c : Thread nD τ) arg7 fullShare I.wC ∗ owns (c : Thread nD τ) arg8 fullShare I.dtw ∗ owns (c : Thread nD τ) arg9 fullShare I.dtb ∗ owns (c : Thread nD τ) arg10 fullShare I.nA ∗ owns (c : Thread nD τ) arg11 fullShare I.dv ∗ owns (c : Thread nD τ) arg12 fullShare (yOut I zeroK zeroH) ∗ owns (c : Thread nD τ) arg13 fullShare (hOut I zeroK zeroH) ∗ owns (c : Thread nD τ) arg14 fullShare (keepB I.x) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩)) : sProp 𝕄G)
      ⊢ wp frame (wpE (defs₀ (F := F)) Variants.none (c : Thread nD τ) none) E (cc2_bimamba_scan_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  obtain ⟨x, taps, cb, wdt, wB, wC, dtw, dtb, nA, dv⟩ := I
  simp only [cc2_bimamba_scan_bwd_eq_skeleton]; unfold cc2_bimamba_scan_bwd_skel
  unfold owns
  unfold first at hc
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, Hk⟩
  subst hf2 hf3 hf4 hf5 hf6 hf7 hf8 hf9 hf10 hf11
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_run_names
    simp (config := {proj := false, dsimp := false}) only [hc, ↓reduceDIte, View.readAt_full, View.read_writes_full, View.readCov_full, trips_eq', pay_zh, pay_zk]
    rw [cov_y]
    simp (config := {proj := false, dsimp := false}) only [View.readAt_eq_ld]
    exact fin_y ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11⟩ zeroK zeroH
  isplitl [H13]
  · iexists _; isplitr
    swap; · iexact H13
    ipureintro
    sl_unfold_run_names
    simp (config := {proj := false, dsimp := false}) only [hc, ↓reduceDIte, View.readAt_full, View.read_writes_full, View.readCov_full, trips_eq', pay_zh, pay_zk]
    simp (config := {proj := false, dsimp := false}) only [View.readAt_eq_ld]
    exact fin_h ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11⟩ zeroK zeroH
  isplitl [H14]
  · iexists _; isplitr
    swap; · iexact H14
    ipureintro
    sl_unfold_run_names
    simp (config := {proj := false, dsimp := false}) only [hc, ↓reduceDIte, View.readAt_full, View.read_writes_full, View.readCov_full, trips_eq', pay_zh, pay_zk]
    rfl
  isplitl [H15]; · iexists _; iexact H15
  isplitl [H16]; · iexists _; iexact H16
  isplitl [H17]; · iexists _; iexact H17
  isplitl [H18]; · iexists _; iexact H18
  isplitl [H19]; · iexists _; iexact H19
  iexists _; iexact H20

/-- The kernel at a later point, from the kept state `h` and the kept rows `halo`. -/
theorem run_next (c : Dev nD) (E : Set ℕ) (i : grid2.Coords) (hc : ¬ first i) (arg2 : Memref sig .tc .vmem S1x256x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S16x2048 .f32) (harg6 : arg6.IsWhole) (arg7 : Memref sig .tc .vmem S16x2048 .f32) (harg7 : arg7.IsWhole) (arg8 : Memref sig .tc .vmem S2048x64 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x256x2048 .f32) (harg12 : arg12.IsWhole) (arg13 : Memref sig .tc .vmem S16x2048 .f32) (harg13 : arg13.IsWhole) (arg14 : Memref sig .tc .vmem S3x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x16 .f32) (harg17 : arg17.IsWhole) (arg18 : Memref sig .tc .vmem S256x16 .f32) (harg18 : arg18.IsWhole) (arg19 : Memref sig .tc .vmem S8x16x2048 .f32) (harg19 : arg19.IsWhole) (arg20 : Memref sig .tc .vmem S8x16x2048 .f32) (harg20 : arg20.IsWhole) (I : In F) (halo : Vec F S3x2048 .f32) (h : Vec F S16x2048 .f32) (K : PUnit → sProp 𝕄G) :
    (iprop(owns (c : Thread nD τ) arg2 fullShare I.x ∗ owns (c : Thread nD τ) arg3 fullShare I.taps ∗ owns (c : Thread nD τ) arg4 fullShare I.cb ∗ owns (c : Thread nD τ) arg5 fullShare I.wdt ∗ owns (c : Thread nD τ) arg6 fullShare I.wB ∗ owns (c : Thread nD τ) arg7 fullShare I.wC ∗ owns (c : Thread nD τ) arg8 fullShare I.dtw ∗ owns (c : Thread nD τ) arg9 fullShare I.dtb ∗ owns (c : Thread nD τ) arg10 fullShare I.nA ∗ owns (c : Thread nD τ) arg11 fullShare I.dv ∗ (∃ f, (arg12.view.loc (c : Thread nD τ) ↦[arg12.view.set]{fullShare} f)) ∗ owns (c : Thread nD τ) arg13 fullShare h ∗ owns (c : Thread nD τ) arg14 fullShare halo ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))
      ∗ (iprop(owns (c : Thread nD τ) arg2 fullShare I.x ∗ owns (c : Thread nD τ) arg3 fullShare I.taps ∗ owns (c : Thread nD τ) arg4 fullShare I.cb ∗ owns (c : Thread nD τ) arg5 fullShare I.wdt ∗ owns (c : Thread nD τ) arg6 fullShare I.wB ∗ owns (c : Thread nD τ) arg7 fullShare I.wC ∗ owns (c : Thread nD τ) arg8 fullShare I.dtw ∗ owns (c : Thread nD τ) arg9 fullShare I.dtb ∗ owns (c : Thread nD τ) arg10 fullShare I.nA ∗ owns (c : Thread nD τ) arg11 fullShare I.dv ∗ owns (c : Thread nD τ) arg12 fullShare (yOut I halo h) ∗ owns (c : Thread nD τ) arg13 fullShare (hOut I halo h) ∗ owns (c : Thread nD τ) arg14 fullShare (keepB I.x) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) -∗ K ⟨⟩)) : sProp 𝕄G)
      ⊢ wp frame (wpE (defs₀ (F := F)) Variants.none (c : Thread nD τ) none) E (cc2_bimamba_scan_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  obtain ⟨x, taps, cb, wdt, wB, wC, dtw, dtb, nA, dv⟩ := I
  simp only [cc2_bimamba_scan_bwd_eq_skeleton]; unfold cc2_bimamba_scan_bwd_skel
  unfold owns
  unfold first at hc
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, H12⟩, ⟨%f13, %hf13, H13⟩, ⟨%f14, %hf14, H14⟩, ⟨%f15, H15⟩, ⟨%f16, H16⟩, ⟨%f17, H17⟩, ⟨%f18, H18⟩, ⟨%f19, H19⟩, ⟨%f20, H20⟩, Hk⟩
  subst hf2 hf3 hf4 hf5 hf6 hf7 hf8 hf9 hf10 hf11 hf13 hf14
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_run_names
    simp (config := {proj := false, dsimp := false}) only [hc, ↓reduceDIte, View.readAt_full, View.read_writes_full, View.readCov_full, trips_eq']
    rw [cov_y]
    simp (config := {proj := false, dsimp := false}) only [View.readAt_eq_ld]
    exact fin_y ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11⟩ (arg14.view.read (Elt F) f14) (arg13.view.read (Elt F) f13)
  isplitl [H13]
  · iexists _; isplitr
    swap; · iexact H13
    ipureintro
    sl_unfold_run_names
    simp (config := {proj := false, dsimp := false}) only [hc, ↓reduceDIte, View.readAt_full, View.read_writes_full, View.readCov_full, trips_eq']
    simp (config := {proj := false, dsimp := false}) only [View.readAt_eq_ld]
    exact fin_h ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11⟩ (arg14.view.read (Elt F) f14) (arg13.view.read (Elt F) f13)
  isplitl [H14]
  · iexists _; isplitr
    swap; · iexact H14
    ipureintro
    sl_unfold_run_names
    simp (config := {proj := false, dsimp := false}) only [hc, ↓reduceDIte, View.readAt_full, View.read_writes_full, View.readCov_full, trips_eq']
    rfl
  isplitl [H15]; · iexists _; iexact H15
  isplitl [H16]; · iexists _; iexact H16
  isplitl [H17]; · iexists _; iexact H17
  isplitl [H18]; · iexists _; iexact H18
  isplitl [H19]; · iexists _; iexact H19
  iexists _; iexact H20

end Cert.KernelIdeal.Scan2
-- ==== Proof.Reg2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Regions
public import Idealize.ShloMosaic.Lib.Pipeline.RegionArraysS
public import proofs.«01_k».proof.Proof.Scan2Body

/-! Region 2 of the program: its proof data over the buffers it finds, its body with the state and rows it carries from point to point, and what it leaves. -/

@[expose] public section

set_option maxRecDepth 16384

noncomputable section

namespace Cert.KernelIdeal.Reg2

open Cert.KernelIdeal.Gen Cert.KernelIdeal.Scan Cert.KernelIdeal.Scan2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- Core `c`'s buffers at the region's entry. -/
abbrev V (W : Dev nD → Valuation τ sig (Elt F)) (c : Dev nD) (b : Ref sig .tc) : Buf (Elt F) ((c : Thread nD τ).loc b) := W c (Proc.devRef .tc b)

variable (W : Dev nD → Valuation τ sig (Elt F))

/-- The block of window `w` at point `t`, as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V W c (Pipeline.arrRef spec2 w))

/-- Input 0 is staged at its block at every point. -/
theorem staged_0 {c : Dev nD} (dat : Dat τ (Elt F) Unit ℕ (UR sig nD τ) ℕ cfg2 c) (hA : dat.A 0 = V W c (Pipeline.arrRef spec2 0))
    (hafter : ∀ t, dat.after 0 t = iblk W c 0 t) (t : Fin cfg2.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1 is staged at its block at every point. -/
theorem staged_1 {c : Dev nD} (dat : Dat τ (Elt F) Unit ℕ (UR sig nD τ) ℕ cfg2 c) (hA : dat.A 1 = V W c (Pipeline.arrRef spec2 1))
    (hafter : ∀ t, dat.after 1 t = iblk W c 1 t) (t : Fin cfg2.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2 is staged at its block at every point. -/
theorem staged_2 {c : Dev nD} (dat : Dat τ (Elt F) Unit ℕ (UR sig nD τ) ℕ cfg2 c) (hA : dat.A 2 = V W c (Pipeline.arrRef spec2 2))
    (hafter : ∀ t, dat.after 2 t = iblk W c 2 t) (t : Fin cfg2.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3 is staged at its block at every point. -/
theorem staged_3 {c : Dev nD} (dat : Dat τ (Elt F) Unit ℕ (UR sig nD τ) ℕ cfg2 c) (hA : dat.A 3 = V W c (Pipeline.arrRef spec2 3))
    (hafter : ∀ t, dat.after 3 t = iblk W c 3 t) (t : Fin cfg2.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4 is staged at its block at every point. -/
theorem staged_4 {c : Dev nD} (dat : Dat τ (Elt F) Unit ℕ (UR sig nD τ) ℕ cfg2 c) (hA : dat.A 4 = V W c (Pipeline.arrRef spec2 4))
    (hafter : ∀ t, dat.after 4 t = iblk W c 4 t) (t : Fin cfg2.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5 is staged at its block at every point. -/
theorem staged_5 {c : Dev nD} (dat : Dat τ (Elt F) Unit ℕ (UR sig nD τ) ℕ cfg2 c) (hA : dat.A 5 = V W c (Pipeline.arrRef spec2 5))
    (hafter : ∀ t, dat.after 5 t = iblk W c 5 t) (t : Fin cfg2.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6 is staged at its block at every point. -/
theorem staged_6 {c : Dev nD} (dat : Dat τ (Elt F) Unit ℕ (UR sig nD τ) ℕ cfg2 c) (hA : dat.A 6 = V W c (Pipeline.arrRef spec2 6))
    (hafter : ∀ t, dat.after 6 t = iblk W c 6 t) (t : Fin cfg2.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7 is staged at its block at every point. -/
theorem staged_7 {c : Dev nD} (dat : Dat τ (Elt F) Unit ℕ (UR sig nD τ) ℕ cfg2 c) (hA : dat.A 7 = V W c (Pipeline.arrRef spec2 7))
    (hafter : ∀ t, dat.after 7 t = iblk W c 7 t) (t : Fin cfg2.N) (d) : dat.before 7 t d = iblk W c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8 is staged at its block at every point. -/
theorem staged_8 {c : Dev nD} (dat : Dat τ (Elt F) Unit ℕ (UR sig nD τ) ℕ cfg2 c) (hA : dat.A 8 = V W c (Pipeline.arrRef spec2 8))
    (hafter : ∀ t, dat.after 8 t = iblk W c 8 t) (t : Fin cfg2.N) (d) : dat.before 8 t d = iblk W c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9 is staged at its block at every point. -/
theorem staged_9 {c : Dev nD} (dat : Dat τ (Elt F) Unit ℕ (UR sig nD τ) ℕ cfg2 c) (hA : dat.A 9 = V W c (Pipeline.arrRef spec2 9))
    (hafter : ∀ t, dat.after 9 t = iblk W c 9 t) (t : Fin cfg2.N) (d) : dat.before 9 t d = iblk W c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Point `n` of the grid, for any natural number. -/
def pt (n : ℕ) : Fin cfg2.N := ⟨n % 32, lt_of_lt_of_eq (Nat.mod_lt _ (by norm_num)) N_2.symm⟩

theorem pt_val (t : Fin cfg2.N) : pt t.val = t := Fin.ext (Nat.mod_eq_of_lt (lt_of_lt_of_eq t.isLt N_2))

/-- What the scan reads at point `t`. -/
def inAt (c : Dev nD) (t : Fin cfg2.N) : In F where
  x := iblk W c 0 t
  taps := iblk W c 1 t
  cb := iblk W c 2 t
  wdt := iblk W c 3 t
  wB := iblk W c 4 t
  wC := iblk W c 5 t
  dtw := iblk W c 6 t
  dtb := iblk W c 7 t
  nA := iblk W c 8 t
  dv := iblk W c 9 t

/-- The state and the kept rows that point `n` starts from. -/
def carry (c : Dev nD) : ℕ → Vec F S16x2048 .f32 × Vec F S3x2048 .f32
  | 0 => (zeroH, zeroK)
  | n + 1 => if (n + 1) % 16 = 0 then (zeroH, zeroK) else
      (hOut (inAt W c (pt n)) (carry c n).2 (carry c n).1, keepB (inAt W c (pt n)).x)

/-- The outputs of point `t`. -/
def outAt (c : Dev nD) (t : Fin cfg2.N) : Vec F S1x256x2048 .f32 :=
  yOut (inAt W c t) (carry W c t.val).2 (carry W c t.val).1

/-- The invariant before point `n`: inside a sequence the state and the kept rows are held. -/
def inv (c : Dev nD) (n : ℕ) : sProp 𝕄G :=
  if n % 16 = 0 then Pipeline.ΦA spec2 c else
  iprop((owns (c : Thread nD τ) (Memref.whole cc2_scratch0) fullShare (carry W c n).1 ∗ owns (c : Thread nD τ) (Memref.whole cc2_scratch1) fullShare (carry W c n).2
     ∗ (∃ f : Buf (Elt F) ((c : Thread nD τ).loc cc2_scratch2), ((c : Thread nD τ).loc cc2_scratch2) ↦{fullShare} f) ∗ (∃ f : Buf (Elt F) ((c : Thread nD τ).loc cc2_scratch3), ((c : Thread nD τ).loc cc2_scratch3) ↦{fullShare} f) ∗ (∃ f : Buf (Elt F) ((c : Thread nD τ).loc cc2_scratch4), ((c : Thread nD τ).loc cc2_scratch4) ↦{fullShare} f) ∗ (∃ f : Buf (Elt F) ((c : Thread nD τ).loc cc2_scratch5), ((c : Thread nD τ).loc cc2_scratch5) ↦{fullShare} f) ∗ (∃ f : Buf (Elt F) ((c : Thread nD τ).loc cc2_scratch6), ((c : Thread nD τ).loc cc2_scratch6) ↦{fullShare} f) ∗ (∃ f : Buf (Elt F) ((c : Thread nD τ).loc cc2_scratch7), ((c : Thread nD τ).loc cc2_scratch7) ↦{fullShare} f))
    ∗ Pipeline.scopedRestBut (Ix := Unit) (Name := ℕ) (U := UR sig nD τ) (Lvl := ℕ) (Val := Elt F) spec2 c [cc2_scratch0, cc2_scratch1, cc2_scratch2, cc2_scratch3, cc2_scratch4, cc2_scratch5, cc2_scratch6, cc2_scratch7] ∗ (∃ r, prngReg c r))

theorem inv_mid (c : Dev nD) (n : ℕ) (h : ¬ n % 16 = 0) : inv W c n = iprop((owns (c : Thread nD τ) (Memref.whole cc2_scratch0) fullShare (carry W c n).1 ∗ owns (c : Thread nD τ) (Memref.whole cc2_scratch1) fullShare (carry W c n).2
     ∗ (∃ f : Buf (Elt F) ((c : Thread nD τ).loc cc2_scratch2), ((c : Thread nD τ).loc cc2_scratch2) ↦{fullShare} f) ∗ (∃ f : Buf (Elt F) ((c : Thread nD τ).loc cc2_scratch3), ((c : Thread nD τ).loc cc2_scratch3) ↦{fullShare} f) ∗ (∃ f : Buf (Elt F) ((c : Thread nD τ).loc cc2_scratch4), ((c : Thread nD τ).loc cc2_scratch4) ↦{fullShare} f) ∗ (∃ f : Buf (Elt F) ((c : Thread nD τ).loc cc2_scratch5), ((c : Thread nD τ).loc cc2_scratch5) ↦{fullShare} f) ∗ (∃ f : Buf (Elt F) ((c : Thread nD τ).loc cc2_scratch6), ((c : Thread nD τ).loc cc2_scratch6) ↦{fullShare} f) ∗ (∃ f : Buf (Elt F) ((c : Thread nD τ).loc cc2_scratch7), ((c : Thread nD τ).loc cc2_scratch7) ↦{fullShare} f))
    ∗ Pipeline.scopedRestBut (Ix := Unit) (Name := ℕ) (U := UR sig nD τ) (Lvl := ℕ) (Val := Elt F) spec2 c [cc2_scratch0, cc2_scratch1, cc2_scratch2, cc2_scratch3, cc2_scratch4, cc2_scratch5, cc2_scratch6, cc2_scratch7] ∗ (∃ r, prngReg c r)) := if_neg h

theorem inv_start (c : Dev nD) (n : ℕ) (h : n % 16 = 0) : inv W c n = Pipeline.ΦA spec2 c := if_pos h

theorem carry_start (c : Dev nD) (n : ℕ) (h : n % 16 = 0) : carry W c n = (zeroH, zeroK) := by
  cases n with
  | zero => rfl
  | succ n => exact if_pos h

theorem carry_next (c : Dev nD) (n : ℕ) (h : ¬ (n + 1) % 16 = 0) : carry W c (n + 1) =
    (hOut (inAt W c (pt n)) (carry W c n).2 (carry W c n).1, keepB (inAt W c (pt n)).x) := if_neg h

/-- The region's proof data. -/
def dat (c : Dev nD) : Dat τ (Elt F) Unit ℕ (UR sig nD τ) ℕ cfg2 c where
  A w := V W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => outAt W c t
  Φ n := inv W c n.val
  q _ := fullShare
  owed _ := 0

theorem A_eq (c : Dev nD) (w : Fin cfg2.W) : (dat W c).A w = V W c (Pipeline.arrRef spec2 w) := by dsimp only [dat]
theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = iblk W c 2 t := by dsimp only [dat]
theorem after_3 (c : Dev nD) (t : Fin cfg2.N) : (dat W c).after 3 t = iblk W c 3 t := by dsimp only [dat]
theorem after_4 (c : Dev nD) (t : Fin cfg2.N) : (dat W c).after 4 t = iblk W c 4 t := by dsimp only [dat]
theorem after_5 (c : Dev nD) (t : Fin cfg2.N) : (dat W c).after 5 t = iblk W c 5 t := by dsimp only [dat]
theorem after_6 (c : Dev nD) (t : Fin cfg2.N) : (dat W c).after 6 t = iblk W c 6 t := by dsimp only [dat]
theorem after_7 (c : Dev nD) (t : Fin cfg2.N) : (dat W c).after 7 t = iblk W c 7 t := by dsimp only [dat]
theorem after_8 (c : Dev nD) (t : Fin cfg2.N) : (dat W c).after 8 t = iblk W c 8 t := by dsimp only [dat]
theorem after_9 (c : Dev nD) (t : Fin cfg2.N) : (dat W c).after 9 t = iblk W c 9 t := by dsimp only [dat]
theorem after_10 (c : Dev nD) (t : Fin cfg2.N) : (dat W c).after 10 t = outAt W c t := by dsimp only [dat]
theorem before_0 (c : Dev nD) (t : Fin cfg2.N) (d) : (dat W c).before 0 t d = iblk W c 0 t :=
  staged_0 W (dat W c) (A_eq W c 0) (after_0 W c) t d
theorem before_1 (c : Dev nD) (t : Fin cfg2.N) (d) : (dat W c).before 1 t d = iblk W c 1 t :=
  staged_1 W (dat W c) (A_eq W c 1) (after_1 W c) t d
theorem before_2 (c : Dev nD) (t : Fin cfg2.N) (d) : (dat W c).before 2 t d = iblk W c 2 t :=
  staged_2 W (dat W c) (A_eq W c 2) (after_2 W c) t d
theorem before_3 (c : Dev nD) (t : Fin cfg2.N) (d) : (dat W c).before 3 t d = iblk W c 3 t :=
  staged_3 W (dat W c) (A_eq W c 3) (after_3 W c) t d
theorem before_4 (c : Dev nD) (t : Fin cfg2.N) (d) : (dat W c).before 4 t d = iblk W c 4 t :=
  staged_4 W (dat W c) (A_eq W c 4) (after_4 W c) t d
theorem before_5 (c : Dev nD) (t : Fin cfg2.N) (d) : (dat W c).before 5 t d = iblk W c 5 t :=
  staged_5 W (dat W c) (A_eq W c 5) (after_5 W c) t d
theorem before_6 (c : Dev nD) (t : Fin cfg2.N) (d) : (dat W c).before 6 t d = iblk W c 6 t :=
  staged_6 W (dat W c) (A_eq W c 6) (after_6 W c) t d
theorem before_7 (c : Dev nD) (t : Fin cfg2.N) (d) : (dat W c).before 7 t d = iblk W c 7 t :=
  staged_7 W (dat W c) (A_eq W c 7) (after_7 W c) t d
theorem before_8 (c : Dev nD) (t : Fin cfg2.N) (d) : (dat W c).before 8 t d = iblk W c 8 t :=
  staged_8 W (dat W c) (A_eq W c 8) (after_8 W c) t d
theorem before_9 (c : Dev nD) (t : Fin cfg2.N) (d) : (dat W c).before 9 t d = iblk W c 9 t :=
  staged_9 W (dat W c) (A_eq W c 9) (after_9 W c) t d

/-- What the body is called with at point `t`, -/
def bodyPre (c : Dev nD) (t : Fin cfg2.N) : sProp 𝕄G :=
  iprop((dat W c).Φ t.castSucc ∗ (dat W c).owesAt () t.castSucc
     ∗ (∃ d, owns (c : Thread nD τ) (st2_0 t) fullShare ((dat W c).before 0 t d)) ∗ (∃ d, owns (c : Thread nD τ) (st2_1 t) fullShare ((dat W c).before 1 t d)) ∗ (∃ d, owns (c : Thread nD τ) (st2_2 t) fullShare ((dat W c).before 2 t d)) ∗ (∃ d, owns (c : Thread nD τ) (st2_3 t) fullShare ((dat W c).before 3 t d)) ∗ (∃ d, owns (c : Thread nD τ) (st2_4 t) fullShare ((dat W c).before 4 t d)) ∗ (∃ d, owns (c : Thread nD τ) (st2_5 t) fullShare ((dat W c).before 5 t d)) ∗ (∃ d, owns (c : Thread nD τ) (st2_6 t) fullShare ((dat W c).before 6 t d)) ∗ (∃ d, owns (c : Thread nD τ) (st2_7 t) fullShare ((dat W c).before 7 t d)) ∗ (∃ d, owns (c : Thread nD τ) (st2_8 t) fullShare ((dat W c).before 8 t d)) ∗ (∃ d, owns (c : Thread nD τ) (st2_9 t) fullShare ((dat W c).before 9 t d)) ∗ (∃ d, owns (c : Thread nD τ) (st2_10 t) fullShare ((dat W c).before 10 t d)))

/-- and what it returns. -/
def bodyPost (c : Dev nD) (t : Fin cfg2.N) : sProp 𝕄G :=
  iprop((dat W c).Φ t.succ ∗ (dat W c).owesAt () t.succ
     ∗ owns (c : Thread nD τ) (st2_0 t) fullShare ((dat W c).after 0 t) ∗ owns (c : Thread nD τ) (st2_1 t) fullShare ((dat W c).after 1 t) ∗ owns (c : Thread nD τ) (st2_2 t) fullShare ((dat W c).after 2 t) ∗ owns (c : Thread nD τ) (st2_3 t) fullShare ((dat W c).after 3 t) ∗ owns (c : Thread nD τ) (st2_4 t) fullShare ((dat W c).after 4 t) ∗ owns (c : Thread nD τ) (st2_5 t) fullShare ((dat W c).after 5 t) ∗ owns (c : Thread nD τ) (st2_6 t) fullShare ((dat W c).after 6 t) ∗ owns (c : Thread nD τ) (st2_7 t) fullShare ((dat W c).after 7 t) ∗ owns (c : Thread nD τ) (st2_8 t) fullShare ((dat W c).after 8 t) ∗ owns (c : Thread nD τ) (st2_9 t) fullShare ((dat W c).after 9 t) ∗ owns (c : Thread nD τ) (st2_10 t) fullShare ((dat W c).after 10 t))

theorem first_iff : ∀ t : Fin grid2.N, first (grid2.coords t) ↔ t.val % 16 = 0 := by decide +kernel

theorem some_0 (c : Dev nD) (X : Vec F S16x2048 .f32) :
    (owns (c : Thread nD τ) (Memref.whole cc2_scratch0) fullShare X : sProp 𝕄G) ⊢ iprop(∃ f : Buf (Elt F) ((c : Thread nD τ).loc cc2_scratch0), ((c : Thread nD τ).loc cc2_scratch0) ↦{fullShare} f) := by
  rw [owns_whole]
  iintro H; iexists X; iexact H

theorem some_1 (c : Dev nD) (X : Vec F S3x2048 .f32) :
    (owns (c : Thread nD τ) (Memref.whole cc2_scratch1) fullShare X : sProp 𝕄G) ⊢ iprop(∃ f : Buf (Elt F) ((c : Thread nD τ).loc cc2_scratch1), ((c : Thread nD τ).loc cc2_scratch1) ↦{fullShare} f) := by
  rw [owns_whole]
  iintro H; iexists X; iexact H

/-- The carried buffers after a point make the next point's invariant. -/
theorem leave (c : Dev nD) (t : Fin cfg2.N) :
    iprop(owns (c : Thread nD τ) (Memref.whole cc2_scratch0) fullShare (hOut (inAt W c t) (carry W c t.val).2 (carry W c t.val).1)
      ∗ owns (c : Thread nD τ) (Memref.whole cc2_scratch1) fullShare (keepB (inAt W c t).x)
       ∗ (∃ f : Buf (Elt F) ((c : Thread nD τ).loc cc2_scratch2), ((c : Thread nD τ).loc cc2_scratch2) ↦{fullShare} f) ∗ (∃ f : Buf (Elt F) ((c : Thread nD τ).loc cc2_scratch3), ((c : Thread nD τ).loc cc2_scratch3) ↦{fullShare} f) ∗ (∃ f : Buf (Elt F) ((c : Thread nD τ).loc cc2_scratch4), ((c : Thread nD τ).loc cc2_scratch4) ↦{fullShare} f) ∗ (∃ f : Buf (Elt F) ((c : Thread nD τ).loc cc2_scratch5), ((c : Thread nD τ).loc cc2_scratch5) ↦{fullShare} f) ∗ (∃ f : Buf (Elt F) ((c : Thread nD τ).loc cc2_scratch6), ((c : Thread nD τ).loc cc2_scratch6) ↦{fullShare} f) ∗ (∃ f : Buf (Elt F) ((c : Thread nD τ).loc cc2_scratch7), ((c : Thread nD τ).loc cc2_scratch7) ↦{fullShare} f)
      ∗ Pipeline.scopedRestBut (Ix := Unit) (Name := ℕ) (U := UR sig nD τ) (Lvl := ℕ) (Val := Elt F) spec2 c [cc2_scratch0, cc2_scratch1, cc2_scratch2, cc2_scratch3, cc2_scratch4, cc2_scratch5, cc2_scratch6, cc2_scratch7] ∗ (∃ r, prngReg c r)) ⊢ inv W c (t.val + 1) := by
  by_cases h : (t.val + 1) % 16 = 0
  · rw [inv_start W c _ h]
    unfold Pipeline.ΦA
    rw [scopedRest2_split]
    iintro ⟨S0, S1, S2, S3, S4, S5, S6, S7, Hb, Hr⟩
    ihave T0 := (some_0 c _) $$ S0
    ihave T1 := (some_1 c _) $$ S1
    isplitr [Hr]
    · isplitr [Hb]
      · isplitl [T0]; · iexact T0
        isplitl [T1]; · iexact T1
        isplitl [S2]; · iexact S2
        isplitl [S3]; · iexact S3
        isplitl [S4]; · iexact S4
        isplitl [S5]; · iexact S5
        isplitl [S6]; · iexact S6
        iexact S7
      iexact Hb
    iexact Hr
  · rw [inv_mid W c _ h, carry_next W c _ h, pt_val]
    iintro ⟨S0, S1, S2, S3, S4, S5, S6, S7, Hb, Hr⟩
    isplitr [Hb Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [Hb]; · iexact Hb
    iexact Hr

set_option maxHeartbeats 2000000 in
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before_0, before_1, before_2, before_3, before_4, before_5, before_6, before_7, before_8, before_9]
  rw [show (dat W c).Φ t.succ = inv W c (t.val + 1) from rfl, show (dat W c).Φ t.castSucc = inv W c t.val from rfl,
    show (dat W c).owesAt () t.succ = (dat W c).owesAt () t.castSucc from rfl,
    after_0, after_1, after_2, after_3, after_4, after_5, after_6, after_7, after_8, after_9, after_10]
  by_cases h : t.val % 16 = 0
  · rw [inv_start W c _ h]
    unfold Pipeline.ΦA outAt
    rw [scopedRest2_split, carry_start W c _ h]
    iintro ⟨⟨⟨⟨⟨%g0, S0⟩, ⟨%g1, S1⟩, ⟨%g2, S2⟩, ⟨%g3, S3⟩, ⟨%g4, S4⟩, ⟨%g5, S5⟩, ⟨%g6, S6⟩, ⟨%g7, S7⟩⟩, Hb⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c Set.univ (grid2.coords t) ((first_iff t).mpr h) _ _ _ _ _ _ _ _ _ _ _ _ _ _ _ _ _ _ _ _ _ _ _ _ _ _ _ _ _ _ _ _ _ _ _ _ _ _ (inAt W c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; icases H10 with ⟨%f10, -, H10⟩; iexists f10; iexact H10
    isplitl [S0]
    · iexists g0; simp only [Memref.view_whole, View.set_whole]; iexact S0
    isplitl [S1]
    · iexists g1; simp only [Memref.view_whole, View.set_whole]; iexact S1
    isplitl [S2]
    · iexists g2; simp only [Memref.view_whole, View.set_whole]; iexact S2
    isplitl [S3]
    · iexists g3; simp only [Memref.view_whole, View.set_whole]; iexact S3
    isplitl [S4]
    · iexists g4; simp only [Memref.view_whole, View.set_whole]; iexact S4
    isplitl [S5]
    · iexists g5; simp only [Memref.view_whole, View.set_whole]; iexact S5
    isplitl [S6]
    · iexists g6; simp only [Memref.view_whole, View.set_whole]; iexact S6
    isplitl [S7]
    · iexists g7; simp only [Memref.view_whole, View.set_whole]; iexact S7
    iintro ⟨H0, H1, H2, H3, H4, H5, H6, H7, H8, H9, H10, S0, S1, ⟨%f2, S2⟩, ⟨%f3, S3⟩, ⟨%f4, S4⟩, ⟨%f5, S5⟩, ⟨%f6, S6⟩, ⟨%f7, S7⟩⟩
    isplitl [S0 S1 S2 S3 S4 S5 S6 S7 Hb Hr]
    · iapply (leave W c t)
      rw [carry_start W c _ h]
      simp only [Memref.view_whole, View.set_whole]
      isplitl [S0]; · iexact S0
      isplitl [S1]; · iexact S1
      isplitl [S2]; · iexists f2; iexact S2
      isplitl [S3]; · iexists f3; iexact S3
      isplitl [S4]; · iexists f4; iexact S4
      isplitl [S5]; · iexists f5; iexact S5
      isplitl [S6]; · iexists f6; iexact S6
      isplitl [S7]; · iexists f7; iexact S7
      isplitl [Hb]; · iexact Hb
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [inv_mid W c _ h]
    unfold outAt
    iintro ⟨⟨⟨S0, S1, ⟨%g2, S2⟩, ⟨%g3, S3⟩, ⟨%g4, S4⟩, ⟨%g5, S5⟩, ⟨%g6, S6⟩, ⟨%g7, S7⟩⟩, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_next c Set.univ (grid2.coords t) (fun hf => h ((first_iff t).mp hf)) _ _ _ _ _ _ _ _ _ _ _ _ _ _ _ _ _ _ _ _ _ _ _ _ _ _ _ _ _ _ _ _ _ _ _ _ _ _ (inAt W c t) (carry W c t.val).2 (carry W c t.val).1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; icases H10 with ⟨%f10, -, H10⟩; iexists f10; iexact H10
    isplitl [S0]; · iexact S0
    isplitl [S1]; · iexact S1
    isplitl [S2]
    · iexists g2; simp only [Memref.view_whole, View.set_whole]; iexact S2
    isplitl [S3]
    · iexists g3; simp only [Memref.view_whole, View.set_whole]; iexact S3
    isplitl [S4]
    · iexists g4; simp only [Memref.view_whole, View.set_whole]; iexact S4
    isplitl [S5]
    · iexists g5; simp only [Memref.view_whole, View.set_whole]; iexact S5
    isplitl [S6]
    · iexists g6; simp only [Memref.view_whole, View.set_whole]; iexact S6
    isplitl [S7]
    · iexists g7; simp only [Memref.view_whole, View.set_whole]; iexact S7
    iintro ⟨H0, H1, H2, H3, H4, H5, H6, H7, H8, H9, H10, S0, S1, ⟨%f2, S2⟩, ⟨%f3, S3⟩, ⟨%f4, S4⟩, ⟨%f5, S5⟩, ⟨%f6, S6⟩, ⟨%f7, S7⟩⟩
    isplitl [S0 S1 S2 S3 S4 S5 S6 S7 Hb Hr]
    · iapply (leave W c t)
      simp only [Memref.view_whole, View.set_whole]
      isplitl [S0]; · iexact S0
      isplitl [S1]; · iexact S1
      isplitl [S2]; · iexists f2; iexact S2
      isplitl [S3]; · iexists f3; iexact S3
      isplitl [S4]; · iexists f4; iexact S4
      isplitl [S5]; · iexists f5; iexact S5
      isplitl [S6]; · iexists f6; iexact S6
      isplitl [S7]; · iexists f7; iexact S7
      isplitl [Hb]; · iexact Hb
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem row (t : Fin cfg2.N) : defs₀ (F := F) .tc cfg2.body (cfg2.bodyArgs t (cfg2.slots t)) = bodyAt2 t := by
  unfold defs₀; rw [Defs.onTc_tc]

/-- The body's obligation at every point. -/
theorem obligation (c : Dev nD) : BodyObligation (dat W c) (defs₀ (F := F)) Variants.none () Set.univ := fun t => by
  rw [bigSep_W2, bigSep_W2, row]
  exact triple_restated (sound_body W c t) rfl .rfl fun _ => .rfl

/-- What the region leaves in its output array. -/
def res (c : Dev nD) : Buf (Elt F) ((c : Thread nD τ).loc main_v25) := (dat W c).arrAt 10 cfg2.N

theorem not_out : ∀ w : Fin cfg2.W, w ≠ 10 → (cfg2.win w).isOut = false := by decide

theorem arr_out : Pipeline.arrRef spec2 10 = main_v25 := rfl

/-- The buffers after the region: as before, but for the output array. -/
theorem after_eq (c : Dev nD) : ∀ b ∈ Pipeline.ucRefs τ sig,
    Pipeline.afterRegion (dat W c) (W c) b = Function.update (W c) (Proc.devRef .tc main_v25) (res W c) b := by
  intro b hb
  by_cases e : b = Proc.devRef .tc main_v25
  · subst e
    rw [Function.update_self]
    exact Pipeline.afterRegion_arr (dat W c) (W c) launch2.win.arr_inj 10
  · rw [Function.update_of_ne e]
    by_cases hw : ∃ w, Proc.devRef .tc (Pipeline.arrRef spec2 w) = b
    · obtain ⟨w, rfl⟩ := hw
      refine (Pipeline.afterRegion_arr (dat W c) (W c) launch2.win.arr_inj w).trans (((dat W c).arrAt_in w (not_out w fun h => e ?_) _).trans (A_eq W c w))
      subst h; rfl
    · unfold Pipeline.afterRegion
      exact dif_neg fun ⟨w, h⟩ => hw ⟨w, h.symm⟩

end Cert.KernelIdeal.Reg2

end
-- ==== Proof.Reg3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Regions
public import Idealize.ShloMosaic.Lib.Pipeline.RegionArraysS

/-! Region 3 of the program: its proof data over the buffers it finds, its body, and what it leaves. -/

@[expose] public section

set_option maxRecDepth 16384

noncomputable section

namespace Cert.KernelIdeal.Reg3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-! ## The body's accesses -/

abbrev r3_0 : Rect S1x256x2048 := Rect.unit (s := S1x256x2048) ![0, 0, 0] S1x256x2048.size inb_S1x256x2048_S1x256x2048_0_0_0
abbrev r3_1 : Rect S1x256x1 := Rect.unit (s := S1x256x1) ![0, 0, 0] S1x256x1.size inb_S1x256x1_S1x256x1_0_0_0
abbrev r3_2 : Rect S1024x2048 := Rect.unit (s := S1024x2048) ![0, 0] S1024x2048.size inb_S1024x2048_S1024x2048_0_0
abbrev r3_3 : Rect S1x256x1024 := Rect.unit (s := S1x256x1024) ![0, 0, 0] S1x256x1024.size inb_S1x256x1024_S1x256x1024_0_0_0

/-! ## What the body leaves in each output window's buffer -/

/-- Window 5's staging buffer after the body, from the input windows' blocks: its 1 store as pieces, LAST
    FIRST (Lib/Pipeline/FrameBody.lean `View.canon`; the payloads are the skeleton's). -/
def out_5 (x0 : Vec F S1x256x2048 .f32) (x1 : Vec F S1x256x2048 .f32) (x2 : Vec F S1x256x2048 .f32) (x3 : Vec F S1x256x1 .f32) (x4 : Vec F S1024x2048 .f32) : Vec F S1x256x1024 .f32 :=
  View.canon [⟨r3_3, k3_pay1 (View.ld x2 r3_0) (View.ld x0 r3_0) (View.ld x1 r3_0) (View.ld x3 r3_1) (View.ld x4 r3_2)⟩]

/-- Its stores tile the buffer (checked by evaluation), so they cover it. -/
theorem cover3_5 (p0 : Vec F S1x256x1024 .f32) (y : S1x256x1024.Idx) :
    ∃ pc ∈ ([⟨r3_3, p0⟩] : List (View.Piece (Elt F) S1x256x1024 .f32)), y ∈ pc.1.set :=
  View.cover_of_tiled [⟨r3_3, p0⟩] S1x256x1024.size (by rfl) y

/-! ## The body's triple -/

set_option maxHeartbeats 1000000 in
/-- The kernel body on whole staging memrefs, the inputs' at read contents `xW` and the outputs' at anything, runs to
    the continuation holding the inputs' as they were and each output's at `out_W` of the inputs': the printed functions
    are their skeletons (`Gen.*_eq_skeleton`), which `sl_exec` runs (Lib/Exec.lean), through every part call. -/
theorem sound_kernel (c : Dev nD) (E : Set ℕ) (i : grid3.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x1 .f32) (harg5 : arg5.IsWhole) (arg6 : Memref sig .tc .vmem S1024x2048 .f32) (harg6 : arg6.IsWhole) (arg7 : Memref sig .tc .vmem S1x256x1024 .f32) (harg7 : arg7.IsWhole)
    (x0 : Vec F S1x256x2048 .f32) (x1 : Vec F S1x256x2048 .f32) (x2 : Vec F S1x256x2048 .f32) (x3 : Vec F S1x256x1 .f32) (x4 : Vec F S1024x2048 .f32) (K : PUnit → sProp 𝕄G) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out_5 x0 x1 x2 x3 x4)) -∗ K ⟨⟩))
      ⊢ wp frame (wpE (defs₀ (F := F)) Variants.none c none) E (cc3_bimamba_out_proj i arg2 harg2 arg3 harg3 arg4 harg4 arg5 harg5 arg6 harg6 arg7 harg7) K := by
  simp only [cc3_bimamba_out_proj_eq_skeleton]; unfold cc3_bimamba_out_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- Core `c`'s buffers at the region's entry. -/
abbrev V (W : Dev nD → Valuation τ sig (Elt F)) (c : Dev nD) (b : Ref sig .tc) : Buf (Elt F) ((c : Thread nD τ).loc b) := W c (Proc.devRef .tc b)

variable (W : Dev nD → Valuation τ sig (Elt F))

/-- The block of window `w` at point `t`, as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V W c (Pipeline.arrRef spec3 w))

/-- Input 0 is staged at its block at every point. -/
theorem staged_0 {c : Dev nD} (dat : Dat τ (Elt F) Unit ℕ (UR sig nD τ) ℕ cfg3 c) (hA : dat.A 0 = V W c (Pipeline.arrRef spec3 0))
    (hafter : ∀ t, dat.after 0 t = iblk W c 0 t) (t : Fin cfg3.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1 is staged at its block at every point. -/
theorem staged_1 {c : Dev nD} (dat : Dat τ (Elt F) Unit ℕ (UR sig nD τ) ℕ cfg3 c) (hA : dat.A 1 = V W c (Pipeline.arrRef spec3 1))
    (hafter : ∀ t, dat.after 1 t = iblk W c 1 t) (t : Fin cfg3.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2 is staged at its block at every point. -/
theorem staged_2 {c : Dev nD} (dat : Dat τ (Elt F) Unit ℕ (UR sig nD τ) ℕ cfg3 c) (hA : dat.A 2 = V W c (Pipeline.arrRef spec3 2))
    (hafter : ∀ t, dat.after 2 t = iblk W c 2 t) (t : Fin cfg3.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3 is staged at its block at every point. -/
theorem staged_3 {c : Dev nD} (dat : Dat τ (Elt F) Unit ℕ (UR sig nD τ) ℕ cfg3 c) (hA : dat.A 3 = V W c (Pipeline.arrRef spec3 3))
    (hafter : ∀ t, dat.after 3 t = iblk W c 3 t) (t : Fin cfg3.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4 is staged at its block at every point. -/
theorem staged_4 {c : Dev nD} (dat : Dat τ (Elt F) Unit ℕ (UR sig nD τ) ℕ cfg3 c) (hA : dat.A 4 = V W c (Pipeline.arrRef spec3 4))
    (hafter : ∀ t, dat.after 4 t = iblk W c 4 t) (t : Fin cfg3.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The region's proof data: every input staged at its block, the output at the body's value of them. -/
def dat (c : Dev nD) : Dat τ (Elt F) Unit ℕ (UR sig nD τ) ℕ cfg3 c where
  A w := V W c (Pipeline.arrRef spec3 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => out_5 (iblk W c 0 t) (iblk W c 1 t) (iblk W c 2 t) (iblk W c 3 t) (iblk W c 4 t)
  Φ _ := Pipeline.ΦA spec3 c
  q _ := fullShare
  owed _ := 0

theorem A_eq (c : Dev nD) (w : Fin cfg3.W) : (dat W c).A w = V W c (Pipeline.arrRef spec3 w) := by dsimp only [dat]
theorem after_0 (c : Dev nD) (t : Fin cfg3.N) : (dat W c).after 0 t = iblk W c 0 t := by dsimp only [dat]
theorem after_1 (c : Dev nD) (t : Fin cfg3.N) : (dat W c).after 1 t = iblk W c 1 t := by dsimp only [dat]
theorem after_2 (c : Dev nD) (t : Fin cfg3.N) : (dat W c).after 2 t = iblk W c 2 t := by dsimp only [dat]
theorem after_3 (c : Dev nD) (t : Fin cfg3.N) : (dat W c).after 3 t = iblk W c 3 t := by dsimp only [dat]
theorem after_4 (c : Dev nD) (t : Fin cfg3.N) : (dat W c).after 4 t = iblk W c 4 t := by dsimp only [dat]
theorem after_5 (c : Dev nD) (t : Fin cfg3.N) : (dat W c).after 5 t = out_5 (iblk W c 0 t) (iblk W c 1 t) (iblk W c 2 t) (iblk W c 3 t) (iblk W c 4 t) := by dsimp only [dat]
theorem before_0 (c : Dev nD) (t : Fin cfg3.N) (d) : (dat W c).before 0 t d = iblk W c 0 t :=
  staged_0 W (dat W c) (A_eq W c 0) (after_0 W c) t d
theorem before_1 (c : Dev nD) (t : Fin cfg3.N) (d) : (dat W c).before 1 t d = iblk W c 1 t :=
  staged_1 W (dat W c) (A_eq W c 1) (after_1 W c) t d
theorem before_2 (c : Dev nD) (t : Fin cfg3.N) (d) : (dat W c).before 2 t d = iblk W c 2 t :=
  staged_2 W (dat W c) (A_eq W c 2) (after_2 W c) t d
theorem before_3 (c : Dev nD) (t : Fin cfg3.N) (d) : (dat W c).before 3 t d = iblk W c 3 t :=
  staged_3 W (dat W c) (A_eq W c 3) (after_3 W c) t d
theorem before_4 (c : Dev nD) (t : Fin cfg3.N) (d) : (dat W c).before 4 t d = iblk W c 4 t :=
  staged_4 W (dat W c) (A_eq W c 4) (after_4 W c) t d

/-- What the body is called with at point `t`, -/
def bodyPre (c : Dev nD) (t : Fin cfg3.N) : sProp 𝕄G :=
  iprop((dat W c).Φ t.castSucc ∗ (dat W c).owesAt () t.castSucc
     ∗ (∃ d, owns (c : Thread nD τ) (st3_0 t) fullShare ((dat W c).before 0 t d)) ∗ (∃ d, owns (c : Thread nD τ) (st3_1 t) fullShare ((dat W c).before 1 t d)) ∗ (∃ d, owns (c : Thread nD τ) (st3_2 t) fullShare ((dat W c).before 2 t d)) ∗ (∃ d, owns (c : Thread nD τ) (st3_3 t) fullShare ((dat W c).before 3 t d)) ∗ (∃ d, owns (c : Thread nD τ) (st3_4 t) fullShare ((dat W c).before 4 t d)) ∗ (∃ d, owns (c : Thread nD τ) (st3_5 t) fullShare ((dat W c).before 5 t d)))

/-- and what it returns. -/
def bodyPost (c : Dev nD) (t : Fin cfg3.N) : sProp 𝕄G :=
  iprop((dat W c).Φ t.succ ∗ (dat W c).owesAt () t.succ
     ∗ owns (c : Thread nD τ) (st3_0 t) fullShare ((dat W c).after 0 t) ∗ owns (c : Thread nD τ) (st3_1 t) fullShare ((dat W c).after 1 t) ∗ owns (c : Thread nD τ) (st3_2 t) fullShare ((dat W c).after 2 t) ∗ owns (c : Thread nD τ) (st3_3 t) fullShare ((dat W c).after 3 t) ∗ owns (c : Thread nD τ) (st3_4 t) fullShare ((dat W c).after 4 t) ∗ owns (c : Thread nD τ) (st3_5 t) fullShare ((dat W c).after 5 t))

theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before_0, before_1, before_2, before_3, before_4]
  rw [show (dat W c).Φ t.succ = (dat W c).Φ t.castSucc from rfl,
    show (dat W c).owesAt () t.succ = (dat W c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid3.coords t) _ _ _ _ _ _ _ _ _ _ _ _ (iblk W c 0 t) (iblk W c 1 t) (iblk W c 2 t) (iblk W c 3 t) (iblk W c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg3.N) : defs₀ (F := F) .tc cfg3.body (cfg3.bodyArgs t (cfg3.slots t)) = bodyAt3 t := by
  unfold defs₀; rw [Defs.onTc_tc]

/-- The body's obligation at every point. -/
theorem obligation (c : Dev nD) : BodyObligation (dat W c) (defs₀ (F := F)) Variants.none () Set.univ := fun t => by
  rw [bigSep_W3, bigSep_W3, row]
  exact triple_restated (sound_body W c t) rfl .rfl fun _ => .rfl

/-- What the region leaves in its output array. -/
def res (c : Dev nD) : Buf (Elt F) ((c : Thread nD τ).loc main_v29) := (dat W c).arrAt 5 cfg3.N

theorem not_out : ∀ w : Fin cfg3.W, w ≠ 5 → (cfg3.win w).isOut = false := by decide

theorem arr_out : Pipeline.arrRef spec3 5 = main_v29 := rfl

/-- The buffers after the region: as before, but for the output array. -/
theorem after_eq (c : Dev nD) : ∀ b ∈ Pipeline.ucRefs τ sig,
    Pipeline.afterRegion (dat W c) (W c) b = Function.update (W c) (Proc.devRef .tc main_v29) (res W c) b := by
  intro b hb
  by_cases e : b = Proc.devRef .tc main_v29
  · subst e
    rw [Function.update_self]
    exact Pipeline.afterRegion_arr (dat W c) (W c) launch3.win.arr_inj 5
  · rw [Function.update_of_ne e]
    by_cases hw : ∃ w, Proc.devRef .tc (Pipeline.arrRef spec3 w) = b
    · obtain ⟨w, rfl⟩ := hw
      refine (Pipeline.afterRegion_arr (dat W c) (W c) launch3.win.arr_inj w).trans (((dat W c).arrAt_in w (not_out w fun h => e ?_) _).trans (A_eq W c w))
      subst h; rfl
    · unfold Pipeline.afterRegion
      exact dif_neg fun ⟨w, h⟩ => hw ⟨w, h.symm⟩

end Cert.KernelIdeal.Reg3

end
-- ==== Proof.Whole.lean ====
module

public import proofs.«01_k».proof.Proof.Reg0
public import proofs.«01_k».proof.Proof.Reg1
public import proofs.«01_k».proof.Proof.Reg2
public import proofs.«01_k».proof.Proof.Reg3
public import proofs.«01_k».proof.Proof.Gen.KernelIdeal.Regions

/-! The whole program run: the four regions between the host stretches, what every buffer holds at the end. -/

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The buffers at launch, and after each region and each host stretch in turn. -/
def U0 (c : Dev nD) : Valuation τ sig (Elt F) := V0 m c
def U1 (c : Dev nD) : Valuation τ sig (Elt F) := Function.update (U0 m c) (Proc.devRef .tc main_v0) (Reg0.res (U0 m) c)
def U2 (c : Dev nD) : Valuation τ sig (Elt F) := StableHlo.after hostOps1 (U1 m c)
def U3 (c : Dev nD) : Valuation τ sig (Elt F) := Function.update (U2 m c) (Proc.devRef .tc main_v12) (Reg1.res (U2 m) c)
def U4 (c : Dev nD) : Valuation τ sig (Elt F) := StableHlo.after hostOps2 (U3 m c)
def U5 (c : Dev nD) : Valuation τ sig (Elt F) := Function.update (U4 m c) (Proc.devRef .tc main_v25) (Reg2.res (U4 m) c)
def U6 (c : Dev nD) : Valuation τ sig (Elt F) := StableHlo.after hostOps3 (U5 m c)
def U7 (c : Dev nD) : Valuation τ sig (Elt F) := Function.update (U6 m c) (Proc.devRef .tc main_v29) (Reg3.res (U6 m) c)

/-- What each region leaves in its output, by item and buffer. -/
def outs : Outs (F := F) := fun J r c =>
  if J = 1 then U1 m c (Proc.devRef .tc r) else if J = 3 then U3 m c (Proc.devRef .tc r) else if J = 5 then U5 m c (Proc.devRef .tc r) else U7 m c (Proc.devRef .tc r)

theorem upd_self (V : Valuation τ sig (Elt F)) (b : DevRef τ sig) (x : b.ty.Contents (Elt F)) :
    Function.update V b (Function.update V b x b) = Function.update V b x := by rw [Function.update_self]

theorem outs_1 (c : Dev nD) : outs m 1 main_v0 c = U1 m c (Proc.devRef .tc main_v0) := by
  unfold outs; rw [if_pos rfl]
theorem V1_eq (c : Dev nD) : V1 m (outs m) c = U1 m c := by
  show Function.update (V0 m c) (Proc.devRef .tc main_v0) (outs m 1 main_v0 c) = _
  rw [outs_1, show V0 m c = U0 m c from rfl]
  unfold U1
  exact upd_self _ _ _
theorem V2_eq (c : Dev nD) : V2 m (outs m) c = U2 m c := by
  show StableHlo.after hostOps1 (V1 m (outs m) c) = _
  rw [V1_eq]
  unfold U2
  with_reducible rfl
theorem outs_3 (c : Dev nD) : outs m 3 main_v12 c = U3 m c (Proc.devRef .tc main_v12) := by
  unfold outs; rw [if_neg (by decide), if_pos rfl]
theorem V3_eq (c : Dev nD) : V3 m (outs m) c = U3 m c := by
  show Function.update (V2 m (outs m) c) (Proc.devRef .tc main_v12) (outs m 3 main_v12 c) = _
  rw [outs_3, V2_eq]
  unfold U3
  exact upd_self _ _ _
theorem V4_eq (c : Dev nD) : V4 m (outs m) c = U4 m c := by
  show StableHlo.after hostOps2 (V3 m (outs m) c) = _
  rw [V3_eq]
  unfold U4
  with_reducible rfl
theorem outs_5 (c : Dev nD) : outs m 5 main_v25 c = U5 m c (Proc.devRef .tc main_v25) := by
  unfold outs; rw [if_neg (by decide), if_neg (by decide), if_pos rfl]
theorem V5_eq (c : Dev nD) : V5 m (outs m) c = U5 m c := by
  show Function.update (V4 m (outs m) c) (Proc.devRef .tc main_v25) (outs m 5 main_v25 c) = _
  rw [outs_5, V4_eq]
  unfold U5
  exact upd_self _ _ _
theorem V6_eq (c : Dev nD) : V6 m (outs m) c = U6 m c := by
  show StableHlo.after hostOps3 (V5 m (outs m) c) = _
  rw [V5_eq]
  unfold U6
  with_reducible rfl
theorem outs_7 (c : Dev nD) : outs m 7 main_v29 c = U7 m c (Proc.devRef .tc main_v29) := by
  unfold outs; rw [if_neg (by decide), if_neg (by decide), if_neg (by decide)]
theorem V7_eq (c : Dev nD) : V7 m (outs m) c = U7 m c := by
  show Function.update (V6 m (outs m) c) (Proc.devRef .tc main_v29) (outs m 7 main_v29 c) = _
  rw [outs_7, V6_eq]
  unfold U7
  exact upd_self _ _ _

/-- The four regions' proof data. -/
def pdats : (p : Fin 4) → (c : Dev nD) → Dat τ (Elt F) Unit ℕ (UR sig nD τ) ℕ (cfgs p) c
  | ⟨0, _⟩ => fun c => Reg0.dat (U0 m) c
  | ⟨1, _⟩ => fun c => Reg1.dat (U2 m) c
  | ⟨2, _⟩ => fun c => Reg2.dat (U4 m) c
  | ⟨3, _⟩ => fun c => Reg3.dat (U6 m) c

theorem held_eq (c : Dev nD) (V V' : Valuation τ sig (Elt F)) (h : ∀ b ∈ Pipeline.ucRefs τ sig, V b = V' b) :
    (StableHlo.held (c : Thread nD τ) (Pipeline.ucRefs τ sig) V : sProp 𝕄G) ⊢ StableHlo.held (c : Thread nD τ) (Pipeline.ucRefs τ sig) V' := by
  rw [StableHlo.held_congr (c : Thread nD τ) h]

/-- Levels: every TensorCore semaphore may be waited on, all at one level. -/
def lev (g : GSem nD τ sig) : Finset Unit := if g.1.2 = .tc then Finset.univ else ∅
def lvl (_ : GSem nD τ sig) (_ : Unit) : ℕ := 0

/-- What rides along beside the buffers: nothing owed, and the generator register. -/
def ride (c : Dev nD) : sProp 𝕄G :=
  iprop((∃ Wd, owes (c : Thread nD τ) (0 : CellTallies nD τ sig Unit) Wd) ∗ (∃ r, prngReg c r) ∗ emp)

theorem cut (p : Fin 4) : Pipeline.LevelCut (pcfgs (F := F)) adm () lev lvl p (fun _ : Dev nD => (0 : CellTallies nD τ sig Unit)) (fun _ => 0) where
  hι c w s := by unfold lev; rw [if_pos rfl]; exact Finset.mem_univ _
  hιb c w s := le_refl _
  hD c g i h := absurd h (lt_irrefl _)

theorem in_0 (c : Dev nD) : iprop(Pipeline.scopedRest spec0 c ∗ (∃ r, prngReg c r)) ⊢ (Reg0.dat (U0 m) c).Φ 0 := .rfl
theorem out_0 (c : Dev nD) : (Reg0.dat (U0 m) c).Φ (Fin.last cfg0.N) ⊢ iprop(Pipeline.scopedRest spec0 c ∗ (∃ r, prngReg c r)) := .rfl

/-- Region 0's record. -/
def R0 : Pipeline.RegionSeg (pcfgs (F := F)) adm (pdats m) () defs₀ Variants.none lev lvl 0 :=
  Pipeline.RegionSeg.ofHeldIn (pcfgs (F := F)) adm (pdats m) () defs₀ Variants.none lev lvl 0 (fun _ => 0) (Pipeline.ucRefs τ sig)
    (fun c => iprop(∃ r, prngReg c r)) (fun c => iprop(∃ r, prngReg c r)) launch0.toP rfl
    (fun c => (Reg0.obligation (U0 m) c).loose) (fun _ _ => rfl) (fun _ => rfl)
    (fun c => (Reg0.dat (U0 m) c).share_full fun _ => rfl)
    (in_0 m) (out_0 m) (fun _ => 0) (cut 0) (fun _ => iprop(emp)) (U0 m) (fun c w => Reg0.A_eq (U0 m) c w)

theorem unscoped_0 : ∀ w : Fin cfg0.W, (Pipeline.arrRef spec0 w).isScoped = false := by decide

theorem sub_0 : Pipeline.arrRefs (τ := τ) spec0 ⊆ Pipeline.ucRefs τ sig := Pipeline.arrRefs_sub_ucRefs _ unscoped_0

theorem pre_0 (c : Dev nD) : iprop(StableHlo.held (c : Thread nD τ) (Pipeline.ucRefs τ sig) (U0 m c) ∗ ride c) ⊢ (R0 m).pre c := by
  unfold ride R0
  exact Pipeline.RegionSeg.ofHeldIn_pre (pcs := pcfgs (F := F)) (a := adm) (p := 0) (D := fun _ => 0) (R := fun _ => iprop(emp)) (W := U0 m) (X := fun c => iprop(∃ r, prngReg c r)) (Y := fun c => iprop(∃ r, prngReg c r)) sub_0 c

theorem post_0 (c : Dev nD) : (R0 m).post c ⊢ iprop(StableHlo.held (c : Thread nD τ) (Pipeline.ucRefs τ sig) (U1 m c) ∗ ride c) := by
  unfold ride R0
  refine (Pipeline.RegionSeg.ofHeldIn_post (pcs := pcfgs (F := F)) (a := adm) (p := 0) (D := fun _ => 0) (R := fun _ => iprop(emp)) (W := U0 m) (X := fun c => iprop(∃ r, prngReg c r)) (Y := fun c => iprop(∃ r, prngReg c r)) sub_0 c).trans (sep_mono ?_ .rfl)
  exact held_eq c _ _ (Reg0.after_eq (U0 m) c)

theorem in_1 (c : Dev nD) : iprop(Pipeline.scopedRest spec1 c ∗ (∃ r, prngReg c r)) ⊢ (Reg1.dat (U2 m) c).Φ 0 := by
  show _ ⊢ Reg1.inv (U2 m) c 0
  rw [Reg1.inv_start (U2 m) c 0 rfl]
  exact .rfl
theorem out_1 (c : Dev nD) : (Reg1.dat (U2 m) c).Φ (Fin.last cfg1.N) ⊢ iprop(Pipeline.scopedRest spec1 c ∗ (∃ r, prngReg c r)) := by
  show Reg1.inv (U2 m) c cfg1.N ⊢ _
  rw [Reg1.inv_start (U2 m) c cfg1.N (by show grid1.N % 16 = 0; rw [N_1])]
  exact .rfl

/-- Region 1's record. -/
def R1 : Pipeline.RegionSeg (pcfgs (F := F)) adm (pdats m) () defs₀ Variants.none lev lvl 1 :=
  Pipeline.RegionSeg.ofHeldIn (pcfgs (F := F)) adm (pdats m) () defs₀ Variants.none lev lvl 1 (fun _ => 0) (Pipeline.ucRefs τ sig)
    (fun c => iprop(∃ r, prngReg c r)) (fun c => iprop(∃ r, prngReg c r)) launch1.toP rfl
    (fun c => (Reg1.obligation (U2 m) c).loose) (fun _ _ => rfl) (fun _ => rfl)
    (fun c => (Reg1.dat (U2 m) c).share_full fun _ => rfl)
    (in_1 m) (out_1 m) (fun _ => 0) (cut 1) (fun _ => iprop(emp)) (U2 m) (fun c w => Reg1.A_eq (U2 m) c w)

theorem unscoped_1 : ∀ w : Fin cfg1.W, (Pipeline.arrRef spec1 w).isScoped = false := by decide

theorem sub_1 : Pipeline.arrRefs (τ := τ) spec1 ⊆ Pipeline.ucRefs τ sig := Pipeline.arrRefs_sub_ucRefs _ unscoped_1

theorem pre_1 (c : Dev nD) : iprop(StableHlo.held (c : Thread nD τ) (Pipeline.ucRefs τ sig) (U2 m c) ∗ ride c) ⊢ (R1 m).pre c := by
  unfold ride R1
  exact Pipeline.RegionSeg.ofHeldIn_pre (pcs := pcfgs (F := F)) (a := adm) (p := 1) (D := fun _ => 0) (R := fun _ => iprop(emp)) (W := U2 m) (X := fun c => iprop(∃ r, prngReg c r)) (Y := fun c => iprop(∃ r, prngReg c r)) sub_1 c

theorem post_1 (c : Dev nD) : (R1 m).post c ⊢ iprop(StableHlo.held (c : Thread nD τ) (Pipeline.ucRefs τ sig) (U3 m c) ∗ ride c) := by
  unfold ride R1
  refine (Pipeline.RegionSeg.ofHeldIn_post (pcs := pcfgs (F := F)) (a := adm) (p := 1) (D := fun _ => 0) (R := fun _ => iprop(emp)) (W := U2 m) (X := fun c => iprop(∃ r, prngReg c r)) (Y := fun c => iprop(∃ r, prngReg c r)) sub_1 c).trans (sep_mono ?_ .rfl)
  exact held_eq c _ _ (Reg1.after_eq (U2 m) c)

theorem in_2 (c : Dev nD) : iprop(Pipeline.scopedRest spec2 c ∗ (∃ r, prngReg c r)) ⊢ (Reg2.dat (U4 m) c).Φ 0 := by
  show _ ⊢ Reg2.inv (U4 m) c 0
  rw [Reg2.inv_start (U4 m) c 0 rfl]
  exact .rfl
theorem out_2 (c : Dev nD) : (Reg2.dat (U4 m) c).Φ (Fin.last cfg2.N) ⊢ iprop(Pipeline.scopedRest spec2 c ∗ (∃ r, prngReg c r)) := by
  show Reg2.inv (U4 m) c cfg2.N ⊢ _
  rw [Reg2.inv_start (U4 m) c cfg2.N (by show grid2.N % 16 = 0; rw [N_2])]
  exact .rfl

/-- Region 2's record. -/
def R2 : Pipeline.RegionSeg (pcfgs (F := F)) adm (pdats m) () defs₀ Variants.none lev lvl 2 :=
  Pipeline.RegionSeg.ofHeldIn (pcfgs (F := F)) adm (pdats m) () defs₀ Variants.none lev lvl 2 (fun _ => 0) (Pipeline.ucRefs τ sig)
    (fun c => iprop(∃ r, prngReg c r)) (fun c => iprop(∃ r, prngReg c r)) launch2.toP rfl
    (fun c => (Reg2.obligation (U4 m) c).loose) (fun _ _ => rfl) (fun _ => rfl)
    (fun c => (Reg2.dat (U4 m) c).share_full fun _ => rfl)
    (in_2 m) (out_2 m) (fun _ => 0) (cut 2) (fun _ => iprop(emp)) (U4 m) (fun c w => Reg2.A_eq (U4 m) c w)

theorem unscoped_2 : ∀ w : Fin cfg2.W, (Pipeline.arrRef spec2 w).isScoped = false := by decide

theorem sub_2 : Pipeline.arrRefs (τ := τ) spec2 ⊆ Pipeline.ucRefs τ sig := Pipeline.arrRefs_sub_ucRefs _ unscoped_2

theorem pre_2 (c : Dev nD) : iprop(StableHlo.held (c : Thread nD τ) (Pipeline.ucRefs τ sig) (U4 m c) ∗ ride c) ⊢ (R2 m).pre c := by
  unfold ride R2
  exact Pipeline.RegionSeg.ofHeldIn_pre (pcs := pcfgs (F := F)) (a := adm) (p := 2) (D := fun _ => 0) (R := fun _ => iprop(emp)) (W := U4 m) (X := fun c => iprop(∃ r, prngReg c r)) (Y := fun c => iprop(∃ r, prngReg c r)) sub_2 c

theorem post_2 (c : Dev nD) : (R2 m).post c ⊢ iprop(StableHlo.held (c : Thread nD τ) (Pipeline.ucRefs τ sig) (U5 m c) ∗ ride c) := by
  unfold ride R2
  refine (Pipeline.RegionSeg.ofHeldIn_post (pcs := pcfgs (F := F)) (a := adm) (p := 2) (D := fun _ => 0) (R := fun _ => iprop(emp)) (W := U4 m) (X := fun c => iprop(∃ r, prngReg c r)) (Y := fun c => iprop(∃ r, prngReg c r)) sub_2 c).trans (sep_mono ?_ .rfl)
  exact held_eq c _ _ (Reg2.after_eq (U4 m) c)

theorem in_3 (c : Dev nD) : iprop(Pipeline.scopedRest spec3 c ∗ (∃ r, prngReg c r)) ⊢ (Reg3.dat (U6 m) c).Φ 0 := .rfl
theorem out_3 (c : Dev nD) : (Reg3.dat (U6 m) c).Φ (Fin.last cfg3.N) ⊢ iprop(Pipeline.scopedRest spec3 c ∗ (∃ r, prngReg c r)) := .rfl

/-- Region 3's record. -/
def R3 : Pipeline.RegionSeg (pcfgs (F := F)) adm (pdats m) () defs₀ Variants.none lev lvl 3 :=
  Pipeline.RegionSeg.ofHeldIn (pcfgs (F := F)) adm (pdats m) () defs₀ Variants.none lev lvl 3 (fun _ => 0) (Pipeline.ucRefs τ sig)
    (fun c => iprop(∃ r, prngReg c r)) (fun c => iprop(∃ r, prngReg c r)) launch3.toP rfl
    (fun c => (Reg3.obligation (U6 m) c).loose) (fun _ _ => rfl) (fun _ => rfl)
    (fun c => (Reg3.dat (U6 m) c).share_full fun _ => rfl)
    (in_3 m) (out_3 m) (fun _ => 0) (cut 3) (fun _ => iprop(emp)) (U6 m) (fun c w => Reg3.A_eq (U6 m) c w)

theorem unscoped_3 : ∀ w : Fin cfg3.W, (Pipeline.arrRef spec3 w).isScoped = false := by decide

theorem sub_3 : Pipeline.arrRefs (τ := τ) spec3 ⊆ Pipeline.ucRefs τ sig := Pipeline.arrRefs_sub_ucRefs _ unscoped_3

theorem pre_3 (c : Dev nD) : iprop(StableHlo.held (c : Thread nD τ) (Pipeline.ucRefs τ sig) (U6 m c) ∗ ride c) ⊢ (R3 m).pre c := by
  unfold ride R3
  exact Pipeline.RegionSeg.ofHeldIn_pre (pcs := pcfgs (F := F)) (a := adm) (p := 3) (D := fun _ => 0) (R := fun _ => iprop(emp)) (W := U6 m) (X := fun c => iprop(∃ r, prngReg c r)) (Y := fun c => iprop(∃ r, prngReg c r)) sub_3 c

theorem post_3 (c : Dev nD) : (R3 m).post c ⊢ iprop(StableHlo.held (c : Thread nD τ) (Pipeline.ucRefs τ sig) (U7 m c) ∗ ride c) := by
  unfold ride R3
  refine (Pipeline.RegionSeg.ofHeldIn_post (pcs := pcfgs (F := F)) (a := adm) (p := 3) (D := fun _ => 0) (R := fun _ => iprop(emp)) (W := U6 m) (X := fun c => iprop(∃ r, prngReg c r)) (Y := fun c => iprop(∃ r, prngReg c r)) sub_3 c).trans (sep_mono ?_ .rfl)
  exact held_eq c _ _ (Reg3.after_eq (U6 m) c)

theorem post_0' (c : Dev nD) : (R0 m).post c ⊢ iprop(StableHlo.held (c : Thread nD τ) (Pipeline.ucRefs τ sig) (V1 m (outs m) c) ∗ ride c) := by
  rw [V1_eq]; exact post_0 m c
theorem pre_1' (c : Dev nD) : iprop(StableHlo.held (c : Thread nD τ) (Pipeline.ucRefs τ sig) (V2 m (outs m) c) ∗ ride c) ⊢ (R1 m).pre c := by
  rw [V2_eq]; exact pre_1 m c
theorem post_1' (c : Dev nD) : (R1 m).post c ⊢ iprop(StableHlo.held (c : Thread nD τ) (Pipeline.ucRefs τ sig) (V3 m (outs m) c) ∗ ride c) := by
  rw [V3_eq]; exact post_1 m c
theorem pre_2' (c : Dev nD) : iprop(StableHlo.held (c : Thread nD τ) (Pipeline.ucRefs τ sig) (V4 m (outs m) c) ∗ ride c) ⊢ (R2 m).pre c := by
  rw [V4_eq]; exact pre_2 m c
theorem post_2' (c : Dev nD) : (R2 m).post c ⊢ iprop(StableHlo.held (c : Thread nD τ) (Pipeline.ucRefs τ sig) (V5 m (outs m) c) ∗ ride c) := by
  rw [V5_eq]; exact post_2 m c
theorem pre_3' (c : Dev nD) : iprop(StableHlo.held (c : Thread nD τ) (Pipeline.ucRefs τ sig) (V6 m (outs m) c) ∗ ride c) ⊢ (R3 m).pre c := by
  rw [V6_eq]; exact pre_3 m c

theorem ride_end (c : Dev nD) : (ride c : sProp 𝕄G) ⊢ iprop(∃ Wd, owes (c : Thread nD τ) (0 : CellTallies nD τ sig Unit) Wd) := by
  unfold ride
  iintro ⟨H, -⟩; iexact H

theorem ride_start (c : Dev nD) : iprop(unscopedSems0 c ∗ owes (c : Thread nD τ) (0 : CellTallies nD τ sig Unit) ∅ ∗ Pipeline.launchCred (fun _ : Dev nD => (0 : CellTallies nD τ sig Unit)) c ∗ prngReg c (ρ c) ∗ emp)
    ⊢ (ride c : sProp 𝕄G) := by
  unfold ride
  iintro ⟨-, Ho, -, Hp, He⟩
  isplitl [Ho]; · iexists _; iexact Ho
  isplitl [Hp]; · iexists _; iexact Hp
  iexact He

theorem U7_arg0 (c : Dev nD) : U7 m c (Proc.devRef .tc main_arg0) = m ((c : Thread nD τ).loc main_arg0) := (congrArg (fun V : Valuation τ sig (Elt F) => V (Proc.devRef .tc main_arg0)) (V7_eq m c).symm).trans (V7_main_arg0 m (outs m) c)
theorem U7_arg1 (c : Dev nD) : U7 m c (Proc.devRef .tc main_arg1) = m ((c : Thread nD τ).loc main_arg1) := (congrArg (fun V : Valuation τ sig (Elt F) => V (Proc.devRef .tc main_arg1)) (V7_eq m c).symm).trans (V7_main_arg1 m (outs m) c)
theorem U7_arg2 (c : Dev nD) : U7 m c (Proc.devRef .tc main_arg2) = m ((c : Thread nD τ).loc main_arg2) := (congrArg (fun V : Valuation τ sig (Elt F) => V (Proc.devRef .tc main_arg2)) (V7_eq m c).symm).trans (V7_main_arg2 m (outs m) c)
theorem U7_arg3 (c : Dev nD) : U7 m c (Proc.devRef .tc main_arg3) = m ((c : Thread nD τ).loc main_arg3) := (congrArg (fun V : Valuation τ sig (Elt F) => V (Proc.devRef .tc main_arg3)) (V7_eq m c).symm).trans (V7_main_arg3 m (outs m) c)
theorem U7_arg4 (c : Dev nD) : U7 m c (Proc.devRef .tc main_arg4) = m ((c : Thread nD τ).loc main_arg4) := (congrArg (fun V : Valuation τ sig (Elt F) => V (Proc.devRef .tc main_arg4)) (V7_eq m c).symm).trans (V7_main_arg4 m (outs m) c)
theorem U7_arg5 (c : Dev nD) : U7 m c (Proc.devRef .tc main_arg5) = m ((c : Thread nD τ).loc main_arg5) := (congrArg (fun V : Valuation τ sig (Elt F) => V (Proc.devRef .tc main_arg5)) (V7_eq m c).symm).trans (V7_main_arg5 m (outs m) c)
theorem U7_arg6 (c : Dev nD) : U7 m c (Proc.devRef .tc main_arg6) = m ((c : Thread nD τ).loc main_arg6) := (congrArg (fun V : Valuation τ sig (Elt F) => V (Proc.devRef .tc main_arg6)) (V7_eq m c).symm).trans (V7_main_arg6 m (outs m) c)
theorem U7_arg7 (c : Dev nD) : U7 m c (Proc.devRef .tc main_arg7) = m ((c : Thread nD τ).loc main_arg7) := (congrArg (fun V : Valuation τ sig (Elt F) => V (Proc.devRef .tc main_arg7)) (V7_eq m c).symm).trans (V7_main_arg7 m (outs m) c)
theorem U7_arg8 (c : Dev nD) : U7 m c (Proc.devRef .tc main_arg8) = m ((c : Thread nD τ).loc main_arg8) := (congrArg (fun V : Valuation τ sig (Elt F) => V (Proc.devRef .tc main_arg8)) (V7_eq m c).symm).trans (V7_main_arg8 m (outs m) c)
theorem U7_arg9 (c : Dev nD) : U7 m c (Proc.devRef .tc main_arg9) = m ((c : Thread nD τ).loc main_arg9) := (congrArg (fun V : Valuation τ sig (Elt F) => V (Proc.devRef .tc main_arg9)) (V7_eq m c).symm).trans (V7_main_arg9 m (outs m) c)
theorem U7_arg10 (c : Dev nD) : U7 m c (Proc.devRef .tc main_arg10) = m ((c : Thread nD τ).loc main_arg10) := (congrArg (fun V : Valuation τ sig (Elt F) => V (Proc.devRef .tc main_arg10)) (V7_eq m c).symm).trans (V7_main_arg10 m (outs m) c)
theorem U7_arg11 (c : Dev nD) : U7 m c (Proc.devRef .tc main_arg11) = m ((c : Thread nD τ).loc main_arg11) := (congrArg (fun V : Valuation τ sig (Elt F) => V (Proc.devRef .tc main_arg11)) (V7_eq m c).symm).trans (V7_main_arg11 m (outs m) c)
theorem U7_arg12 (c : Dev nD) : U7 m c (Proc.devRef .tc main_arg12) = m ((c : Thread nD τ).loc main_arg12) := (congrArg (fun V : Valuation τ sig (Elt F) => V (Proc.devRef .tc main_arg12)) (V7_eq m c).symm).trans (V7_main_arg12 m (outs m) c)
theorem U7_arg13 (c : Dev nD) : U7 m c (Proc.devRef .tc main_arg13) = m ((c : Thread nD τ).loc main_arg13) := (congrArg (fun V : Valuation τ sig (Elt F) => V (Proc.devRef .tc main_arg13)) (V7_eq m c).symm).trans (V7_main_arg13 m (outs m) c)
theorem U7_arg14 (c : Dev nD) : U7 m c (Proc.devRef .tc main_arg14) = m ((c : Thread nD τ).loc main_arg14) := (congrArg (fun V : Valuation τ sig (Elt F) => V (Proc.devRef .tc main_arg14)) (V7_eq m c).symm).trans (V7_main_arg14 m (outs m) c)
theorem U7_arg15 (c : Dev nD) : U7 m c (Proc.devRef .tc main_arg15) = m ((c : Thread nD τ).loc main_arg15) := (congrArg (fun V : Valuation τ sig (Elt F) => V (Proc.devRef .tc main_arg15)) (V7_eq m c).symm).trans (V7_main_arg15 m (outs m) c)
theorem U7_arg16 (c : Dev nD) : U7 m c (Proc.devRef .tc main_arg16) = m ((c : Thread nD τ).loc main_arg16) := (congrArg (fun V : Valuation τ sig (Elt F) => V (Proc.devRef .tc main_arg16)) (V7_eq m c).symm).trans (V7_main_arg16 m (outs m) c)
theorem U7_arg17 (c : Dev nD) : U7 m c (Proc.devRef .tc main_arg17) = m ((c : Thread nD τ).loc main_arg17) := (congrArg (fun V : Valuation τ sig (Elt F) => V (Proc.devRef .tc main_arg17)) (V7_eq m c).symm).trans (V7_main_arg17 m (outs m) c)

-- the implicit arguments are found by unification through plain definitions in a metavariable's type
set_option backward.isDefEq.respectTransparency.types false in
set_option maxHeartbeats 4000000 in
/-- THE RUN: every execution ends with the result buffer at what the last region leaves, the arguments as launched,
    and every semaphore counter at zero. -/
theorem run : θ_run defs (onTc (τ := τ) (main (F := F))) ⟨m, fun _ => 0, ρ⟩ (fun r => (∀ c : Dev nD,
      r.2.mem ((c.tc : Thread nD τ).loc main_v29) = Reg3.res (U6 m) c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17))
      ∧ r.2.sem = fun _ => 0) := by
  refine Pipeline.θ_run_regions_kit_dev_sems (pcfgs (F := F)) adm (pdats m) () cellOf_inj emb₁ defs₀ Variants.none lev lvl m ρ main
    (segs m (outs m) Variants.none lev lvl (fun _ => ride) () (pdats m) (R0 m) (R1 m) (R2 m) (R3 m))
    (fun c Q => by
      rewrite [main_chain c, Pipeline.Seg.run_eq_chain,
        show (segs m (outs m) Variants.none lev lvl (fun _ => ride) () (pdats m) (R0 m) (R1 m) (R2 m) (R3 m) c).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [segs, Pipeline.Seg.pipes_host, Pipeline.Seg.pipes_region, Pipeline.Seg.pipes_nil]; decide) (fun _ => 0)
    (fun g hg => if_neg hg) (fun _ => iprop(emp))
    (initOf (Pipeline.cells cfgs cellOf_inj) (Pipeline.launchToks cfgs cellOf_inj)) (by
      iintro Hu; imodintro
      isplitl [Hu]; · iapply (show (ownU _ : sProp 𝕄G) ⊢ BI.own (emb₁ (initOf (Pipeline.cells cfgs cellOf_inj) (Pipeline.launchToks cfgs cellOf_inj))) from .rfl); iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (U0 m c) ∗ ride c))
    (Tₙ := fun c => StableHlo.held (c : Thread nD τ) (Pipeline.ucRefs τ sig) (U7 m c))
    (hch := fun c => ⟨pre_0 m c, post_0' m c, pre_1' m c, post_1' m c, pre_2' m c, post_2' m c, pre_3' m c, (post_3 m c).trans (sep_mono .rfl (ride_end c))⟩)
    (hinit := ?_) (QY := fun c s => s.mem ((c.tc : Thread nD τ).loc main_v29) = Reg3.res (U6 m) c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c) ∗ emp))
        ⊢ (bigSep Finset.univ fun c : Dev nD => iprop(StableHlo.held (c : Thread nD τ) (Pipeline.ucRefs τ sig) (U0 m c) ∗ ride c) : sProp 𝕄G) :=
      bigSep_mono fun c _ => BI.sep_mono (by rw [← Pipeline.unscopedBufs_held (Ix := Unit) (Name := ℕ) (U := UR sig nD τ) (Lvl := ℕ) c (U0 m c)]; exact BI.Entails.refl _) (ride_start ρ c)
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (U7 m c) s') $$ [Hh HSI]
    · isplitl [Hh] <;> iassumption
    icases Hr with ⟨%h, HSI⟩
    imodintro
    isplitr
    · ipureintro
      exact ⟨(h (Proc.devRef .tc main_v29) (Finset.mem_filter.mpr ⟨StableHlo.devRef_mem_tcRefs main_v29, by decide⟩)).trans (by unfold U7; exact Function.update_self ..),
        (h (Proc.devRef .tc main_arg0) (Finset.mem_filter.mpr ⟨StableHlo.devRef_mem_tcRefs main_arg0, by decide⟩)).trans (U7_arg0 m c),
        (h (Proc.devRef .tc main_arg1) (Finset.mem_filter.mpr ⟨StableHlo.devRef_mem_tcRefs main_arg1, by decide⟩)).trans (U7_arg1 m c),
        (h (Proc.devRef .tc main_arg2) (Finset.mem_filter.mpr ⟨StableHlo.devRef_mem_tcRefs main_arg2, by decide⟩)).trans (U7_arg2 m c),
        (h (Proc.devRef .tc main_arg3) (Finset.mem_filter.mpr ⟨StableHlo.devRef_mem_tcRefs main_arg3, by decide⟩)).trans (U7_arg3 m c),
        (h (Proc.devRef .tc main_arg4) (Finset.mem_filter.mpr ⟨StableHlo.devRef_mem_tcRefs main_arg4, by decide⟩)).trans (U7_arg4 m c),
        (h (Proc.devRef .tc main_arg5) (Finset.mem_filter.mpr ⟨StableHlo.devRef_mem_tcRefs main_arg5, by decide⟩)).trans (U7_arg5 m c),
        (h (Proc.devRef .tc main_arg6) (Finset.mem_filter.mpr ⟨StableHlo.devRef_mem_tcRefs main_arg6, by decide⟩)).trans (U7_arg6 m c),
        (h (Proc.devRef .tc main_arg7) (Finset.mem_filter.mpr ⟨StableHlo.devRef_mem_tcRefs main_arg7, by decide⟩)).trans (U7_arg7 m c),
        (h (Proc.devRef .tc main_arg8) (Finset.mem_filter.mpr ⟨StableHlo.devRef_mem_tcRefs main_arg8, by decide⟩)).trans (U7_arg8 m c),
        (h (Proc.devRef .tc main_arg9) (Finset.mem_filter.mpr ⟨StableHlo.devRef_mem_tcRefs main_arg9, by decide⟩)).trans (U7_arg9 m c),
        (h (Proc.devRef .tc main_arg10) (Finset.mem_filter.mpr ⟨StableHlo.devRef_mem_tcRefs main_arg10, by decide⟩)).trans (U7_arg10 m c),
        (h (Proc.devRef .tc main_arg11) (Finset.mem_filter.mpr ⟨StableHlo.devRef_mem_tcRefs main_arg11, by decide⟩)).trans (U7_arg11 m c),
        (h (Proc.devRef .tc main_arg12) (Finset.mem_filter.mpr ⟨StableHlo.devRef_mem_tcRefs main_arg12, by decide⟩)).trans (U7_arg12 m c),
        (h (Proc.devRef .tc main_arg13) (Finset.mem_filter.mpr ⟨StableHlo.devRef_mem_tcRefs main_arg13, by decide⟩)).trans (U7_arg13 m c),
        (h (Proc.devRef .tc main_arg14) (Finset.mem_filter.mpr ⟨StableHlo.devRef_mem_tcRefs main_arg14, by decide⟩)).trans (U7_arg14 m c),
        (h (Proc.devRef .tc main_arg15) (Finset.mem_filter.mpr ⟨StableHlo.devRef_mem_tcRefs main_arg15, by decide⟩)).trans (U7_arg15 m c),
        (h (Proc.devRef .tc main_arg16) (Finset.mem_filter.mpr ⟨StableHlo.devRef_mem_tcRefs main_arg16, by decide⟩)).trans (U7_arg16 m c),
        (h (Proc.devRef .tc main_arg17) (Finset.mem_filter.mpr ⟨StableHlo.devRef_mem_tcRefs main_arg17, by decide⟩)).trans (U7_arg17 m c)⟩
    · iexact HSI

end Cert.KernelIdeal.Whole

end
-- ==== Proof.Val0.lean ====
/- The input projection: what the first call leaves in its result array, entry by entry. -/
module

public import proofs.«01_k».proof.Proof.Reg0
public import Idealize.ShloMosaic.Lib.Pipeline.ValueKit
public import Idealize.ShloMosaic.Lib.Pointwise

@[expose] public section

noncomputable section

namespace Cert.KernelIdeal.Reg0

open Cert.KernelIdeal Cert.KernelIdeal.Gen
open Idealize.ShloMosaic Idealize.ShloMosaic.TcCoe Idealize.SL.Sem
open Idealize.ShloMosaic.Pipeline (Dat)

variable (W : Dev nD → Valuation τ sig (Elt Ideal)) (c : Dev nD)

theorem e0 : ∀ t : Fin cfg0.N, win0_0.index t = ![(grid0.coords t 0).val, (grid0.coords t 1).val, 0] :=
  (by decide +kernel : ∀ t : Fin grid0.N, _)
theorem e1 : ∀ t : Fin cfg0.N, win0_1.index t = ![(grid0.coords t 2).val, 0] :=
  (by decide +kernel : ∀ t : Fin grid0.N, _)
theorem e2 : ∀ t : Fin cfg0.N, win0_2.index t = ![(grid0.coords t 0).val, (grid0.coords t 1).val, (grid0.coords t 2).val] :=
  (by decide +kernel : ∀ t : Fin grid0.N, _)
theorem covers : (cfg0.win 2).Covers := by decide +kernel

/-- The two arguments' product at an entry. -/
def prod (x : S2x4096x1024.Idx → EReal) (w : S4096x1024.Idx → EReal) (y : S2x4096x4096.Idx) : EReal :=
  ∑ k : Fin 1024, x (ix3 (y 0) (y 1) k) * w (ix2 (y 2) k)

/-- The result array after the call is the product of the two arguments. -/
theorem final : res W c = prod (V W c main_arg0) (V W c main_arg2) := by
  unfold res
  obtain ⟨G, hG⟩ : ∃ G, G = prod (V W c main_arg0) (V W c main_arg2) := ⟨_, rfl⟩
  rw [← hG]
  refine (dat W c).arrAt_eq_of_covers 2 _ covers fun t hf y => ?_
  blk_simp
  rw [after_2]
  unfold out_2
  frame_out
  rw [hG]
  unfold prod
  pointwise [k0_pay1]
  refine Finset.sum_congr (M := EReal) rfl fun k _ => ?_
  blk_simp [iblk, e0, e1, e2]
  congr 2
  · blk_ext [e0, e2]
  · blk_ext [e1, e2]

end Cert.KernelIdeal.Reg0

end
-- ==== Proof.Seq.lean ====
module

public import Idealize.ShloMosaic.Lib.Pipeline.ValueKit
public import Idealize.ShloMosaic.Lib.Pointwise

/-! One selective scan as recurrences over time on the extended reals: the meeting point of the kernel's chunks and of
the reference's loop. -/

@[expose] public section

noncomputable section

namespace Cert.Seq

open Idealize.ShloMosaic

/-- The weights of one direction. -/
structure Par where
  w : Fin 2048 → Fin 4 → EReal
  cb : Fin 2048 → EReal
  xw : Fin 96 → Fin 2048 → EReal
  dw : Fin 2048 → Fin 64 → EReal
  db : Fin 2048 → EReal
  A : Fin 2048 → Fin 16 → EReal
  D : Fin 2048 → EReal

/-- `x * logistic x`. -/
def silu (v : EReal) : EReal := v * Ideal.logistic v

/-- `log (1 + exp v)`, by the larger of `v` and zero plus a correction. -/
def softplus (v : EReal) : EReal := max v 0 + Ideal.log1p (Ideal.exp (-(FloatOps.absf (F := Ideal) (φ := .f32) v)))

variable (P : Par) (x : ℕ → Fin 2048 → EReal)

/-- The sequence moved three steps later, zeros before its start. -/
def xp (s : ℕ) (d : Fin 2048) : EReal := if s < 3 then 0 else x (s - 3) d

/-- The four-tap convolution. -/
def pre (t : ℕ) (d : Fin 2048) : EReal :=
  P.cb d + P.w d 0 * xp x (t + 0) d + P.w d 1 * xp x (t + 1) d + P.w d 2 * xp x (t + 2) d + P.w d 3 * xp x (t + 3) d

def u (t : ℕ) (d : Fin 2048) : EReal := silu (pre P x t d)

/-- The projection to step size, input and output coefficients. -/
def pr (t : ℕ) (p : Fin 96) : EReal := ∑ d, u P x t d * P.xw p d

def dt (t : ℕ) (d : Fin 2048) : EReal := softplus ((∑ r : Fin 64, pr P x t ⟨r.val, by omega⟩ * P.dw d r) + P.db d)

def B (t : ℕ) (n : Fin 16) : EReal := pr P x t ⟨64 + n.val, by omega⟩
def C (t : ℕ) (n : Fin 16) : EReal := pr P x t ⟨80 + n.val, by omega⟩

/-- The state before step `t`. -/
def H : ℕ → Fin 2048 → Fin 16 → EReal
  | 0, _, _ => 0
  | t + 1, d, n => Ideal.exp (dt P x t d * P.A d n) * H t d n + dt P x t d * u P x t d * B P x t n

/-- The contraction of the state after step `t`. -/
def y (t : ℕ) (d : Fin 2048) : EReal := ∑ n, C P x t n * H P x (t + 1) d n

/-- The scan's output. -/
def out (t : ℕ) (d : Fin 2048) : EReal := y P x t d + u P x t d * P.D d

end Cert.Seq

end
-- ==== Proof.ScanVal.lean ====
module

public import proofs.«01_k».proof.Proof.ScanSpec
public import proofs.«01_k».proof.Proof.Seq

/-! The vectors of a chunk of a scan, read at an element on the extended reals. -/

@[expose] public section

set_option maxRecDepth 8192

noncomputable section

namespace Cert.KernelIdeal.Scan

open Cert.KernelIdeal.Gen
open Idealize.ShloMosaic Idealize.ShloMosaic.TcCoe

theorem softplus_apply (v : FVec Ideal S256x2048 .f32) (i : S256x2048.Idx) : softplus v i = Seq.softplus (v i) := by
  pointwise [softplus]
  rw [if_neg (fun h => h rfl)]
  unfold Seq.softplus
  rw [zero_sub]

theorem act_apply (v : FVec Ideal S256x2048 .f32) (i : S256x2048.Idx) : act v i = Seq.silu (v i) := by
  pointwise [act]
  rfl

theorem fullF_apply (x : Vec Ideal S1x256x2048 .f32) (halo : Vec Ideal S3x2048 .f32) (i : S259x2048.Idx) :
    fullF x halo i = if h : (i 0).val < 3 then halo (ix2 ⟨(i 0).val, h⟩ (i 1)) else x (ix3 0 ⟨(i 0).val - 3, by have := (i 0).isLt; simp at this; omega⟩ (i 1)) := by
  pointwise [fullF, rows]

theorem fullB_apply (x : Vec Ideal S1x256x2048 .f32) (halo : Vec Ideal S3x2048 .f32) (i : S259x2048.Idx) :
    fullB x halo i = if h : (i 0).val < 256 then x (ix3 0 ⟨(i 0).val, h⟩ (i 1)) else halo (ix2 ⟨(i 0).val - 256, by have := (i 0).isLt; simp at this; omega⟩ (i 1)) := by
  pointwise [fullB, rows]

theorem conv_apply (full : FVec Ideal S259x2048 .f32) (cb : Vec Ideal S1x2048 .f32) (w : Vec Ideal S4x2048 .f32) (r : Fin 256) (d : Fin 2048) :
    conv full cb w (ix2 r d) = cb (ix2 0 d) + w (ix2 0 d) * full (ix2 ⟨r.val, by omega⟩ d) + w (ix2 1 d) * full (ix2 ⟨1 + r.val, by omega⟩ d)
      + w (ix2 2 d) * full (ix2 ⟨2 + r.val, by omega⟩ d) + w (ix2 3 d) * full (ix2 ⟨3 + r.val, by omega⟩ d) := by
  pointwise [conv, bRow]

theorem dtRaw_apply (I : In Ideal) (u : FVec Ideal S256x2048 .f32) (r : Fin 256) (d : Fin 2048) :
    dtRaw I u (ix2 r d) = ∑ q : Fin 64, (∑ k : Fin 2048, u (ix2 r k) * I.wdt (ix2 q k)) * I.dtw (ix2 d q) + I.dtb (ix2 0 d) := by
  pointwise [dtRaw, bRow]

theorem dtV_apply (I : In Ideal) (u : FVec Ideal S256x2048 .f32) (i : S256x2048.Idx) : dtV I u i = Seq.softplus (dtRaw I u i) := by
  unfold dtV
  rw [shapeCast_self, softplus_apply]

theorem dtuV_apply (I : In Ideal) (u : FVec Ideal S256x2048 .f32) (i : S256x2048.Idx) : dtuV I u i = Seq.softplus (dtRaw I u i) * u i := by
  unfold dtuV
  rw [shapeCast_self]
  exact congrArg (fun z : EReal => z * u i) (softplus_apply _ _)

theorem proj16_apply (u : FVec Ideal S256x2048 .f32) (w : Vec Ideal S16x2048 .f32) (r : Fin 256) (n : Fin 16) :
    proj16 u w (ix2 r n) = ∑ k : Fin 2048, u (ix2 r k) * w (ix2 n k) := by
  pointwise [proj16]

theorem yRow_apply (c : FVec Ideal S1x16 .f32) (h : FVec Ideal S16x2048 .f32) (d : Fin 2048) :
    yRow c h (ix2 0 d) = ∑ n : Fin 16, c (ix2 0 n) * h (ix2 n d) := by
  pointwise [yRow]

theorem stackY_apply (c8 : Vec Ideal S8x16 .f32) (g : Fin 8 → Vec Ideal S16x2048 .f32) (j : Fin 8) (d : Fin 2048) :
    stackY c8 g (ix3 0 j d) = ∑ n : Fin 16, c8 (ix2 j n) * g j (ix2 n d) := by
  pointwise [stackY, yRow]
  fin_cases j <;> rfl

theorem outY_apply (u : FVec Ideal S256x2048 .f32) (y : Vec Ideal S1x256x2048 .f32) (dv : Vec Ideal S1x2048 .f32) (r : Fin 256) (d : Fin 2048) :
    outY u y dv (ix3 0 r d) = y (ix3 0 r d) + u (ix2 r d) * dv (ix2 0 d) := by
  pointwise [outY, bRow]

theorem keepF_apply (x : Vec Ideal S1x256x2048 .f32) (i : Fin 3) (d : Fin 2048) :
    keepF x (ix2 i d) = x (ix3 0 ⟨253 + i.val, by omega⟩ d) := by
  pointwise [keepF, rows]

theorem keepB_apply (x : Vec Ideal S1x256x2048 .f32) (i : Fin 3) (d : Fin 2048) :
    keepB x (ix2 i d) = x (ix3 0 ⟨i.val, by omega⟩ d) := by
  pointwise [keepB, rows]

theorem keepH_eq (h : Vec Ideal S16x2048 .f32) : keepH h = h := shapeCast_self _ _

theorem zeroH_apply (i : S16x2048.Idx) : zeroH (F := Ideal) i = 0 := by
  pointwise [zeroH]

theorem zeroK_apply (i : S3x2048.Idx) : zeroK (F := Ideal) i = 0 := by
  pointwise [zeroK]

/-- A column's rows are where the column is stored. -/
theorem col_piece (f : ℕ → FVec Ideal S8x2048 .f32) (n : ℕ) (inb) (x : (Rect.unit (s := S8x16x2048) ![0, n, 0] S8x1x2048.size inb).shape.Idx) :
    toCol (f n) x = (fun y : S8x16x2048.Idx => f (y 1).val (ix2 (y 0) (y 2))) ((Rect.unit (s := S8x16x2048) ![0, n, 0] S8x1x2048.size inb).emb x) := by
  have h1 : (x 1).val < 1 := (x 1).isLt
  have hn : ((Rect.unit (s := S8x16x2048) ![0, n, 0] S8x1x2048.size inb).emb x 1).val = n := by
    show n + 1 * (x 1).val = n
    omega
  show _ = f ((Rect.unit (s := S8x16x2048) ![0, n, 0] S8x1x2048.size inb).emb x 1).val _
  rw [hn]
  have hc : ∀ z : S8x1x2048.Idx, toCol (f n) z = f n (ix2 (z 0) (z 2)) := fun z => by pointwise [toCol]
  refine (hc x).trans (congrArg (f n) ?_)
  funext a
  fin_cases a
  · exact Fin.ext (by show (x 0).val = 0 + 1 * (x 0).val; omega)
  · exact Fin.ext (by show (x 2).val = 0 + 1 * (x 2).val; omega)

/-- The input of state column `n` for the eight steps of a trip. -/
def bxE (dtu8 : Vec Ideal S8x2048 .f32) (b8 : Vec Ideal S8x16 .f32) (n : ℕ) : FVec Ideal S8x2048 .f32 :=
  fun i => (dtu8 i : EReal) * b8 (ix2 (i 0) (Fin.ofNat 16 n))

theorem bx_eq (dtu8 : Vec Ideal S8x2048 .f32) (b8 : Vec Ideal S8x16 .f32) (n : ℕ) (hn : n < 16) (h) :
    bx dtu8 (extractStridedSlice S8x1 ![0, n] b8 h) = bxE dtu8 b8 n := by
  funext i
  have : Fin.ofNat 16 n = ⟨n, hn⟩ := Fin.ext (Nat.mod_eq_of_lt hn)
  unfold bxE
  rw [this]
  pointwise [bx]

theorem canon_pA (v82 : Vec Ideal S16x2048 .f32) (dt8 : Vec Ideal S8x2048 .f32) (y : S8x16x2048.Idx) :
    View.canon (pA v82 dt8) y = pw v82 dt8 (y 1).val (ix2 (y 0) (y 2)) := by
  refine View.canon_apply_of_pieces (fun y : S8x16x2048.Idx => pw v82 dt8 (y 1).val (ix2 (y 0) (y 2))) _ (fun p hp => ?_) y (cover_pA v82 dt8 y)
  simp only [pA, List.mem_cons, List.not_mem_nil, or_false] at hp
  rcases hp with rfl | rfl | rfl | rfl | rfl | rfl | rfl | rfl | rfl | rfl | rfl | rfl | rfl | rfl | rfl | rfl <;>
    exact fun x => col_piece (pw v82 dt8) _ (by decide) x

theorem canon_pB (dtu8 : Vec Ideal S8x2048 .f32) (b8 : Vec Ideal S8x16 .f32) (y : S8x16x2048.Idx) :
    View.canon (pB dtu8 b8) y = bxE dtu8 b8 (y 1).val (ix2 (y 0) (y 2)) := by
  refine View.canon_apply_of_pieces (fun y : S8x16x2048.Idx => bxE dtu8 b8 (y 1).val (ix2 (y 0) (y 2))) _ (fun p hp => ?_) y (cover_pB dtu8 b8 y)
  simp only [pB, List.mem_cons, List.not_mem_nil, or_false] at hp
  rcases hp with rfl | rfl | rfl | rfl | rfl | rfl | rfl | rfl | rfl | rfl | rfl | rfl | rfl | rfl | rfl | rfl <;>
    exact fun x => (congrArg (fun z => toCol z x) (bx_eq dtu8 b8 _ (by decide) _)).trans (col_piece (bxE dtu8 b8) _ (by decide) x)

theorem pw1_apply (v82 : Vec Ideal S16x2048 .f32) (dt8 : Vec Ideal S8x2048 .f32) (r : Fin 8) (d : Fin 2048) :
    pw1 v82 dt8 (ix2 r d) = Ideal.exp (dt8 (ix2 r d) * v82 (ix2 0 d)) := by
  pointwise [pw1]

theorem pw_apply (v82 : Vec Ideal S16x2048 .f32) (dt8 : Vec Ideal S8x2048 .f32) (n : ℕ) (r : Fin 8) (d : Fin 2048) :
    pw v82 dt8 n (ix2 r d) = Ideal.exp (dt8 (ix2 r d) * v82 (ix2 0 d)) ^ (n + 1) := by
  induction n with
  | zero => rw [zero_add, pow_one]; exact pw1_apply v82 dt8 r d
  | succ n ih =>
    rw [pow_succ, ← ih, ← pw1_apply v82 dt8 r d]
    rfl

theorem rowA_apply (v82 : Vec Ideal S16x2048 .f32) (dt8 : Vec Ideal S8x2048 .f32) (j : Fin 8) (n : Fin 16) (d : Fin 2048) :
    rowV (pA v82 dt8) j (ix3 0 n d) = Ideal.exp (dt8 (ix2 j d) * v82 (ix2 0 d)) ^ (n.val + 1) := by
  rw [← pw_apply]
  refine (canon_pA v82 dt8 _).trans ?_
  have e1 : ((Rect.unit (s := S8x16x2048) ![j.val, 0, 0] S1x16x2048.size (rowInb j)).idx (ix3 0 n d) 1).val = n.val := by
    show 0 + 1 * n.val = n.val
    omega
  rw [e1]
  congr 1
  funext a
  fin_cases a
  · exact Fin.ext (by show j.val + 1 * 0 = j.val; omega)
  · exact Fin.ext (by show 0 + 1 * d.val = d.val; omega)

theorem rowB_apply (dtu8 : Vec Ideal S8x2048 .f32) (b8 : Vec Ideal S8x16 .f32) (j : Fin 8) (n : Fin 16) (d : Fin 2048) :
    rowV (pB dtu8 b8) j (ix3 0 n d) = (dtu8 (ix2 j d) : EReal) * b8 (ix2 j n) := by
  refine (canon_pB dtu8 b8 _).trans ?_
  unfold bxE
  congr 2
  · funext a
    fin_cases a
    · exact Fin.ext (by show j.val + 1 * 0 = j.val; omega)
    · exact Fin.ext (by show 0 + 1 * d.val = d.val; omega)
  · funext a
    fin_cases a
    · exact Fin.ext (by show j.val + 1 * 0 = j.val; omega)
    · exact Fin.ext (by show (0 + 1 * n.val) % 16 = n.val; omega)

theorem hStep_apply (a b : Vec Ideal S1x16x2048 .f32) (h : Vec Ideal S16x2048 .f32) (n : Fin 16) (d : Fin 2048) :
    hStep a b h (ix2 n d) = a (ix3 0 n d) * h (ix2 n d) + b (ix3 0 n d) := by
  pointwise [hStep]

/-- The weights a chunk reads are those of one direction. -/
structure Wts (P : Seq.Par) (I : In Ideal) : Prop where
  cb : ∀ d, I.cb (ix2 0 d) = P.cb d
  wdt : ∀ (q : Fin 64) d, I.wdt (ix2 q d) = P.xw ⟨q.val, by omega⟩ d
  wB : ∀ (n : Fin 16) d, I.wB (ix2 n d) = P.xw ⟨64 + n.val, by omega⟩ d
  wC : ∀ (n : Fin 16) d, I.wC (ix2 n d) = P.xw ⟨80 + n.val, by omega⟩ d
  dtw : ∀ d q, I.dtw (ix2 d q) = P.dw d q
  dtb : ∀ d, I.dtb (ix2 0 d) = P.db d
  nA : ∀ n d, I.nA (ix2 n d) = P.A d n
  dv : ∀ d, I.dv (ix2 0 d) = P.D d
  /-- The decay of every state column is a power of the first's. -/
  pow : ∀ (z : EReal) d (n : Fin 16), Ideal.exp (z * P.A d n) = Ideal.exp (z * P.A d 0) ^ (n.val + 1)

variable {P : Seq.Par} {I : In Ideal} (hI : Wts P I) (x : ℕ → Fin 2048 → EReal)

section
variable (u : FVec Ideal S256x2048 .f32) (r : Fin 256) (t : ℕ) (hu : ∀ d, u (ix2 r d) = Seq.u P x t d)
include hI hu

/-- The step sizes of a row whose activated inputs are those of time `t`. -/
theorem dtV_at (d : Fin 2048) : dtV I u (ix2 r d) = Seq.dt P x t d := by
  rw [dtV_apply, dtRaw_apply]
  simp only [hu, hI.wdt, hI.dtw, hI.dtb]
  rfl

theorem dtuV_at (d : Fin 2048) : dtuV I u (ix2 r d) = Seq.dt P x t d * Seq.u P x t d := by
  rw [dtuV_apply, ← dtV_apply, dtV_at hI x u r t hu d, hu]

theorem B_at (n : Fin 16) : proj16 u I.wB (ix2 r n) = Seq.B P x t n := by
  rw [proj16_apply]
  simp only [hu, hI.wB]
  rfl

theorem C_at (n : Fin 16) : proj16 u I.wC (ix2 r n) = Seq.C P x t n := by
  rw [proj16_apply]
  simp only [hu, hI.wC]
  rfl
end

include hI in
/-- The state after `s` of eight steps that start at time `t`. -/
theorem hRun_at (ra rb : Fin 8 → Vec Ideal S1x16x2048 .f32) (acc : Vec Ideal S16x2048 .f32) (t : ℕ)
    (hacc : ∀ n d, acc (ix2 n d) = Seq.H P x t d n)
    (ha : ∀ (s : Fin 8) n d, ra s (ix3 0 n d) = Ideal.exp (Seq.dt P x (t + s.val) d * P.A d 0) ^ (n.val + 1))
    (hb : ∀ (s : Fin 8) n d, rb s (ix3 0 n d) = Seq.dt P x (t + s.val) d * Seq.u P x (t + s.val) d * Seq.B P x (t + s.val) n)
    (s : ℕ) (hs : s ≤ 8) (n : Fin 16) (d : Fin 2048) : hRun ra rb acc s (ix2 n d) = Seq.H P x (t + s) d n := by
  induction s with
  | zero => exact hacc n d
  | succ s ih =>
    have e : (Fin.ofNat 8 s).val = s := Nat.mod_eq_of_lt (by omega)
    show hStep _ _ _ _ = _
    rw [hStep_apply, ih (by omega), ha, hb, ← hI.pow, e]
    rfl

end Cert.KernelIdeal.Scan

end
-- ==== Proof.Chunk1.lean ====
module

public import proofs.«01_k».proof.Proof.Scan1Body
public import proofs.«01_k».proof.Proof.ScanVal

/-! A chunk of the forward scan is 256 steps of the recurrence. -/

@[expose] public section

set_option maxRecDepth 8192
set_option maxHeartbeats 1000000

noncomputable section

namespace Cert.KernelIdeal.Scan1

open Cert.KernelIdeal.Gen Cert.KernelIdeal.Scan
open Idealize.ShloMosaic Idealize.ShloMosaic.TcCoe

variable {P : Seq.Par} {I : In Ideal} (hI : Wts P I) (x : ℕ → Fin 2048 → EReal) (T0 : ℕ) (halo : Vec Ideal S3x2048 .f32) (h : Vec Ideal S16x2048 .f32)
  (ht : ∀ (j : Fin 4) d, I.taps (ix2 j d) = P.w d j)
  (hx : ∀ (r : Fin 256) d, I.x (ix3 0 r d) = x (T0 + r.val) d)
  (hk : ∀ (i : Fin 3) d, halo (ix2 i d) = Seq.xp x (T0 + i.val) d)
  (hh : ∀ n d, h (ix2 n d) = Seq.H P x T0 d n)

section
include hx hk
theorem full_at (s : Fin 259) (d : Fin 2048) : fullF I.x halo (ix2 s d) = Seq.xp x (T0 + s.val) d := by
  rw [fullF_apply]
  by_cases h3 : s.val < 3
  · rw [dif_pos (show ((ix2 s d : S259x2048.Idx) 0).val < 3 from h3)]
    exact hk ⟨s.val, h3⟩ d
  · rw [dif_neg (show ¬ ((ix2 s d : S259x2048.Idx) 0).val < 3 from h3)]
    refine (hx ⟨s.val - 3, by omega⟩ d).trans ?_
    unfold Seq.xp
    rw [if_neg (by omega)]
    exact congrArg (fun t => x t d) (by show T0 + (s.val - 3) = _; omega)

include hI ht
/-- The activated inputs of the chunk. -/
theorem u_at (r : Fin 256) (d : Fin 2048) : uV I halo (ix2 r d) = Seq.u P x (T0 + r.val) d := by
  unfold uV
  rw [act_apply]
  refine congrArg Seq.silu ?_
  rw [conv_apply]
  simp only [full_at x T0 halo hx hk, ht, hI.cb]
  have e0 : T0 + r.val = T0 + r.val + 0 := rfl
  have e1 : T0 + (1 + r.val) = T0 + r.val + 1 := by omega
  have e2 : T0 + (2 + r.val) = T0 + r.val + 2 := by omega
  have e3 : T0 + (3 + r.val) = T0 + r.val + 3 := by omega
  rw [e1, e2, e3]
  rfl

end

theorem ld8 (X : Vec Ideal S256x2048 .f32) (k : Fin k1_t1_loop.trips) (j : Fin 8) (d : Fin 2048) :
    View.ld X (Rect.unit (s := S256x2048) (k1_off1 k) S8x2048.size (k1_off1_inb k)) (ix2 j d)
      = X (ix2 ⟨8 * k.val + j.val, by have := k.isLt; have e := trips_eq; omega⟩ d) := by
  rw [View.ld_apply]
  congr 1
  funext a
  fin_cases a
  · refine Fin.ext ?_
    show k1_off1 k 0 + 1 * j.val = 8 * k.val + j.val
    rw [k1_off1_eq]
    show 8 * k.val + 1 * j.val = _
    omega
  · refine Fin.ext ?_
    show k1_off1 k 1 + 1 * d.val = d.val
    rw [k1_off1_eq]
    show 0 + 1 * d.val = _
    omega

theorem ld16 (X : Vec Ideal S256x16 .f32) (k : Fin k1_t1_loop.trips) (j : Fin 8) (n : Fin 16) :
    View.ld X (Rect.unit (s := S256x16) (k1_off2 k) S8x16.size (k1_off2_inb k)) (ix2 j n)
      = X (ix2 ⟨8 * k.val + j.val, by have := k.isLt; have e := trips_eq; omega⟩ n) := by
  rw [View.ld_apply]
  congr 1
  funext a
  fin_cases a
  · refine Fin.ext ?_
    show k1_off2 k 0 + 1 * j.val = 8 * k.val + j.val
    rw [k1_off2_eq]
    show 8 * k.val + 1 * j.val = _
    omega
  · refine Fin.ext ?_
    show k1_off2 k 1 + 1 * n.val = n.val
    rw [k1_off2_eq]
    show 0 + 1 * n.val = _
    omega

variable (u : FVec Ideal S256x2048 .f32) (hu : ∀ (r : Fin 256) d, u (ix2 r d) = Seq.u P x (T0 + r.val) d)

include hI hu in
/-- The state after `s` steps of trip `k`. -/
theorem steps_at (k : Fin k1_t1_loop.trips) (acc : Vec Ideal S16x2048 .f32) (hacc : ∀ n d, acc (ix2 n d) = Seq.H P x (T0 + 8 * k.val) d n)
    (d8 u8 : Vec Ideal S8x2048 .f32) (b8 : Vec Ideal S8x16 .f32)
    (hd : d8 = View.ld (dtV I u) (Rect.unit (s := S256x2048) (k1_off1 k) S8x2048.size (k1_off1_inb k)))
    (hu8 : u8 = View.ld (dtuV I u) (Rect.unit (s := S256x2048) (k1_off1 k) S8x2048.size (k1_off1_inb k)))
    (hb : b8 = View.ld (proj16 u I.wB) (Rect.unit (s := S256x16) (k1_off2 k) S8x16.size (k1_off2_inb k)))
    (s : ℕ) (hs : s ≤ 8) (n : Fin 16) (d : Fin 2048) :
    hRun (rowV (pA I.nA d8)) (rowV (pB u8 b8)) acc s (ix2 n d) = Seq.H P x (T0 + 8 * k.val + s) d n := by
  have hkl : k.val < 32 := lt_of_lt_of_eq k.isLt trips_eq
  refine hRun_at hI x _ _ acc (T0 + 8 * k.val) hacc (fun s n d => ?_) (fun s n d => ?_) s hs n d
  · refine (rowA_apply _ _ _ n d).trans ?_
    rw [hd, ld8, dtV_at hI x u _ _ (fun d => hu _ d), hI.nA]
    exact congrArg (fun t => Ideal.exp (Seq.dt P x t d * P.A d 0) ^ (n.val + 1)) (by show T0 + (8 * k.val + s.val) = _; omega)
  · refine (rowB_apply _ _ _ n d).trans ?_
    rw [hu8, hb, ld8, ld16, dtuV_at hI x u _ _ (fun d => hu _ d), B_at hI x u _ _ (fun d => hu _ d)]
    exact congrArg (fun t => Seq.dt P x t d * Seq.u P x t d * Seq.B P x t n) (by show T0 + (8 * k.val + s.val) = _; omega)

include hI hu hh in
/-- The state before trip `k`. -/
theorem hAt_at (k : ℕ) (hk : k ≤ 32) (n : Fin 16) (d : Fin 2048) :
    hAt I.nA (dtV I u) (dtuV I u) (proj16 u I.wB) (proj16 u I.wC) h k (ix2 n d) = Seq.H P x (T0 + 8 * k) d n := by
  induction k generalizing n d with
  | zero => exact hh n d
  | succ k ih =>
    have hkk : k < k1_t1_loop.trips := by rw [trips_eq]; omega
    rw [hAt_succ I.nA _ _ _ _ h ⟨k, hkk⟩]
    unfold tripR
    exact steps_at hI x T0 u hu ⟨k, hkk⟩ _ (fun n d => ih (by omega) n d) _ _ _ rfl rfl rfl 8 le_rfl n d

include hI hu hh in
/-- The rows of one trip. -/
theorem tripY_at (k : Fin k1_t1_loop.trips) (j : Fin 8) (d : Fin 2048) :
    tripY I.nA (dtV I u) (dtuV I u) (proj16 u I.wB) (proj16 u I.wC) k (hAt I.nA (dtV I u) (dtuV I u) (proj16 u I.wB) (proj16 u I.wC) h k.val) (ix3 0 j d)
      = Seq.y P x (T0 + 8 * k.val + j.val) d := by
  have hkl : k.val < 32 := lt_of_lt_of_eq k.isLt trips_eq
  unfold tripY
  rw [stackY_apply]
  refine Finset.sum_congr (M := EReal) rfl fun n _ => ?_
  have e1 := steps_at hI x T0 u hu k _ (fun n d => hAt_at hI x T0 h hh u hu k.val (by omega) n d) _ _ _ rfl rfl rfl (j.val + 1) (by omega) n d
  have e2 : Seq.H P x (T0 + 8 * k.val + (j.val + 1)) d n = Seq.H P x ((T0 + 8 * k.val + j.val) + 1) d n :=
    congrArg (fun t => Seq.H P x t d n) (by omega)
  have e3 := ((ld16 (proj16 u I.wC) k j n).trans (C_at hI x u _ _ (fun d => hu _ d) n)).trans
    (congrArg (fun t => Seq.C P x t n) (show T0 + (8 * k.val + j.val) = T0 + 8 * k.val + j.val by omega))
  rw [e3]
  exact congrArg (fun z : EReal => Seq.C P x (T0 + 8 * k.val + j.val) n * z) (e1.trans e2)

include hI hu hh in
/-- The rows of the chunk. -/
theorem y_at (r : Fin 256) (d : Fin 2048) :
    View.canon (yPieces I.nA (dtV I u) (dtuV I u) (proj16 u I.wB) (proj16 u I.wC) h 32) (ix3 0 r d) = Seq.y P x (T0 + r.val) d := by
  refine View.canon_apply_of_pieces (Val := Elt Ideal) (e := .f32) (fun y : S1x256x2048.Idx => Seq.y P x (T0 + (y 1).val) (y 2)) _ ?_ (ix3 0 r d) (cover_y _ _ _ _ _ _ _)
  have key : ∀ n ≤ 32, ∀ p ∈ yPieces I.nA (dtV I u) (dtuV I u) (proj16 u I.wB) (proj16 u I.wC) h n, ∀ z : p.1.shape.Idx,
      p.2 z = (fun y : S1x256x2048.Idx => Seq.y P x (T0 + (y 1).val) (y 2)) (p.1.emb z) := by
    intro n
    induction n with
    | zero => intro _ p hp; exact absurd hp List.not_mem_nil
    | succ n ih =>
      intro hn p hp
      have hnn : n < k1_t1_loop.trips := by rw [trips_eq]; omega
      rw [yPieces_succ I.nA _ _ _ _ h ⟨n, hnn⟩] at hp
      rcases List.mem_cons.mp hp with rfl | hp
      · intro z
        have hz : z = ix3 (0 : Fin 1) (z 1 : Fin 8) (z 2 : Fin 2048) := by
          funext a
          fin_cases a
          · exact Fin.ext (by have := (z 0).isLt; show (z 0).val = 0; exact Nat.lt_one_iff.mp this)
          · rfl
          · rfl
        have e1 : ((tripRect ⟨n, hnn⟩).emb z 1).val = 8 * n + (z 1).val := by
          show k1_off3 ⟨n, hnn⟩ 1 + 1 * (z 1).val = _
          rw [k1_off3_eq]
          show 8 * n + 1 * (z 1).val = _
          omega
        have e2 : (tripRect ⟨n, hnn⟩).emb z 2 = (z 2 : Fin 2048) := by
          refine Fin.ext ?_
          show k1_off3 ⟨n, hnn⟩ 2 + 1 * (z 2).val = _
          rw [k1_off3_eq]
          show 0 + 1 * (z 2).val = _
          omega
        have h8 : (z 1).val < 8 := (z 1).isLt
        have e3 := tripY_at hI x T0 h hh u hu ⟨n, hnn⟩ (z 1) (z 2)
        refine (congrArg (tripY I.nA (dtV I u) (dtuV I u) (proj16 u I.wB) (proj16 u I.wC) ⟨n, hnn⟩ (hAt I.nA (dtV I u) (dtuV I u) (proj16 u I.wB) (proj16 u I.wC) h n)) hz).trans (e3.trans ?_)
        show _ = Seq.y P x _ _
        rw [e1, e2]
        exact congrArg (fun t => Seq.y P x t (z 2)) (by show (T0 + 8 * n + (z 1).val) = _; omega)
      · exact ih (by omega) p hp
  exact key 32 le_rfl

include hI ht hx hk hh

/-- The state kept after the chunk. -/
theorem hOut_at (n : Fin 16) (d : Fin 2048) : hOut I halo h (ix2 n d) = Seq.H P x (T0 + 256) d n := by
  unfold hOut hV
  rw [keepH_eq]
  exact hAt_at hI x T0 h hh (uV I halo) (fun r d => u_at hI x T0 halo ht hx hk r d) 32 le_rfl n d

/-- The chunk's outputs. -/
theorem yOut_at (r : Fin 256) (d : Fin 2048) : yOut I halo h (ix3 0 r d) = Seq.out P x (T0 + r.val) d := by
  unfold yOut yV
  rw [outY_apply, y_at hI x T0 h hh (uV I halo) (fun r d => u_at hI x T0 halo ht hx hk r d), u_at hI x T0 halo ht hx hk, hI.dv]
  rfl

omit hI ht hk hh in
/-- The rows kept for the next chunk. -/
theorem keep_at (i : Fin 3) (d : Fin 2048) : keepF I.x (ix2 i d) = Seq.xp x (T0 + 256 + i.val) d := by
  rw [keepF_apply, hx]
  unfold Seq.xp
  rw [if_neg (by omega)]
  exact congrArg (fun t => x t d) (by show T0 + (253 + i.val) = _; omega)

end Cert.KernelIdeal.Scan1

end
-- ==== Proof.Val1.lean ====
module

public import proofs.«01_k».proof.Proof.Reg1
public import proofs.«01_k».proof.Proof.Chunk1

/-! What the forward scan leaves in its result array: the recurrence's outputs, sequence by sequence. -/

@[expose] public section

set_option maxRecDepth 8192
set_option maxHeartbeats 1000000

noncomputable section

namespace Cert.KernelIdeal.Reg1

open Cert.KernelIdeal Cert.KernelIdeal.Gen Cert.KernelIdeal.Scan Cert.KernelIdeal.Scan1
open Idealize.ShloMosaic Idealize.ShloMosaic.TcCoe Idealize.SL.Sem
open Idealize.ShloMosaic.Pipeline (Dat)

variable (W : Dev nD → Valuation τ sig (Elt Ideal)) (c : Dev nD)

theorem e0 : ∀ t : Fin cfg1.N, win1_0.index t = ![(grid1.coords t 0).val, (grid1.coords t 1).val, 0] :=
  (by decide +kernel : ∀ t : Fin grid1.N, _)
theorem e1 : ∀ t : Fin cfg1.N, win1_1.index t = ![0, 0] :=
  (by decide +kernel : ∀ t : Fin grid1.N, _)
theorem e2 : ∀ t : Fin cfg1.N, win1_2.index t = ![0, 0] :=
  (by decide +kernel : ∀ t : Fin grid1.N, _)
theorem e3 : ∀ t : Fin cfg1.N, win1_3.index t = ![0, 0] :=
  (by decide +kernel : ∀ t : Fin grid1.N, _)
theorem e4 : ∀ t : Fin cfg1.N, win1_4.index t = ![0, 0] :=
  (by decide +kernel : ∀ t : Fin grid1.N, _)
theorem e5 : ∀ t : Fin cfg1.N, win1_5.index t = ![0, 0] :=
  (by decide +kernel : ∀ t : Fin grid1.N, _)
theorem e6 : ∀ t : Fin cfg1.N, win1_6.index t = ![0, 0] :=
  (by decide +kernel : ∀ t : Fin grid1.N, _)
theorem e7 : ∀ t : Fin cfg1.N, win1_7.index t = ![0, 0] :=
  (by decide +kernel : ∀ t : Fin grid1.N, _)
theorem e8 : ∀ t : Fin cfg1.N, win1_8.index t = ![0, 0] :=
  (by decide +kernel : ∀ t : Fin grid1.N, _)
theorem e9 : ∀ t : Fin cfg1.N, win1_9.index t = ![0, 0] :=
  (by decide +kernel : ∀ t : Fin grid1.N, _)
theorem e10 : ∀ t : Fin cfg1.N, win1_10.index t = ![(grid1.coords t 0).val, (grid1.coords t 1).val, 0] :=
  (by decide +kernel : ∀ t : Fin grid1.N, _)
theorem c0 : ∀ t : Fin cfg1.N, (grid1.coords t 0).val = t.val / 16 :=
  (by decide +kernel : ∀ t : Fin grid1.N, _)
theorem c1 : ∀ t : Fin cfg1.N, (grid1.coords t 1).val = t.val % 16 :=
  (by decide +kernel : ∀ t : Fin grid1.N, _)

theorem read_1 (t : Fin cfg1.N) (y : S4x2048.Idx) : iblk W c 1 t y = V W c main_v2 y := by
  blk_simp [iblk, e1]
  congr 1
  blk_ext [e1]
theorem read_2 (t : Fin cfg1.N) (y : S1x2048.Idx) : iblk W c 2 t y = V W c main_v3 y := by
  blk_simp [iblk, e2]
  congr 1
  blk_ext [e2]
theorem read_3 (t : Fin cfg1.N) (y : S64x2048.Idx) : iblk W c 3 t y = V W c main_v4 y := by
  blk_simp [iblk, e3]
  congr 1
  blk_ext [e3]
theorem read_4 (t : Fin cfg1.N) (y : S16x2048.Idx) : iblk W c 4 t y = V W c main_v5 y := by
  blk_simp [iblk, e4]
  congr 1
  blk_ext [e4]
theorem read_5 (t : Fin cfg1.N) (y : S16x2048.Idx) : iblk W c 5 t y = V W c main_v6 y := by
  blk_simp [iblk, e5]
  congr 1
  blk_ext [e5]
theorem read_6 (t : Fin cfg1.N) (y : S2048x64.Idx) : iblk W c 6 t y = V W c main_arg6 y := by
  blk_simp [iblk, e6]
  congr 1
  blk_ext [e6]
theorem read_7 (t : Fin cfg1.N) (y : S1x2048.Idx) : iblk W c 7 t y = V W c main_v7 y := by
  blk_simp [iblk, e7]
  congr 1
  blk_ext [e7]
theorem read_8 (t : Fin cfg1.N) (y : S16x2048.Idx) : iblk W c 8 t y = V W c main_v10 y := by
  blk_simp [iblk, e8]
  congr 1
  blk_ext [e8]
theorem read_9 (t : Fin cfg1.N) (y : S1x2048.Idx) : iblk W c 9 t y = V W c main_v11 y := by
  blk_simp [iblk, e9]
  congr 1
  blk_ext [e9]

/-- Sequence `b` of the scan's input, in the order of time. -/
def seqx (A : S2x4096x4096.Idx → EReal) (b : Fin 2) (t : ℕ) (d : Fin 2048) : EReal := A (ix3 b (Fin.ofNat 4096 t) ⟨d.val, by omega⟩)

theorem read_0 (t : Fin cfg1.N) (b : Fin 2) (hb : b.val = t.val / 16) (r : Fin 256) (d : Fin 2048) :
    iblk W c 0 t (ix3 0 r d) = seqx (V W c main_v0) b (256 * (t.val % 16) + r.val) d := by
  unfold seqx
  blk_simp [iblk, e0]
  congr 1
  blk_ext [e0, c0, c1]
  all_goals (show _ = (256 * (t.val % 16) + r.val) % 4096; omega)

/-- The operand arrays hold the weights of one direction. -/
structure Ops (P : Seq.Par) : Prop where
  taps : ∀ (j : Fin 4) d, V W c main_v2 (ix2 j d) = P.w d j
  cb : ∀ d, V W c main_v3 (ix2 0 d) = P.cb d
  wdt : ∀ (q : Fin 64) d, V W c main_v4 (ix2 q d) = P.xw ⟨q.val, by omega⟩ d
  wB : ∀ (n : Fin 16) d, V W c main_v5 (ix2 n d) = P.xw ⟨64 + n.val, by omega⟩ d
  wC : ∀ (n : Fin 16) d, V W c main_v6 (ix2 n d) = P.xw ⟨80 + n.val, by omega⟩ d
  dtw : ∀ d q, V W c main_arg6 (ix2 d q) = P.dw d q
  dtb : ∀ d, V W c main_v7 (ix2 0 d) = P.db d
  nA : ∀ n d, V W c main_v10 (ix2 n d) = P.A d n
  dv : ∀ d, V W c main_v11 (ix2 0 d) = P.D d
  pow : ∀ (z : EReal) d (n : Fin 16), Ideal.exp (z * P.A d n) = Ideal.exp (z * P.A d 0) ^ (n.val + 1)

variable {P : Seq.Par} (hP : Ops W c P)
include hP

theorem wts (t : Fin cfg1.N) : Wts P (inAt W c t) where
  cb d := (read_2 W c t _).trans (hP.cb d)
  wdt q d := (read_3 W c t _).trans (hP.wdt q d)
  wB n d := (read_4 W c t _).trans (hP.wB n d)
  wC n d := (read_5 W c t _).trans (hP.wC n d)
  dtw d q := (read_6 W c t _).trans (hP.dtw d q)
  dtb d := (read_7 W c t _).trans (hP.dtb d)
  nA n d := (read_8 W c t _).trans (hP.nA n d)
  dv d := (read_9 W c t _).trans (hP.dv d)
  pow := hP.pow

theorem taps_at (t : Fin cfg1.N) (j : Fin 4) (d : Fin 2048) : (inAt W c t).taps (ix2 j d) = P.w d j :=
  (read_1 W c t _).trans (hP.taps j d)

omit hP in
theorem x_at (t : Fin cfg1.N) (b : Fin 2) (hb : b.val = t.val / 16) (r : Fin 256) (d : Fin 2048) :
    (inAt W c t).x (ix3 0 r d) = seqx (V W c main_v0) b (256 * (t.val % 16) + r.val) d := read_0 W c t b hb r d

/-- What the point `n` starts from: the recurrence's state and the rows just before it. -/
theorem carry_at (n : ℕ) (hn : n < 32) (b : Fin 2) (hb : b.val = n / 16) :
    (∀ (i : Fin 16) d, (carry W c n).1 (ix2 i d) = Seq.H P (seqx (V W c main_v0) b) (256 * (n % 16)) d i) ∧
    (∀ (i : Fin 3) d, (carry W c n).2 (ix2 i d) = Seq.xp (seqx (V W c main_v0) b) (256 * (n % 16) + i.val) d) := by
  induction n with
  | zero =>
    rw [carry_start W c 0 rfl]
    refine ⟨fun i d => zeroH_apply (ix2 i d), fun i d => ?_⟩
    unfold Seq.xp
    rw [if_pos (by omega)]
    exact zeroK_apply (ix2 i d)
  | succ n ih =>
    by_cases h0 : (n + 1) % 16 = 0
    · rw [carry_start W c (n + 1) h0, h0]
      refine ⟨fun i d => zeroH_apply (ix2 i d), fun i d => ?_⟩
      unfold Seq.xp
      rw [if_pos (by omega)]
      exact zeroK_apply (ix2 i d)
    · obtain ⟨ih1, ih2⟩ := ih (by omega) (by omega)
      have ht : (pt n).val = n := Nat.mod_eq_of_lt (by omega)
      have hbt : b.val = (pt n).val / 16 := by omega
      have hx := fun (r : Fin 256) d => (x_at W c (pt n) b hbt r d)
      rw [ht] at hx
      have e : 256 * ((n + 1) % 16) = 256 * (n % 16) + 256 := by omega
      rw [carry_next W c n h0, e]
      exact ⟨fun i d => hOut_at (wts W c hP (pt n)) _ _ _ _ (taps_at W c hP (pt n)) hx ih2 ih1 i d,
        fun i d => keep_at _ _ hx i d⟩

omit hP in
theorem covers : (cfg1.win 10).Covers := by decide +kernel

omit hP in
theorem emb_10 (t : Fin cfg1.N) (y : S1x256x2048.Idx) (b : Fin 2) (hb : b.val = t.val / 16) (r : Fin 4096)
    (hr : r.val = 256 * (t.val % 16) + (y 1).val) :
    (win1_10.blk t).view.emb y = ix3 b r (y 2 : Fin 2048) := by
  blk_ext [e10, c0, c1]

/-- The result array after the run: the recurrence's outputs. -/
theorem final : res W c = fun y : S2x4096x2048.Idx => Seq.out P (seqx (V W c main_v0) (y 0)) (y 1).val (y 2) := by
  unfold res
  obtain ⟨G, hG⟩ : ∃ G : S2x4096x2048.Idx → EReal, G = fun y : S2x4096x2048.Idx => Seq.out P (seqx (V W c main_v0) (y 0)) (y 1).val (y 2) := ⟨_, rfl⟩
  rw [← hG]
  refine (dat W c).arrAt_eq_of_covers 10 _ covers fun t hf y => ?_
  have ht : t.val < 32 := t.isLt
  have hr : (y 1).val < 256 := (y 1).isLt
  let b : Fin 2 := ⟨t.val / 16, by omega⟩
  have hemb : (win1_10.blk t).view.emb y = ix3 b (⟨256 * (t.val % 16) + (y 1).val, by omega⟩ : Fin 4096) (y 2 : Fin 2048) := emb_10 t y b rfl _ rfl
  obtain ⟨h1, h2⟩ := carry_at W c hP t.val ht b rfl
  have key := yOut_at (wts W c hP t) _ _ _ _ (taps_at W c hP t) (x_at W c t b rfl) h2 h1 (y 1) (y 2)
  have hy : y = ix3 (0 : Fin 1) (y 1 : Fin 256) (y 2 : Fin 2048) := by
    funext a
    fin_cases a
    · exact Fin.ext (by have := (y 0).isLt; show (y 0).val = 0; exact Nat.lt_one_iff.mp this)
    · rfl
    · rfl
  have lhs : outAt W c t y = Seq.out P (seqx (V W c main_v0) b) (256 * (t.val % 16) + (y 1).val) (y 2) :=
    (congrArg (outAt W c t) hy).trans key
  blk_simp
  rw [after_10]
  refine lhs.trans ?_
  refine Eq.trans ?_ (congrArg G hemb.symm)
  rw [hG]
  exact congrArg (fun s => Seq.out P (seqx (V W c main_v0) b) s (y 2)) (rfl)

end Cert.KernelIdeal.Reg1

end
-- ==== Proof.Chunk2.lean ====
module

public import proofs.«01_k».proof.Proof.Scan2Body
public import proofs.«01_k».proof.Proof.ScanVal

/-! A chunk of the backward scan is 256 steps of the recurrence, its rows in the reverse order of time. -/

@[expose] public section

set_option maxRecDepth 8192
set_option maxHeartbeats 1000000

noncomputable section

namespace Cert.KernelIdeal.Scan2

open Cert.KernelIdeal.Gen Cert.KernelIdeal.Scan
open Idealize.ShloMosaic Idealize.ShloMosaic.TcCoe

variable {P : Seq.Par} {I : In Ideal} (hI : Wts P I) (x : ℕ → Fin 2048 → EReal) (T0 : ℕ) (halo : Vec Ideal S3x2048 .f32) (h : Vec Ideal S16x2048 .f32)
  (ht : ∀ (j : Fin 4) d, I.taps (ix2 j d) = P.w d j.rev)
  (hx : ∀ (r : Fin 256) d, I.x (ix3 0 r d) = x (T0 + (255 - r.val)) d)
  (hk : ∀ (i : Fin 3) d, halo (ix2 i d) = Seq.xp x (T0 + (2 - i.val)) d)
  (hh : ∀ n d, h (ix2 n d) = Seq.H P x T0 d n)

section
include hx hk
theorem full_at (s : Fin 259) (d : Fin 2048) : fullB I.x halo (ix2 s d) = Seq.xp x (T0 + (258 - s.val)) d := by
  rw [fullB_apply]
  by_cases h3 : s.val < 256
  · rw [dif_pos (show ((ix2 s d : S259x2048.Idx) 0).val < 256 from h3)]
    refine (hx ⟨s.val, h3⟩ d).trans ?_
    unfold Seq.xp
    rw [if_neg (by omega)]
    exact congrArg (fun t => x t d) (by show T0 + (255 - s.val) = _; omega)
  · rw [dif_neg (show ¬ ((ix2 s d : S259x2048.Idx) 0).val < 256 from h3)]
    refine (hk ⟨s.val - 256, by omega⟩ d).trans ?_
    exact congrArg (fun t => Seq.xp x t d) (by show T0 + (2 - (s.val - 256)) = _; omega)

include hI ht
/-- The activated inputs of the chunk. -/
theorem u_at (r : Fin 256) (d : Fin 2048) : uV I halo (ix2 r d) = Seq.u P x (T0 + (255 - r.val)) d := by
  unfold uV
  rw [act_apply]
  refine congrArg Seq.silu ?_
  rw [conv_apply]
  simp only [full_at x T0 halo hx hk, ht, hI.cb]
  have e0 : T0 + (258 - r.val) = T0 + (255 - r.val) + 3 := by omega
  have e1 : T0 + (258 - (1 + r.val)) = T0 + (255 - r.val) + 2 := by omega
  have e2 : T0 + (258 - (2 + r.val)) = T0 + (255 - r.val) + 1 := by omega
  have e3 : T0 + (258 - (3 + r.val)) = T0 + (255 - r.val) + 0 := by omega
  rw [e0, e1, e2, e3]
  unfold Seq.pre
  rw [show (0 : Fin 4).rev = 3 from rfl, show (1 : Fin 4).rev = 2 from rfl, show (2 : Fin 4).rev = 1 from rfl, show (3 : Fin 4).rev = 0 from rfl]
  abel

end

theorem ld8 (X : Vec Ideal S256x2048 .f32) (k : Fin k2_t1_loop.trips) (j : Fin 8) (d : Fin 2048) :
    View.ld X (Rect.unit (s := S256x2048) (k2_off1 k) S8x2048.size (k2_off1_inb k)) (ix2 j d)
      = X (ix2 ⟨248 - 8 * k.val + j.val, by have := k.isLt; have e := trips_eq; omega⟩ d) := by
  rw [View.ld_apply]
  congr 1
  funext a
  fin_cases a
  · refine Fin.ext ?_
    show k2_off1 k 0 + 1 * j.val = 248 - 8 * k.val + j.val
    rw [k2_off1_eq]
    show 248 - 8 * k.val + 1 * j.val = _
    omega
  · refine Fin.ext ?_
    show k2_off1 k 1 + 1 * d.val = d.val
    rw [k2_off1_eq]
    show 0 + 1 * d.val = _
    omega

theorem ld16 (X : Vec Ideal S256x16 .f32) (k : Fin k2_t1_loop.trips) (j : Fin 8) (n : Fin 16) :
    View.ld X (Rect.unit (s := S256x16) (k2_off2 k) S8x16.size (k2_off2_inb k)) (ix2 j n)
      = X (ix2 ⟨248 - 8 * k.val + j.val, by have := k.isLt; have e := trips_eq; omega⟩ n) := by
  rw [View.ld_apply]
  congr 1
  funext a
  fin_cases a
  · refine Fin.ext ?_
    show k2_off2 k 0 + 1 * j.val = 248 - 8 * k.val + j.val
    rw [k2_off2_eq]
    show 248 - 8 * k.val + 1 * j.val = _
    omega
  · refine Fin.ext ?_
    show k2_off2 k 1 + 1 * n.val = n.val
    rw [k2_off2_eq]
    show 0 + 1 * n.val = _
    omega

variable (u : FVec Ideal S256x2048 .f32) (hu : ∀ (r : Fin 256) d, u (ix2 r d) = Seq.u P x (T0 + (255 - r.val)) d)

include hI hu in
/-- The state after `s` steps of trip `k`. -/
theorem steps_at (k : Fin k2_t1_loop.trips) (acc : Vec Ideal S16x2048 .f32) (hacc : ∀ n d, acc (ix2 n d) = Seq.H P x (T0 + 8 * k.val) d n)
    (d8 u8 : Vec Ideal S8x2048 .f32) (b8 : Vec Ideal S8x16 .f32)
    (hd : d8 = View.ld (dtV I u) (Rect.unit (s := S256x2048) (k2_off1 k) S8x2048.size (k2_off1_inb k)))
    (hu8 : u8 = View.ld (dtuV I u) (Rect.unit (s := S256x2048) (k2_off1 k) S8x2048.size (k2_off1_inb k)))
    (hb : b8 = View.ld (proj16 u I.wB) (Rect.unit (s := S256x16) (k2_off2 k) S8x16.size (k2_off2_inb k)))
    (s : ℕ) (hs : s ≤ 8) (n : Fin 16) (d : Fin 2048) :
    hRun ((fun s => rowV (pA I.nA d8) s.rev)) ((fun s => rowV (pB u8 b8) s.rev)) acc s (ix2 n d) = Seq.H P x (T0 + 8 * k.val + s) d n := by
  have hkl : k.val < 32 := lt_of_lt_of_eq k.isLt trips_eq
  refine hRun_at hI x _ _ acc (T0 + 8 * k.val) hacc (fun s n d => ?_) (fun s n d => ?_) s hs n d
  · refine (rowA_apply _ _ _ n d).trans ?_
    rw [hd, ld8, dtV_at hI x u _ _ (fun d => hu _ d), hI.nA]
    exact congrArg (fun t => Ideal.exp (Seq.dt P x t d * P.A d 0) ^ (n.val + 1)) (by show T0 + (255 - (248 - 8 * k.val + s.rev.val)) = _; rw [Fin.val_rev]; omega)
  · refine (rowB_apply _ _ _ n d).trans ?_
    rw [hu8, hb, ld8, ld16, dtuV_at hI x u _ _ (fun d => hu _ d), B_at hI x u _ _ (fun d => hu _ d)]
    exact congrArg (fun t => Seq.dt P x t d * Seq.u P x t d * Seq.B P x t n) (by show T0 + (255 - (248 - 8 * k.val + s.rev.val)) = _; rw [Fin.val_rev]; omega)

include hI hu hh in
/-- The state before trip `k`. -/
theorem hAt_at (k : ℕ) (hk : k ≤ 32) (n : Fin 16) (d : Fin 2048) :
    hAt I.nA (dtV I u) (dtuV I u) (proj16 u I.wB) (proj16 u I.wC) h k (ix2 n d) = Seq.H P x (T0 + 8 * k) d n := by
  induction k generalizing n d with
  | zero => exact hh n d
  | succ k ih =>
    have hkk : k < k2_t1_loop.trips := by rw [trips_eq]; omega
    rw [hAt_succ I.nA _ _ _ _ h ⟨k, hkk⟩]
    unfold tripR
    exact steps_at hI x T0 u hu ⟨k, hkk⟩ _ (fun n d => ih (by omega) n d) _ _ _ rfl rfl rfl 8 le_rfl n d

include hI hu hh in
/-- The rows of one trip. -/
theorem tripY_at (k : Fin k2_t1_loop.trips) (j : Fin 8) (d : Fin 2048) :
    tripY I.nA (dtV I u) (dtuV I u) (proj16 u I.wB) (proj16 u I.wC) k (hAt I.nA (dtV I u) (dtuV I u) (proj16 u I.wB) (proj16 u I.wC) h k.val) (ix3 0 j d)
      = Seq.y P x (T0 + 8 * k.val + (7 - j.val)) d := by
  have hkl : k.val < 32 := lt_of_lt_of_eq k.isLt trips_eq
  unfold tripY
  rw [stackY_apply]
  refine Finset.sum_congr (M := EReal) rfl fun n _ => ?_
  have e1 := steps_at hI x T0 u hu k _ (fun n d => hAt_at hI x T0 h hh u hu k.val (by omega) n d) _ _ _ rfl rfl rfl (8 - j.val) (by omega) n d
  have e2 : Seq.H P x (T0 + 8 * k.val + (8 - j.val)) d n = Seq.H P x ((T0 + 8 * k.val + (7 - j.val)) + 1) d n :=
    congrArg (fun t => Seq.H P x t d n) (by omega)
  have e3 := ((ld16 (proj16 u I.wC) k j n).trans (C_at hI x u _ _ (fun d => hu _ d) n)).trans
    (congrArg (fun t => Seq.C P x t n) (show T0 + (255 - (248 - 8 * k.val + j.val)) = T0 + 8 * k.val + (7 - j.val) by omega))
  rw [e3]
  exact congrArg (fun z : EReal => Seq.C P x (T0 + 8 * k.val + (7 - j.val)) n * z) (e1.trans e2)

include hI hu hh in
/-- The rows of the chunk. -/
theorem y_at (r : Fin 256) (d : Fin 2048) :
    View.canon (yPieces I.nA (dtV I u) (dtuV I u) (proj16 u I.wB) (proj16 u I.wC) h 32) (ix3 0 r d) = Seq.y P x (T0 + (255 - r.val)) d := by
  refine View.canon_apply_of_pieces (Val := Elt Ideal) (e := .f32) (fun y : S1x256x2048.Idx => Seq.y P x (T0 + (255 - (y 1).val)) (y 2)) _ ?_ (ix3 0 r d) (cover_y _ _ _ _ _ _ _)
  have key : ∀ n ≤ 32, ∀ p ∈ yPieces I.nA (dtV I u) (dtuV I u) (proj16 u I.wB) (proj16 u I.wC) h n, ∀ z : p.1.shape.Idx,
      p.2 z = (fun y : S1x256x2048.Idx => Seq.y P x (T0 + (255 - (y 1).val)) (y 2)) (p.1.emb z) := by
    intro n
    induction n with
    | zero => intro _ p hp; exact absurd hp List.not_mem_nil
    | succ n ih =>
      intro hn p hp
      have hnn : n < k2_t1_loop.trips := by rw [trips_eq]; omega
      rw [yPieces_succ I.nA _ _ _ _ h ⟨n, hnn⟩] at hp
      rcases List.mem_cons.mp hp with rfl | hp
      · intro z
        have hz : z = ix3 (0 : Fin 1) (z 1 : Fin 8) (z 2 : Fin 2048) := by
          funext a
          fin_cases a
          · exact Fin.ext (by have := (z 0).isLt; show (z 0).val = 0; exact Nat.lt_one_iff.mp this)
          · rfl
          · rfl
        have e1 : ((tripRect ⟨n, hnn⟩).emb z 1).val = 248 - 8 * n + (z 1).val := by
          show k2_off3 ⟨n, hnn⟩ 1 + 1 * (z 1).val = _
          rw [k2_off3_eq]
          show 248 - 8 * n + 1 * (z 1).val = _
          omega
        have e2 : (tripRect ⟨n, hnn⟩).emb z 2 = (z 2 : Fin 2048) := by
          refine Fin.ext ?_
          show k2_off3 ⟨n, hnn⟩ 2 + 1 * (z 2).val = _
          rw [k2_off3_eq]
          show 0 + 1 * (z 2).val = _
          omega
        have h8 : (z 1).val < 8 := (z 1).isLt
        have e3 := tripY_at hI x T0 h hh u hu ⟨n, hnn⟩ (z 1) (z 2)
        refine (congrArg (tripY I.nA (dtV I u) (dtuV I u) (proj16 u I.wB) (proj16 u I.wC) ⟨n, hnn⟩ (hAt I.nA (dtV I u) (dtuV I u) (proj16 u I.wB) (proj16 u I.wC) h n)) hz).trans (e3.trans ?_)
        show _ = Seq.y P x _ _
        rw [e1, e2]
        exact congrArg (fun t => Seq.y P x t (z 2)) (by show (T0 + 8 * n + (7 - (z 1).val)) = _; omega)
      · exact ih (by omega) p hp
  exact key 32 le_rfl

include hI ht hx hk hh

/-- The state kept after the chunk. -/
theorem hOut_at (n : Fin 16) (d : Fin 2048) : hOut I halo h (ix2 n d) = Seq.H P x (T0 + 256) d n := by
  unfold hOut hV
  rw [keepH_eq]
  exact hAt_at hI x T0 h hh (uV I halo) (fun r d => u_at hI x T0 halo ht hx hk r d) 32 le_rfl n d

/-- The chunk's outputs. -/
theorem yOut_at (r : Fin 256) (d : Fin 2048) : yOut I halo h (ix3 0 r d) = Seq.out P x (T0 + (255 - r.val)) d := by
  unfold yOut yV
  rw [outY_apply, y_at hI x T0 h hh (uV I halo) (fun r d => u_at hI x T0 halo ht hx hk r d), u_at hI x T0 halo ht hx hk, hI.dv]
  rfl

omit hI ht hk hh in
/-- The rows kept for the next chunk. -/
theorem keep_at (i : Fin 3) (d : Fin 2048) : keepB I.x (ix2 i d) = Seq.xp x (T0 + 256 + (2 - i.val)) d := by
  rw [keepB_apply, hx]
  unfold Seq.xp
  rw [if_neg (by omega)]
  exact congrArg (fun t => x t d) (by show T0 + (255 - i.val) = _; omega)

end Cert.KernelIdeal.Scan2

end
-- ==== Proof.Val2.lean ====
module

public import proofs.«01_k».proof.Proof.Reg2
public import proofs.«01_k».proof.Proof.Chunk2

/-! What the backward scan leaves in its result array: the recurrence's outputs, sequence by sequence. -/

@[expose] public section

set_option maxRecDepth 8192
set_option maxHeartbeats 1000000

noncomputable section

namespace Cert.KernelIdeal.Reg2

open Cert.KernelIdeal Cert.KernelIdeal.Gen Cert.KernelIdeal.Scan Cert.KernelIdeal.Scan2
open Idealize.ShloMosaic Idealize.ShloMosaic.TcCoe Idealize.SL.Sem
open Idealize.ShloMosaic.Pipeline (Dat)

variable (W : Dev nD → Valuation τ sig (Elt Ideal)) (c : Dev nD)

theorem e0 : ∀ t : Fin cfg2.N, win2_0.index t = ![(grid2.coords t 0).val, 15 - (grid2.coords t 1).val, 0] :=
  (by decide +kernel : ∀ t : Fin grid2.N, _)
theorem e1 : ∀ t : Fin cfg2.N, win2_1.index t = ![0, 0] :=
  (by decide +kernel : ∀ t : Fin grid2.N, _)
theorem e2 : ∀ t : Fin cfg2.N, win2_2.index t = ![0, 0] :=
  (by decide +kernel : ∀ t : Fin grid2.N, _)
theorem e3 : ∀ t : Fin cfg2.N, win2_3.index t = ![0, 0] :=
  (by decide +kernel : ∀ t : Fin grid2.N, _)
theorem e4 : ∀ t : Fin cfg2.N, win2_4.index t = ![0, 0] :=
  (by decide +kernel : ∀ t : Fin grid2.N, _)
theorem e5 : ∀ t : Fin cfg2.N, win2_5.index t = ![0, 0] :=
  (by decide +kernel : ∀ t : Fin grid2.N, _)
theorem e6 : ∀ t : Fin cfg2.N, win2_6.index t = ![0, 0] :=
  (by decide +kernel : ∀ t : Fin grid2.N, _)
theorem e7 : ∀ t : Fin cfg2.N, win2_7.index t = ![0, 0] :=
  (by decide +kernel : ∀ t : Fin grid2.N, _)
theorem e8 : ∀ t : Fin cfg2.N, win2_8.index t = ![0, 0] :=
  (by decide +kernel : ∀ t : Fin grid2.N, _)
theorem e9 : ∀ t : Fin cfg2.N, win2_9.index t = ![0, 0] :=
  (by decide +kernel : ∀ t : Fin grid2.N, _)
theorem e10 : ∀ t : Fin cfg2.N, win2_10.index t = ![(grid2.coords t 0).val, 15 - (grid2.coords t 1).val, 0] :=
  (by decide +kernel : ∀ t : Fin grid2.N, _)
theorem c0 : ∀ t : Fin cfg2.N, (grid2.coords t 0).val = t.val / 16 :=
  (by decide +kernel : ∀ t : Fin grid2.N, _)
theorem c1 : ∀ t : Fin cfg2.N, (grid2.coords t 1).val = t.val % 16 :=
  (by decide +kernel : ∀ t : Fin grid2.N, _)

theorem read_1 (t : Fin cfg2.N) (y : S4x2048.Idx) : iblk W c 1 t y = V W c main_v15 y := by
  blk_simp [iblk, e1]
  congr 1
  blk_ext [e1]
theorem read_2 (t : Fin cfg2.N) (y : S1x2048.Idx) : iblk W c 2 t y = V W c main_v16 y := by
  blk_simp [iblk, e2]
  congr 1
  blk_ext [e2]
theorem read_3 (t : Fin cfg2.N) (y : S64x2048.Idx) : iblk W c 3 t y = V W c main_v17 y := by
  blk_simp [iblk, e3]
  congr 1
  blk_ext [e3]
theorem read_4 (t : Fin cfg2.N) (y : S16x2048.Idx) : iblk W c 4 t y = V W c main_v18 y := by
  blk_simp [iblk, e4]
  congr 1
  blk_ext [e4]
theorem read_5 (t : Fin cfg2.N) (y : S16x2048.Idx) : iblk W c 5 t y = V W c main_v19 y := by
  blk_simp [iblk, e5]
  congr 1
  blk_ext [e5]
theorem read_6 (t : Fin cfg2.N) (y : S2048x64.Idx) : iblk W c 6 t y = V W c main_arg13 y := by
  blk_simp [iblk, e6]
  congr 1
  blk_ext [e6]
theorem read_7 (t : Fin cfg2.N) (y : S1x2048.Idx) : iblk W c 7 t y = V W c main_v20 y := by
  blk_simp [iblk, e7]
  congr 1
  blk_ext [e7]
theorem read_8 (t : Fin cfg2.N) (y : S16x2048.Idx) : iblk W c 8 t y = V W c main_v23 y := by
  blk_simp [iblk, e8]
  congr 1
  blk_ext [e8]
theorem read_9 (t : Fin cfg2.N) (y : S1x2048.Idx) : iblk W c 9 t y = V W c main_v24 y := by
  blk_simp [iblk, e9]
  congr 1
  blk_ext [e9]

/-- Sequence `b` of the scan's input, in the order of time. -/
def seqx (A : S2x4096x4096.Idx → EReal) (b : Fin 2) (t : ℕ) (d : Fin 2048) : EReal := A (ix3 b (Fin.ofNat 4096 (4095 - t)) ⟨d.val, by omega⟩)

theorem read_0 (t : Fin cfg2.N) (b : Fin 2) (hb : b.val = t.val / 16) (r : Fin 256) (d : Fin 2048) :
    iblk W c 0 t (ix3 0 r d) = seqx (V W c main_v0) b (256 * (t.val % 16) + (255 - r.val)) d := by
  unfold seqx
  blk_simp [iblk, e0]
  congr 1
  blk_ext [e0, c0, c1]
  all_goals (show _ = (4095 - (256 * (t.val % 16) + (255 - r.val))) % 4096; omega)

/-- The operand arrays hold the weights of one direction. -/
structure Ops (P : Seq.Par) : Prop where
  taps : ∀ (j : Fin 4) d, V W c main_v15 (ix2 j d) = P.w d j.rev
  cb : ∀ d, V W c main_v16 (ix2 0 d) = P.cb d
  wdt : ∀ (q : Fin 64) d, V W c main_v17 (ix2 q d) = P.xw ⟨q.val, by omega⟩ d
  wB : ∀ (n : Fin 16) d, V W c main_v18 (ix2 n d) = P.xw ⟨64 + n.val, by omega⟩ d
  wC : ∀ (n : Fin 16) d, V W c main_v19 (ix2 n d) = P.xw ⟨80 + n.val, by omega⟩ d
  dtw : ∀ d q, V W c main_arg13 (ix2 d q) = P.dw d q
  dtb : ∀ d, V W c main_v20 (ix2 0 d) = P.db d
  nA : ∀ n d, V W c main_v23 (ix2 n d) = P.A d n
  dv : ∀ d, V W c main_v24 (ix2 0 d) = P.D d
  pow : ∀ (z : EReal) d (n : Fin 16), Ideal.exp (z * P.A d n) = Ideal.exp (z * P.A d 0) ^ (n.val + 1)

variable {P : Seq.Par} (hP : Ops W c P)
include hP

theorem wts (t : Fin cfg2.N) : Wts P (inAt W c t) where
  cb d := (read_2 W c t _).trans (hP.cb d)
  wdt q d := (read_3 W c t _).trans (hP.wdt q d)
  wB n d := (read_4 W c t _).trans (hP.wB n d)
  wC n d := (read_5 W c t _).trans (hP.wC n d)
  dtw d q := (read_6 W c t _).trans (hP.dtw d q)
  dtb d := (read_7 W c t _).trans (hP.dtb d)
  nA n d := (read_8 W c t _).trans (hP.nA n d)
  dv d := (read_9 W c t _).trans (hP.dv d)
  pow := hP.pow

theorem taps_at (t : Fin cfg2.N) (j : Fin 4) (d : Fin 2048) : (inAt W c t).taps (ix2 j d) = P.w d j.rev :=
  (read_1 W c t _).trans (hP.taps j d)

omit hP in
theorem x_at (t : Fin cfg2.N) (b : Fin 2) (hb : b.val = t.val / 16) (r : Fin 256) (d : Fin 2048) :
    (inAt W c t).x (ix3 0 r d) = seqx (V W c main_v0) b (256 * (t.val % 16) + (255 - r.val)) d := read_0 W c t b hb r d

/-- What the point `n` starts from: the recurrence's state and the rows just before it. -/
theorem carry_at (n : ℕ) (hn : n < 32) (b : Fin 2) (hb : b.val = n / 16) :
    (∀ (i : Fin 16) d, (carry W c n).1 (ix2 i d) = Seq.H P (seqx (V W c main_v0) b) (256 * (n % 16)) d i) ∧
    (∀ (i : Fin 3) d, (carry W c n).2 (ix2 i d) = Seq.xp (seqx (V W c main_v0) b) (256 * (n % 16) + (2 - i.val)) d) := by
  induction n with
  | zero =>
    rw [carry_start W c 0 rfl]
    refine ⟨fun i d => zeroH_apply (ix2 i d), fun i d => ?_⟩
    unfold Seq.xp
    rw [if_pos (by omega)]
    exact zeroK_apply (ix2 i d)
  | succ n ih =>
    by_cases h0 : (n + 1) % 16 = 0
    · rw [carry_start W c (n + 1) h0, h0]
      refine ⟨fun i d => zeroH_apply (ix2 i d), fun i d => ?_⟩
      unfold Seq.xp
      rw [if_pos (by omega)]
      exact zeroK_apply (ix2 i d)
    · obtain ⟨ih1, ih2⟩ := ih (by omega) (by omega)
      have ht : (pt n).val = n := Nat.mod_eq_of_lt (by omega)
      have hbt : b.val = (pt n).val / 16 := by omega
      have hx := fun (r : Fin 256) d => (x_at W c (pt n) b hbt r d)
      rw [ht] at hx
      have e : 256 * ((n + 1) % 16) = 256 * (n % 16) + 256 := by omega
      rw [carry_next W c n h0, e]
      exact ⟨fun i d => hOut_at (wts W c hP (pt n)) _ _ _ _ (taps_at W c hP (pt n)) hx ih2 ih1 i d,
        fun i d => keep_at _ _ hx i d⟩

omit hP in
theorem covers : (cfg2.win 10).Covers := by decide +kernel

omit hP in
theorem emb_10 (t : Fin cfg2.N) (y : S1x256x2048.Idx) (b : Fin 2) (hb : b.val = t.val / 16) (r : Fin 4096)
    (hr : r.val = 256 * (15 - t.val % 16) + (y 1).val) :
    (win2_10.blk t).view.emb y = ix3 b r (y 2 : Fin 2048) := by
  blk_ext [e10, c0, c1]

/-- The result array after the run: the recurrence's outputs. -/
theorem final : res W c = fun y : S2x4096x2048.Idx => Seq.out P (seqx (V W c main_v0) (y 0)) (4095 - (y 1).val) (y 2) := by
  unfold res
  obtain ⟨G, hG⟩ : ∃ G : S2x4096x2048.Idx → EReal, G = fun y : S2x4096x2048.Idx => Seq.out P (seqx (V W c main_v0) (y 0)) (4095 - (y 1).val) (y 2) := ⟨_, rfl⟩
  rw [← hG]
  refine (dat W c).arrAt_eq_of_covers 10 _ covers fun t hf y => ?_
  have ht : t.val < 32 := t.isLt
  have hr : (y 1).val < 256 := (y 1).isLt
  let b : Fin 2 := ⟨t.val / 16, by omega⟩
  have hemb : (win2_10.blk t).view.emb y = ix3 b (⟨256 * (15 - t.val % 16) + (y 1).val, by omega⟩ : Fin 4096) (y 2 : Fin 2048) := emb_10 t y b rfl _ rfl
  obtain ⟨h1, h2⟩ := carry_at W c hP t.val ht b rfl
  have key := yOut_at (wts W c hP t) _ _ _ _ (taps_at W c hP t) (x_at W c t b rfl) h2 h1 (y 1) (y 2)
  have hy : y = ix3 (0 : Fin 1) (y 1 : Fin 256) (y 2 : Fin 2048) := by
    funext a
    fin_cases a
    · exact Fin.ext (by have := (y 0).isLt; show (y 0).val = 0; exact Nat.lt_one_iff.mp this)
    · rfl
    · rfl
  have lhs : outAt W c t y = Seq.out P (seqx (V W c main_v0) b) (256 * (t.val % 16) + (255 - (y 1).val)) (y 2) :=
    (congrArg (outAt W c t) hy).trans key
  blk_simp
  rw [after_10]
  refine lhs.trans ?_
  refine Eq.trans ?_ (congrArg G hemb.symm)
  rw [hG]
  exact congrArg (fun s => Seq.out P (seqx (V W c main_v0) b) s (y 2)) (show 256 * (t.val % 16) + (255 - (y 1).val) = 4095 - (256 * (15 - t.val % 16) + (y 1).val) by omega)

end Cert.KernelIdeal.Reg2

end
-- ==== Proof.Val3.lean ====
/- The output projection: what the last call leaves in its result array, entry by entry. -/
module

public import proofs.«01_k».proof.Proof.Reg3
public import Idealize.ShloMosaic.Lib.Pipeline.ValueKit
public import Idealize.ShloMosaic.Lib.Pointwise

@[expose] public section

noncomputable section

namespace Cert.KernelIdeal.Reg3

open Cert.KernelIdeal Cert.KernelIdeal.Gen
open Idealize.ShloMosaic Idealize.ShloMosaic.TcCoe Idealize.SL.Sem
open Idealize.ShloMosaic.Pipeline (Dat)

variable (W : Dev nD → Valuation τ sig (Elt Ideal)) (c : Dev nD)

theorem e0 : ∀ t : Fin cfg3.N, win3_0.index t = ![(grid3.coords t 0).val, (grid3.coords t 1).val, 0] :=
  (by decide +kernel : ∀ t : Fin grid3.N, _)
theorem e1 : ∀ t : Fin cfg3.N, win3_1.index t = ![(grid3.coords t 0).val, (grid3.coords t 1).val, 0] :=
  (by decide +kernel : ∀ t : Fin grid3.N, _)
theorem e2 : ∀ t : Fin cfg3.N, win3_2.index t = ![(grid3.coords t 0).val, (grid3.coords t 1).val, 1] :=
  (by decide +kernel : ∀ t : Fin grid3.N, _)
theorem e3 : ∀ t : Fin cfg3.N, win3_3.index t = ![(grid3.coords t 0).val, (grid3.coords t 1).val, 0] :=
  (by decide +kernel : ∀ t : Fin grid3.N, _)
theorem e4 : ∀ t : Fin cfg3.N, win3_4.index t = ![0, 0] :=
  (by decide +kernel : ∀ t : Fin grid3.N, _)
theorem e5 : ∀ t : Fin cfg3.N, win3_5.index t = ![(grid3.coords t 0).val, (grid3.coords t 1).val, 0] :=
  (by decide +kernel : ∀ t : Fin grid3.N, _)
theorem covers : (cfg3.win 5).Covers := by decide +kernel

/-- The gated and masked sum of the branches, projected, at an entry. -/
def prod (f b : S2x4096x2048.Idx → EReal) (xz : S2x4096x4096.Idx → EReal) (mk : S2x4096x1.Idx → EReal) (w : S1024x2048.Idx → EReal)
    (y : S2x4096x1024.Idx) : EReal :=
  ∑ d : Fin 2048, (f (ix3 (y 0) (y 1) d) + b (ix3 (y 0) (y 1) d))
    * (xz (ix3 (y 0) (y 1) (⟨2048 + d.val, by omega⟩ : Fin 4096)) * Ideal.logistic (xz (ix3 (y 0) (y 1) (⟨2048 + d.val, by omega⟩ : Fin 4096))))
    * mk (ix3 (y 0) (y 1) 0) * w (ix2 (y 2) d)

/-! Where the windows' entries lie in their arrays, beside the result's entry. -/

theorem a0 (t : Fin cfg3.N) (y : ((cfg3.win 5).xblock (cfg3.grid.coords t)).Idx) (d : Fin 2048) :
    (win3_0.blk t).view.emb (ix3 0 (y 1) d) = ix3 ((win3_5.blk t).view.emb y 0) ((win3_5.blk t).view.emb y 1) d := by
  blk_ext [e0, e5]
theorem a1 (t : Fin cfg3.N) (y : ((cfg3.win 5).xblock (cfg3.grid.coords t)).Idx) (d : Fin 2048) :
    (win3_1.blk t).view.emb (ix3 0 (y 1) d) = ix3 ((win3_5.blk t).view.emb y 0) ((win3_5.blk t).view.emb y 1) d := by
  blk_ext [e1, e5]
theorem a2 (t : Fin cfg3.N) (y : ((cfg3.win 5).xblock (cfg3.grid.coords t)).Idx) (d : Fin 2048) :
    (win3_2.blk t).view.emb (ix3 0 (y 1) d) = ix3 ((win3_5.blk t).view.emb y 0) ((win3_5.blk t).view.emb y 1) (⟨2048 + d.val, by omega⟩ : Fin 4096) := by
  blk_ext [e2, e5]
theorem a3 (t : Fin cfg3.N) (y : ((cfg3.win 5).xblock (cfg3.grid.coords t)).Idx) :
    (win3_3.blk t).view.emb (ix3 0 (y 1) 0) = ix3 ((win3_5.blk t).view.emb y 0) ((win3_5.blk t).view.emb y 1) (0 : Fin 1) := by
  blk_ext [e3, e5]
theorem a4 (t : Fin cfg3.N) (y : ((cfg3.win 5).xblock (cfg3.grid.coords t)).Idx) (d : Fin 2048) :
    (win3_4.blk t).view.emb (ix2 (y 2) d) = ix2 ((win3_5.blk t).view.emb y 2) d := by
  blk_ext [e4, e5]

/-- The result array after the call. -/
theorem final : res W c = prod (V W c main_v12) (V W c main_v25) (V W c main_v0) (V W c main_v28) (V W c main_arg17) := by
  unfold res
  obtain ⟨G, hG⟩ : ∃ G, G = prod (V W c main_v12) (V W c main_v25) (V W c main_v0) (V W c main_v28) (V W c main_arg17) := ⟨_, rfl⟩
  rw [← hG]
  refine (dat W c).arrAt_eq_of_covers 5 _ covers fun t hf y => ?_
  blk_simp
  rw [after_5]
  unfold out_5
  frame_out
  rw [hG]
  unfold prod
  pointwise [k3_pay1]
  refine Finset.sum_congr (M := EReal) rfl fun d _ => ?_
  blk_simp [iblk, e0, e1, e2, e3, e4, e5]
  rw [a0 t y d, a1 t y d, a2 t y d, a3 t y, a4 t y d]
  rfl

end Cert.KernelIdeal.Reg3

end
-- ==== Proof.Spec.lean ====
/- The whole block on the extended reals: what both programs compute, from the arguments' elements. -/
module

public import proofs.«01_k».proof.Proof.Seq

@[expose] public section

noncomputable section

namespace Cert.Spec

open Idealize.ShloMosaic

/-- One direction's weights from the arguments: the rates are minus the exponentials of their logarithms. -/
def par (cw : Fin 2048 → Fin 4 → EReal) (cb : Fin 2048 → EReal) (xw : Fin 96 → Fin 2048 → EReal) (dw : Fin 2048 → Fin 64 → EReal)
    (db : Fin 2048 → EReal) (al : Fin 2048 → Fin 16 → EReal) (D : Fin 2048 → EReal) : Seq.Par where
  w := cw
  cb := cb
  xw := xw
  dw := dw
  db := db
  A d n := -Ideal.exp (al d n)
  D := D

/-- The arguments of the block. -/
structure Args where
  x : Fin 2 → Fin 4096 → Fin 1024 → EReal
  mask : Fin 2 → Fin 4096 → BitVec 1
  win : Fin 4096 → Fin 1024 → EReal
  F : Seq.Par
  B : Seq.Par
  wout : Fin 1024 → Fin 2048 → EReal

variable (G : Args)

/-- The input projection. -/
def xz (b : Fin 2) (t : Fin 4096) (e : Fin 4096) : EReal := ∑ k : Fin 1024, G.x b t k * G.win e k

/-- The sequence the forward direction runs over. -/
def seqF (b : Fin 2) (t : ℕ) (d : Fin 2048) : EReal := xz G b (Fin.ofNat 4096 t) ⟨d.val, by omega⟩

/-- The sequence the backward direction runs over: the same one from its end. -/
def seqB (b : Fin 2) (t : ℕ) (d : Fin 2048) : EReal := xz G b (Fin.ofNat 4096 (4095 - t)) ⟨d.val, by omega⟩

/-- The forward direction's output. -/
def yF (b : Fin 2) (t : Fin 4096) (d : Fin 2048) : EReal := Seq.out G.F (seqF G b) t.val d

/-- The backward direction's output, at the place it belongs to. -/
def yB (b : Fin 2) (t : Fin 4096) (d : Fin 2048) : EReal := Seq.out G.B (seqB G b) (4095 - t.val) d

/-- The gate. -/
def gate (b : Fin 2) (t : Fin 4096) (d : Fin 2048) : EReal := Seq.silu (xz G b t ⟨2048 + d.val, by omega⟩)

/-- The result as the reference states it. -/
def refOut (b : Fin 2) (t : Fin 4096) (o : Fin 1024) : EReal :=
  Scalar.select (G.mask b t)
    (∑ d : Fin 2048, (yF G b t d * gate G b t d + yB G b t d * gate G b t d) * G.wout o d) 0

/-- The result as the kernel computes it: the gate and the mask are applied to the sum. -/
def kerOut (b : Fin 2) (t : Fin 4096) (o : Fin 1024) : EReal :=
  ∑ d : Fin 2048, (yF G b t d + yB G b t d) * gate G b t d * (((G.mask b t).toNat : ℝ) : EReal) * G.wout o d

end Cert.Spec
-- ==== Proof.KerVal.lean ====
/- What the kernel's four calls are given and leave, from its arguments. -/
module

public import proofs.«01_k».proof.Proof.Whole
public import proofs.«01_k».proof.Proof.Val0
public import proofs.«01_k».proof.Proof.Val1
public import proofs.«01_k».proof.Proof.Val2
public import proofs.«01_k».proof.Proof.Val3
public import proofs.«01_k».proof.Proof.Spec
public import Idealize.ShloMosaic.Lib.StableHlo.RunRead
public import Idealize.ShloMosaic.Lib.StableHlo.ReadAt

@[expose] public section

set_option maxRecDepth 8192

noncomputable section

namespace Cert.KernelIdeal.Host

open Idealize.ShloMosaic Idealize.ShloMosaic.TcCoe Cert.KernelIdeal Cert.KernelIdeal.Gen Cert.KernelIdeal.Whole

variable (W : Valuation τ sig (Elt Ideal))

/-- The contents of `main_arg0`. -/
abbrev b_arg0 : FVec Ideal S2x4096x1024 .f32 := W (Proc.devRef .tc main_arg0)
/-- The contents of `main_arg2`. -/
abbrev b_arg2 : FVec Ideal S4096x1024 .f32 := W (Proc.devRef .tc main_arg2)
/-- The contents of `main_arg3`. -/
abbrev b_arg3 : FVec Ideal S2048x1x4 .f32 := W (Proc.devRef .tc main_arg3)
/-- The contents of `main_arg10`. -/
abbrev b_arg10 : FVec Ideal S2048x1x4 .f32 := W (Proc.devRef .tc main_arg10)
/-- The contents of `main_arg4`. -/
abbrev b_arg4 : FVec Ideal S2048 .f32 := W (Proc.devRef .tc main_arg4)
/-- The contents of `main_arg11`. -/
abbrev b_arg11 : FVec Ideal S2048 .f32 := W (Proc.devRef .tc main_arg11)
/-- The contents of `main_arg5`. -/
abbrev b_arg5 : FVec Ideal S96x2048 .f32 := W (Proc.devRef .tc main_arg5)
/-- The contents of `main_arg12`. -/
abbrev b_arg12 : FVec Ideal S96x2048 .f32 := W (Proc.devRef .tc main_arg12)
/-- The contents of `main_arg6`. -/
abbrev b_arg6 : FVec Ideal S2048x64 .f32 := W (Proc.devRef .tc main_arg6)
/-- The contents of `main_arg13`. -/
abbrev b_arg13 : FVec Ideal S2048x64 .f32 := W (Proc.devRef .tc main_arg13)
/-- The contents of `main_arg7`. -/
abbrev b_arg7 : FVec Ideal S2048 .f32 := W (Proc.devRef .tc main_arg7)
/-- The contents of `main_arg14`. -/
abbrev b_arg14 : FVec Ideal S2048 .f32 := W (Proc.devRef .tc main_arg14)
/-- The contents of `main_arg8`. -/
abbrev b_arg8 : FVec Ideal S2048x16 .f32 := W (Proc.devRef .tc main_arg8)
/-- The contents of `main_arg15`. -/
abbrev b_arg15 : FVec Ideal S2048x16 .f32 := W (Proc.devRef .tc main_arg15)
/-- The contents of `main_arg9`. -/
abbrev b_arg9 : FVec Ideal S2048 .f32 := W (Proc.devRef .tc main_arg9)
/-- The contents of `main_arg16`. -/
abbrev b_arg16 : FVec Ideal S2048 .f32 := W (Proc.devRef .tc main_arg16)
/-- The contents of `main_arg17`. -/
abbrev b_arg17 : FVec Ideal S1024x2048 .f32 := W (Proc.devRef .tc main_arg17)
/-- The contents of `main_v0`. -/
abbrev b_v0 : FVec Ideal S2x4096x4096 .f32 := W (Proc.devRef .tc main_v0)
/-- The contents of `main_v12`. -/
abbrev b_v12 : FVec Ideal S2x4096x2048 .f32 := W (Proc.devRef .tc main_v12)
/-- The contents of `main_v25`. -/
abbrev b_v25 : FVec Ideal S2x4096x2048 .f32 := W (Proc.devRef .tc main_v25)
/-- The contents of `main_v28`. -/
abbrev b_v28 : FVec Ideal S2x4096x1 .f32 := W (Proc.devRef .tc main_v28)
/-- The contents of `main_v2`. -/
abbrev b_v2 : FVec Ideal S4x2048 .f32 := W (Proc.devRef .tc main_v2)
/-- The contents of `main_v3`. -/
abbrev b_v3 : FVec Ideal S1x2048 .f32 := W (Proc.devRef .tc main_v3)
/-- The contents of `main_v4`. -/
abbrev b_v4 : FVec Ideal S64x2048 .f32 := W (Proc.devRef .tc main_v4)
/-- The contents of `main_v5`. -/
abbrev b_v5 : FVec Ideal S16x2048 .f32 := W (Proc.devRef .tc main_v5)
/-- The contents of `main_v6`. -/
abbrev b_v6 : FVec Ideal S16x2048 .f32 := W (Proc.devRef .tc main_v6)
/-- The contents of `main_v7`. -/
abbrev b_v7 : FVec Ideal S1x2048 .f32 := W (Proc.devRef .tc main_v7)
/-- The contents of `main_v10`. -/
abbrev b_v10 : FVec Ideal S16x2048 .f32 := W (Proc.devRef .tc main_v10)
/-- The contents of `main_v11`. -/
abbrev b_v11 : FVec Ideal S1x2048 .f32 := W (Proc.devRef .tc main_v11)
/-- The contents of `main_v15`. -/
abbrev b_v15 : FVec Ideal S4x2048 .f32 := W (Proc.devRef .tc main_v15)
/-- The contents of `main_v16`. -/
abbrev b_v16 : FVec Ideal S1x2048 .f32 := W (Proc.devRef .tc main_v16)
/-- The contents of `main_v17`. -/
abbrev b_v17 : FVec Ideal S64x2048 .f32 := W (Proc.devRef .tc main_v17)
/-- The contents of `main_v18`. -/
abbrev b_v18 : FVec Ideal S16x2048 .f32 := W (Proc.devRef .tc main_v18)
/-- The contents of `main_v19`. -/
abbrev b_v19 : FVec Ideal S16x2048 .f32 := W (Proc.devRef .tc main_v19)
/-- The contents of `main_v20`. -/
abbrev b_v20 : FVec Ideal S1x2048 .f32 := W (Proc.devRef .tc main_v20)
/-- The contents of `main_v23`. -/
abbrev b_v23 : FVec Ideal S16x2048 .f32 := W (Proc.devRef .tc main_v23)
/-- The contents of `main_v24`. -/
abbrev b_v24 : FVec Ideal S1x2048 .f32 := W (Proc.devRef .tc main_v24)

/-- The taps. -/
theorem h1_taps (j : Fin 4) (d : Fin 2048) : b_v2 (StableHlo.after hostOps1 W) (ix2 j d) = b_arg3 W (ix3 d 0 j) := by
  after_reads_at

/-- The convolution's bias. -/
theorem h1_cb (d : Fin 2048) : b_v3 (StableHlo.after hostOps1 W) (ix2 0 d) = b_arg4 W (ix1 d) := by
  after_reads_at

/-- A part of the projection. -/
theorem h1_wdt (q : Fin 64) (d : Fin 2048) : b_v4 (StableHlo.after hostOps1 W) (ix2 q d) = b_arg5 W (ix2 (⟨q.val, by omega⟩ : Fin 96) d) := by
  after_reads_at

/-- A part of the projection. -/
theorem h1_wB (q : Fin 16) (d : Fin 2048) : b_v5 (StableHlo.after hostOps1 W) (ix2 q d) = b_arg5 W (ix2 (⟨64 + q.val, by omega⟩ : Fin 96) d) := by
  after_reads_at

/-- A part of the projection. -/
theorem h1_wC (q : Fin 16) (d : Fin 2048) : b_v6 (StableHlo.after hostOps1 W) (ix2 q d) = b_arg5 W (ix2 (⟨80 + q.val, by omega⟩ : Fin 96) d) := by
  after_reads_at

/-- The step sizes' bias. -/
theorem h1_dtb (d : Fin 2048) : b_v7 (StableHlo.after hostOps1 W) (ix2 0 d) = b_arg7 W (ix1 d) := by
  after_reads_at

/-- The rates. -/
theorem h1_nA (q : Fin 16) (d : Fin 2048) : b_v10 (StableHlo.after hostOps1 W) (ix2 q d) = -Ideal.exp (b_arg8 W (ix2 d q)) := by
  after_reads_at

/-- The direct term's weights. -/
theorem h1_dv (d : Fin 2048) : b_v11 (StableHlo.after hostOps1 W) (ix2 0 d) = b_arg9 W (ix1 d) := by
  after_reads_at

/-- The taps. -/
theorem h2_taps (j : Fin 4) (d : Fin 2048) : b_v15 (StableHlo.after hostOps2 W) (ix2 j d) = b_arg10 W (ix3 d 0 j.rev) := by
  after_reads_at
  rfl

/-- The convolution's bias. -/
theorem h2_cb (d : Fin 2048) : b_v16 (StableHlo.after hostOps2 W) (ix2 0 d) = b_arg11 W (ix1 d) := by
  after_reads_at

/-- A part of the projection. -/
theorem h2_wdt (q : Fin 64) (d : Fin 2048) : b_v17 (StableHlo.after hostOps2 W) (ix2 q d) = b_arg12 W (ix2 (⟨q.val, by omega⟩ : Fin 96) d) := by
  after_reads_at

/-- A part of the projection. -/
theorem h2_wB (q : Fin 16) (d : Fin 2048) : b_v18 (StableHlo.after hostOps2 W) (ix2 q d) = b_arg12 W (ix2 (⟨64 + q.val, by omega⟩ : Fin 96) d) := by
  after_reads_at

/-- A part of the projection. -/
theorem h2_wC (q : Fin 16) (d : Fin 2048) : b_v19 (StableHlo.after hostOps2 W) (ix2 q d) = b_arg12 W (ix2 (⟨80 + q.val, by omega⟩ : Fin 96) d) := by
  after_reads_at

/-- The step sizes' bias. -/
theorem h2_dtb (d : Fin 2048) : b_v20 (StableHlo.after hostOps2 W) (ix2 0 d) = b_arg14 W (ix1 d) := by
  after_reads_at

/-- The rates. -/
theorem h2_nA (q : Fin 16) (d : Fin 2048) : b_v23 (StableHlo.after hostOps2 W) (ix2 q d) = -Ideal.exp (b_arg15 W (ix2 d q)) := by
  after_reads_at

/-- The direct term's weights. -/
theorem h2_dv (d : Fin 2048) : b_v24 (StableHlo.after hostOps2 W) (ix2 0 d) = b_arg16 W (ix1 d) := by
  after_reads_at

/-- The mask as numbers. -/
theorem h3_mask (b : Fin 2) (t : Fin 4096) : b_v28 (StableHlo.after hostOps3 W) (ix3 b t 0)
    = ((((show IVec S2x1x4096 1 from W (Proc.devRef .tc main_arg1)) (ix3 b 0 t)).toNat : ℝ) : EReal) := by
  after_reads_at
  rfl

variable (m : (ℓ : Loc nD τ sig) → Buf (Elt Ideal) ℓ) (c : Dev nD)

theorem u1_arg3 : U1 m c (Proc.devRef .tc main_arg3) = U0 m c (Proc.devRef .tc main_arg3) := by
  exact (by unfold U1; exact Function.update_of_ne (by decide) _ _)
theorem u1_arg4 : U1 m c (Proc.devRef .tc main_arg4) = U0 m c (Proc.devRef .tc main_arg4) := by
  exact (by unfold U1; exact Function.update_of_ne (by decide) _ _)
theorem u1_arg5 : U1 m c (Proc.devRef .tc main_arg5) = U0 m c (Proc.devRef .tc main_arg5) := by
  exact (by unfold U1; exact Function.update_of_ne (by decide) _ _)
theorem u1_arg6 : U1 m c (Proc.devRef .tc main_arg6) = U0 m c (Proc.devRef .tc main_arg6) := by
  exact (by unfold U1; exact Function.update_of_ne (by decide) _ _)
theorem u1_arg7 : U1 m c (Proc.devRef .tc main_arg7) = U0 m c (Proc.devRef .tc main_arg7) := by
  exact (by unfold U1; exact Function.update_of_ne (by decide) _ _)
theorem u1_arg8 : U1 m c (Proc.devRef .tc main_arg8) = U0 m c (Proc.devRef .tc main_arg8) := by
  exact (by unfold U1; exact Function.update_of_ne (by decide) _ _)
theorem u1_arg9 : U1 m c (Proc.devRef .tc main_arg9) = U0 m c (Proc.devRef .tc main_arg9) := by
  exact (by unfold U1; exact Function.update_of_ne (by decide) _ _)
theorem u2_arg6 : U2 m c (Proc.devRef .tc main_arg6) = U0 m c (Proc.devRef .tc main_arg6) := by
  refine (show U2 m c (Proc.devRef .tc main_arg6) = U1 m c (Proc.devRef .tc main_arg6) from (by unfold U2; after_reads_simp)).trans ?_
  refine (show U1 m c (Proc.devRef .tc main_arg6) = U0 m c (Proc.devRef .tc main_arg6) from (by unfold U1; exact Function.update_of_ne (by decide) _ _)).trans ?_
  rfl
theorem u3_arg10 : U3 m c (Proc.devRef .tc main_arg10) = U0 m c (Proc.devRef .tc main_arg10) := by
  refine (show U3 m c (Proc.devRef .tc main_arg10) = U2 m c (Proc.devRef .tc main_arg10) from (by unfold U3; exact Function.update_of_ne (by decide) _ _)).trans ?_
  refine (show U2 m c (Proc.devRef .tc main_arg10) = U1 m c (Proc.devRef .tc main_arg10) from (by unfold U2; after_reads_simp)).trans ?_
  refine (show U1 m c (Proc.devRef .tc main_arg10) = U0 m c (Proc.devRef .tc main_arg10) from (by unfold U1; exact Function.update_of_ne (by decide) _ _)).trans ?_
  rfl
theorem u3_arg11 : U3 m c (Proc.devRef .tc main_arg11) = U0 m c (Proc.devRef .tc main_arg11) := by
  refine (show U3 m c (Proc.devRef .tc main_arg11) = U2 m c (Proc.devRef .tc main_arg11) from (by unfold U3; exact Function.update_of_ne (by decide) _ _)).trans ?_
  refine (show U2 m c (Proc.devRef .tc main_arg11) = U1 m c (Proc.devRef .tc main_arg11) from (by unfold U2; after_reads_simp)).trans ?_
  refine (show U1 m c (Proc.devRef .tc main_arg11) = U0 m c (Proc.devRef .tc main_arg11) from (by unfold U1; exact Function.update_of_ne (by decide) _ _)).trans ?_
  rfl
theorem u3_arg12 : U3 m c (Proc.devRef .tc main_arg12) = U0 m c (Proc.devRef .tc main_arg12) := by
  refine (show U3 m c (Proc.devRef .tc main_arg12) = U2 m c (Proc.devRef .tc main_arg12) from (by unfold U3; exact Function.update_of_ne (by decide) _ _)).trans ?_
  refine (show U2 m c (Proc.devRef .tc main_arg12) = U1 m c (Proc.devRef .tc main_arg12) from (by unfold U2; after_reads_simp)).trans ?_
  refine (show U1 m c (Proc.devRef .tc main_arg12) = U0 m c (Proc.devRef .tc main_arg12) from (by unfold U1; exact Function.update_of_ne (by decide) _ _)).trans ?_
  rfl
theorem u3_arg13 : U3 m c (Proc.devRef .tc main_arg13) = U0 m c (Proc.devRef .tc main_arg13) := by
  refine (show U3 m c (Proc.devRef .tc main_arg13) = U2 m c (Proc.devRef .tc main_arg13) from (by unfold U3; exact Function.update_of_ne (by decide) _ _)).trans ?_
  refine (show U2 m c (Proc.devRef .tc main_arg13) = U1 m c (Proc.devRef .tc main_arg13) from (by unfold U2; after_reads_simp)).trans ?_
  refine (show U1 m c (Proc.devRef .tc main_arg13) = U0 m c (Proc.devRef .tc main_arg13) from (by unfold U1; exact Function.update_of_ne (by decide) _ _)).trans ?_
  rfl
theorem u3_arg14 : U3 m c (Proc.devRef .tc main_arg14) = U0 m c (Proc.devRef .tc main_arg14) := by
  refine (show U3 m c (Proc.devRef .tc main_arg14) = U2 m c (Proc.devRef .tc main_arg14) from (by unfold U3; exact Function.update_of_ne (by decide) _ _)).trans ?_
  refine (show U2 m c (Proc.devRef .tc main_arg14) = U1 m c (Proc.devRef .tc main_arg14) from (by unfold U2; after_reads_simp)).trans ?_
  refine (show U1 m c (Proc.devRef .tc main_arg14) = U0 m c (Proc.devRef .tc main_arg14) from (by unfold U1; exact Function.update_of_ne (by decide) _ _)).trans ?_
  rfl
theorem u3_arg15 : U3 m c (Proc.devRef .tc main_arg15) = U0 m c (Proc.devRef .tc main_arg15) := by
  refine (show U3 m c (Proc.devRef .tc main_arg15) = U2 m c (Proc.devRef .tc main_arg15) from (by unfold U3; exact Function.update_of_ne (by decide) _ _)).trans ?_
  refine (show U2 m c (Proc.devRef .tc main_arg15) = U1 m c (Proc.devRef .tc main_arg15) from (by unfold U2; after_reads_simp)).trans ?_
  refine (show U1 m c (Proc.devRef .tc main_arg15) = U0 m c (Proc.devRef .tc main_arg15) from (by unfold U1; exact Function.update_of_ne (by decide) _ _)).trans ?_
  rfl
theorem u3_arg16 : U3 m c (Proc.devRef .tc main_arg16) = U0 m c (Proc.devRef .tc main_arg16) := by
  refine (show U3 m c (Proc.devRef .tc main_arg16) = U2 m c (Proc.devRef .tc main_arg16) from (by unfold U3; exact Function.update_of_ne (by decide) _ _)).trans ?_
  refine (show U2 m c (Proc.devRef .tc main_arg16) = U1 m c (Proc.devRef .tc main_arg16) from (by unfold U2; after_reads_simp)).trans ?_
  refine (show U1 m c (Proc.devRef .tc main_arg16) = U0 m c (Proc.devRef .tc main_arg16) from (by unfold U1; exact Function.update_of_ne (by decide) _ _)).trans ?_
  rfl
theorem u4_arg13 : U4 m c (Proc.devRef .tc main_arg13) = U0 m c (Proc.devRef .tc main_arg13) := by
  refine (show U4 m c (Proc.devRef .tc main_arg13) = U3 m c (Proc.devRef .tc main_arg13) from (by unfold U4; after_reads_simp)).trans ?_
  refine (show U3 m c (Proc.devRef .tc main_arg13) = U2 m c (Proc.devRef .tc main_arg13) from (by unfold U3; exact Function.update_of_ne (by decide) _ _)).trans ?_
  refine (show U2 m c (Proc.devRef .tc main_arg13) = U1 m c (Proc.devRef .tc main_arg13) from (by unfold U2; after_reads_simp)).trans ?_
  refine (show U1 m c (Proc.devRef .tc main_arg13) = U0 m c (Proc.devRef .tc main_arg13) from (by unfold U1; exact Function.update_of_ne (by decide) _ _)).trans ?_
  rfl
theorem u2_v0 : U2 m c (Proc.devRef .tc main_v0) = U1 m c (Proc.devRef .tc main_v0) := by
  exact (by unfold U2; after_reads_simp)
theorem u4_v0 : U4 m c (Proc.devRef .tc main_v0) = U1 m c (Proc.devRef .tc main_v0) := by
  refine (show U4 m c (Proc.devRef .tc main_v0) = U3 m c (Proc.devRef .tc main_v0) from (by unfold U4; after_reads_simp)).trans ?_
  refine (show U3 m c (Proc.devRef .tc main_v0) = U2 m c (Proc.devRef .tc main_v0) from (by unfold U3; exact Function.update_of_ne (by decide) _ _)).trans ?_
  refine (show U2 m c (Proc.devRef .tc main_v0) = U1 m c (Proc.devRef .tc main_v0) from (by unfold U2; after_reads_simp)).trans ?_
  rfl
theorem u6_v0 : U6 m c (Proc.devRef .tc main_v0) = U1 m c (Proc.devRef .tc main_v0) := by
  refine (show U6 m c (Proc.devRef .tc main_v0) = U5 m c (Proc.devRef .tc main_v0) from (by unfold U6; after_reads_simp)).trans ?_
  refine (show U5 m c (Proc.devRef .tc main_v0) = U4 m c (Proc.devRef .tc main_v0) from (by unfold U5; exact Function.update_of_ne (by decide) _ _)).trans ?_
  refine (show U4 m c (Proc.devRef .tc main_v0) = U3 m c (Proc.devRef .tc main_v0) from (by unfold U4; after_reads_simp)).trans ?_
  refine (show U3 m c (Proc.devRef .tc main_v0) = U2 m c (Proc.devRef .tc main_v0) from (by unfold U3; exact Function.update_of_ne (by decide) _ _)).trans ?_
  refine (show U2 m c (Proc.devRef .tc main_v0) = U1 m c (Proc.devRef .tc main_v0) from (by unfold U2; after_reads_simp)).trans ?_
  rfl
theorem u6_v12 : U6 m c (Proc.devRef .tc main_v12) = U3 m c (Proc.devRef .tc main_v12) := by
  refine (show U6 m c (Proc.devRef .tc main_v12) = U5 m c (Proc.devRef .tc main_v12) from (by unfold U6; after_reads_simp)).trans ?_
  refine (show U5 m c (Proc.devRef .tc main_v12) = U4 m c (Proc.devRef .tc main_v12) from (by unfold U5; exact Function.update_of_ne (by decide) _ _)).trans ?_
  refine (show U4 m c (Proc.devRef .tc main_v12) = U3 m c (Proc.devRef .tc main_v12) from (by unfold U4; after_reads_simp)).trans ?_
  rfl
theorem u6_v25 : U6 m c (Proc.devRef .tc main_v25) = U5 m c (Proc.devRef .tc main_v25) := by
  exact (by unfold U6; after_reads_simp)
theorem u6_arg17 : U6 m c (Proc.devRef .tc main_arg17) = U0 m c (Proc.devRef .tc main_arg17) := by
  refine (show U6 m c (Proc.devRef .tc main_arg17) = U5 m c (Proc.devRef .tc main_arg17) from (by unfold U6; after_reads_simp)).trans ?_
  refine (show U5 m c (Proc.devRef .tc main_arg17) = U4 m c (Proc.devRef .tc main_arg17) from (by unfold U5; exact Function.update_of_ne (by decide) _ _)).trans ?_
  refine (show U4 m c (Proc.devRef .tc main_arg17) = U3 m c (Proc.devRef .tc main_arg17) from (by unfold U4; after_reads_simp)).trans ?_
  refine (show U3 m c (Proc.devRef .tc main_arg17) = U2 m c (Proc.devRef .tc main_arg17) from (by unfold U3; exact Function.update_of_ne (by decide) _ _)).trans ?_
  refine (show U2 m c (Proc.devRef .tc main_arg17) = U1 m c (Proc.devRef .tc main_arg17) from (by unfold U2; after_reads_simp)).trans ?_
  refine (show U1 m c (Proc.devRef .tc main_arg17) = U0 m c (Proc.devRef .tc main_arg17) from (by unfold U1; exact Function.update_of_ne (by decide) _ _)).trans ?_
  rfl
theorem u5_arg1 : U5 m c (Proc.devRef .tc main_arg1) = U0 m c (Proc.devRef .tc main_arg1) := by
  refine (show U5 m c (Proc.devRef .tc main_arg1) = U4 m c (Proc.devRef .tc main_arg1) from (by unfold U5; exact Function.update_of_ne (by decide) _ _)).trans ?_
  refine (show U4 m c (Proc.devRef .tc main_arg1) = U3 m c (Proc.devRef .tc main_arg1) from (by unfold U4; after_reads_simp)).trans ?_
  refine (show U3 m c (Proc.devRef .tc main_arg1) = U2 m c (Proc.devRef .tc main_arg1) from (by unfold U3; exact Function.update_of_ne (by decide) _ _)).trans ?_
  refine (show U2 m c (Proc.devRef .tc main_arg1) = U1 m c (Proc.devRef .tc main_arg1) from (by unfold U2; after_reads_simp)).trans ?_
  refine (show U1 m c (Proc.devRef .tc main_arg1) = U0 m c (Proc.devRef .tc main_arg1) from (by unfold U1; exact Function.update_of_ne (by decide) _ _)).trans ?_
  rfl

/-- The arguments of the block as the kernel is given them. -/
def args : Spec.Args where
  x b t k := b_arg0 W (ix3 b t k)
  mask b t := (show IVec S2x1x4096 1 from W (Proc.devRef .tc main_arg1)) (ix3 b 0 t)
  win e k := b_arg2 W (ix2 e k)
  F := Spec.par (fun d j => b_arg3 W (ix3 d 0 j)) (fun d => b_arg4 W (ix1 d)) (fun p d => b_arg5 W (ix2 p d)) (fun d r => b_arg6 W (ix2 d r))
    (fun d => b_arg7 W (ix1 d)) (fun d n => b_arg8 W (ix2 d n)) (fun d => b_arg9 W (ix1 d))
  B := Spec.par (fun d j => b_arg10 W (ix3 d 0 j)) (fun d => b_arg11 W (ix1 d)) (fun p d => b_arg12 W (ix2 p d)) (fun d r => b_arg13 W (ix2 d r))
    (fun d => b_arg14 W (ix1 d)) (fun d n => b_arg15 W (ix2 d n)) (fun d => b_arg16 W (ix1 d))
  wout o d := b_arg17 W (ix2 o d)

/-- The kernel runs every rate's decay as a power of the first one's; this is what makes that right. -/
def Pow (P : Seq.Par) : Prop :=
  ∀ (z : EReal) d (n : Fin 16), Ideal.exp (z * P.A d n) = Ideal.exp (z * P.A d 0) ^ (n.val + 1)

/-- The input projection's result. -/
theorem v0_eq : b_v0 (U1 m c) = fun y => Spec.xz (args (U0 m c)) (y 0) (y 1) (y 2) := by
  have h : U1 m c (Proc.devRef .tc main_v0) = Reg0.res (U0 m) c := by unfold U1; exact Function.update_self _ _ _
  refine h.trans ((Reg0.final (U0 m) c).trans ?_)
  rfl

/-- What call 2 is given are its direction's weights. -/
theorem ops1 (h : Pow (args (U0 m c)).F) : Reg1.Ops (U2 m) c (args (U0 m c)).F where
  taps j d := (h1_taps (U1 m c) j d).trans (congrFun (u1_arg3 m c) (ix3 d 0 j))
  cb d := (h1_cb (U1 m c) d).trans (congrFun (u1_arg4 m c) (ix1 d))
  wdt q d := (h1_wdt (U1 m c) q d).trans (congrFun (u1_arg5 m c) (ix2 (⟨q.val, by omega⟩ : Fin 96) d))
  wB q d := (h1_wB (U1 m c) q d).trans (congrFun (u1_arg5 m c) (ix2 (⟨64 + q.val, by omega⟩ : Fin 96) d))
  wC q d := (h1_wC (U1 m c) q d).trans (congrFun (u1_arg5 m c) (ix2 (⟨80 + q.val, by omega⟩ : Fin 96) d))
  dtb d := (h1_dtb (U1 m c) d).trans (congrFun (u1_arg7 m c) (ix1 d))
  nA q d := (h1_nA (U1 m c) q d).trans (congrArg (fun z : EReal => -Ideal.exp z) (congrFun (u1_arg8 m c) (ix2 d q)))
  dv d := (h1_dv (U1 m c) d).trans (congrFun (u1_arg9 m c) (ix1 d))
  dtw d q := congrFun (u2_arg6 m c) (ix2 d q)
  pow := h

/-- The sequence call 2 runs over. -/
theorem seq1 (b : Fin 2) : Reg1.seqx (Reg1.V (U2 m) c main_v0) b = Spec.seqF (args (U0 m c)) b := by
  have h : b_v0 (U2 m c) = fun y => Spec.xz (args (U0 m c)) (y 0) (y 1) (y 2) := (u2_v0 m c).trans (v0_eq m c)
  funext t d
  exact congrFun h _

/-- Call 2's result is its direction's output. -/
theorem v12_eq (h : Pow (args (U0 m c)).F) : b_v12 (U3 m c) = fun y => Spec.yF (args (U0 m c)) (y 0) (y 1) (y 2) := by
  have h1 : U3 m c (Proc.devRef .tc main_v12) = Reg1.res (U2 m) c := by unfold U3; exact Function.update_self _ _ _
  refine h1.trans ((Reg1.final (U2 m) c (ops1 m c h)).trans ?_)
  funext y
  exact congrArg (fun s => Seq.out (args (U0 m c)).F s (y 1).val (y 2)) (seq1 m c (y 0))

/-- What call 3 is given are its direction's weights. -/
theorem ops2 (h : Pow (args (U0 m c)).B) : Reg2.Ops (U4 m) c (args (U0 m c)).B where
  taps j d := (h2_taps (U3 m c) j d).trans (congrFun (u3_arg10 m c) (ix3 d 0 j.rev))
  cb d := (h2_cb (U3 m c) d).trans (congrFun (u3_arg11 m c) (ix1 d))
  wdt q d := (h2_wdt (U3 m c) q d).trans (congrFun (u3_arg12 m c) (ix2 (⟨q.val, by omega⟩ : Fin 96) d))
  wB q d := (h2_wB (U3 m c) q d).trans (congrFun (u3_arg12 m c) (ix2 (⟨64 + q.val, by omega⟩ : Fin 96) d))
  wC q d := (h2_wC (U3 m c) q d).trans (congrFun (u3_arg12 m c) (ix2 (⟨80 + q.val, by omega⟩ : Fin 96) d))
  dtb d := (h2_dtb (U3 m c) d).trans (congrFun (u3_arg14 m c) (ix1 d))
  nA q d := (h2_nA (U3 m c) q d).trans (congrArg (fun z : EReal => -Ideal.exp z) (congrFun (u3_arg15 m c) (ix2 d q)))
  dv d := (h2_dv (U3 m c) d).trans (congrFun (u3_arg16 m c) (ix1 d))
  dtw d q := congrFun (u4_arg13 m c) (ix2 d q)
  pow := h

/-- The sequence call 3 runs over. -/
theorem seq2 (b : Fin 2) : Reg2.seqx (Reg2.V (U4 m) c main_v0) b = Spec.seqB (args (U0 m c)) b := by
  have h : b_v0 (U4 m c) = fun y => Spec.xz (args (U0 m c)) (y 0) (y 1) (y 2) := (u4_v0 m c).trans (v0_eq m c)
  funext t d
  exact congrFun h _

/-- Call 3's result is its direction's output. -/
theorem v25_eq (h : Pow (args (U0 m c)).B) : b_v25 (U5 m c) = fun y => Spec.yB (args (U0 m c)) (y 0) (y 1) (y 2) := by
  have h1 : U5 m c (Proc.devRef .tc main_v25) = Reg2.res (U4 m) c := by unfold U5; exact Function.update_self _ _ _
  refine h1.trans ((Reg2.final (U4 m) c (ops2 m c h)).trans ?_)
  funext y
  exact congrArg (fun s => Seq.out (args (U0 m c)).B s (4095 - (y 1).val) (y 2)) (seq2 m c (y 0))

/-- The kernel's result. -/
theorem result (hF : Pow (args (U0 m c)).F) (hB : Pow (args (U0 m c)).B) (b : Fin 2) (t : Fin 4096) (o : Fin 1024) :
    (show FVec Ideal S2x4096x1024 .f32 from Reg3.res (U6 m) c) (ix3 b t o) = Spec.kerOut (args (U0 m c)) b t o := by
  refine (congrFun (Reg3.final (U6 m) c) (ix3 b t o)).trans ?_
  have h12 : b_v12 (U6 m c) = fun y => Spec.yF (args (U0 m c)) (y 0) (y 1) (y 2) := (u6_v12 m c).trans (v12_eq m c hF)
  have h25 : b_v25 (U6 m c) = fun y => Spec.yB (args (U0 m c)) (y 0) (y 1) (y 2) := (u6_v25 m c).trans (v25_eq m c hB)
  have h0 : b_v0 (U6 m c) = fun y => Spec.xz (args (U0 m c)) (y 0) (y 1) (y 2) := (u6_v0 m c).trans (v0_eq m c)
  have h17 : b_arg17 (U6 m c) = b_arg17 (U0 m c) := u6_arg17 m c
  have hm : b_v28 (U6 m c) (ix3 b t 0) = ((((args (U0 m c)).mask b t).toNat : ℝ) : EReal) := by
    refine (h3_mask (U5 m c) b t).trans ?_
    exact congrArg (fun z : BitVec 1 => ((z.toNat : ℝ) : EReal)) (congrFun (u5_arg1 m c) (ix3 b 0 t))
  show Reg3.prod (b_v12 (U6 m c)) (b_v25 (U6 m c)) (b_v0 (U6 m c)) (b_v28 (U6 m c)) (b_arg17 (U6 m c)) (ix3 b t o) = _
  unfold Reg3.prod
  rw [h12, h25, h0, h17]
  refine Finset.sum_congr (M := EReal) rfl fun d _ => ?_
  refine congrArg (fun z : EReal => _ * z * _) hm

end Cert.KernelIdeal.Host
-- ==== Proof.RefHost.lean ====
/- The operations of the reference before and after its loop, read at an element. -/
module

public import proofs.«01_k».proof.Proof.Gen.ReferenceIdeal.Run
public import Idealize.ShloMosaic.Lib.Pipeline.ValueKit
public import Idealize.ShloMosaic.Lib.Pointwise
public import Idealize.ShloMosaic.Lib.StableHlo.RunRead
public import Idealize.ShloMosaic.Lib.StableHlo.ReadAt

@[expose] public section

set_option maxRecDepth 8192

noncomputable section

namespace Cert.ReferenceIdeal.Host

open Idealize.ShloMosaic Idealize.ShloMosaic.TcCoe Cert.ReferenceIdeal.Gen Cert.ReferenceIdeal.Value

variable (W : Valuation τ sig (Elt Ideal))

/-- The contents of `main_arg0`. -/
abbrev b_arg0 : FVec Ideal S2x4096x1024 .f32 := W (Proc.devRef .tc main_arg0)
/-- The contents of `main_arg2`. -/
abbrev b_arg2 : FVec Ideal S4096x1024 .f32 := W (Proc.devRef .tc main_arg2)
/-- The contents of `main_arg3`. -/
abbrev b_arg3 : FVec Ideal S2048x1x4 .f32 := W (Proc.devRef .tc main_arg3)
/-- The contents of `main_arg10`. -/
abbrev b_arg10 : FVec Ideal S2048x1x4 .f32 := W (Proc.devRef .tc main_arg10)
/-- The contents of `main_arg4`. -/
abbrev b_arg4 : FVec Ideal S2048 .f32 := W (Proc.devRef .tc main_arg4)
/-- The contents of `main_arg11`. -/
abbrev b_arg11 : FVec Ideal S2048 .f32 := W (Proc.devRef .tc main_arg11)
/-- The contents of `main_arg5`. -/
abbrev b_arg5 : FVec Ideal S96x2048 .f32 := W (Proc.devRef .tc main_arg5)
/-- The contents of `main_arg12`. -/
abbrev b_arg12 : FVec Ideal S96x2048 .f32 := W (Proc.devRef .tc main_arg12)
/-- The contents of `main_arg6`. -/
abbrev b_arg6 : FVec Ideal S2048x64 .f32 := W (Proc.devRef .tc main_arg6)
/-- The contents of `main_arg13`. -/
abbrev b_arg13 : FVec Ideal S2048x64 .f32 := W (Proc.devRef .tc main_arg13)
/-- The contents of `main_arg7`. -/
abbrev b_arg7 : FVec Ideal S2048 .f32 := W (Proc.devRef .tc main_arg7)
/-- The contents of `main_arg14`. -/
abbrev b_arg14 : FVec Ideal S2048 .f32 := W (Proc.devRef .tc main_arg14)
/-- The contents of `main_arg8`. -/
abbrev b_arg8 : FVec Ideal S2048x16 .f32 := W (Proc.devRef .tc main_arg8)
/-- The contents of `main_arg15`. -/
abbrev b_arg15 : FVec Ideal S2048x16 .f32 := W (Proc.devRef .tc main_arg15)
/-- The contents of `main_arg9`. -/
abbrev b_arg9 : FVec Ideal S2048 .f32 := W (Proc.devRef .tc main_arg9)
/-- The contents of `main_arg16`. -/
abbrev b_arg16 : FVec Ideal S2048 .f32 := W (Proc.devRef .tc main_arg16)
/-- The contents of `main_arg17`. -/
abbrev b_arg17 : FVec Ideal S1024x2048 .f32 := W (Proc.devRef .tc main_arg17)
/-- The contents of `main_v0`. -/
abbrev b_v0 : FVec Ideal S2x4096x4096 .f32 := W (Proc.devRef .tc main_v0)
/-- The contents of `main_v1`. -/
abbrev b_v1 : FVec Ideal S2x4096x2048 .f32 := W (Proc.devRef .tc main_v1)
/-- The contents of `main_v2`. -/
abbrev b_v2 : FVec Ideal S2x4096x2048 .f32 := W (Proc.devRef .tc main_v2)
/-- The contents of `main_v3`. -/
abbrev b_v3 : FVec Ideal S2x4096x2048 .f32 := W (Proc.devRef .tc main_v3)
/-- The contents of `main_v7`. -/
abbrev b_v7 : FVec Ideal S2x4096x2048 .f32 := W (Proc.devRef .tc main_v7)
/-- The contents of `main_v6`. -/
abbrev b_v6 : FVec Ideal S2x2x4096x2048 .f32 := W (Proc.devRef .tc main_v6)
/-- The contents of `main_v10`. -/
abbrev b_v10 : FVec Ideal S2x2x4096x2048 .f32 := W (Proc.devRef .tc main_v10)
/-- The contents of `main_v13`. -/
abbrev b_v13 : FVec Ideal S2x2048x1x4 .f32 := W (Proc.devRef .tc main_v13)
/-- The contents of `main_v16`. -/
abbrev b_v16 : FVec Ideal S2x2048 .f32 := W (Proc.devRef .tc main_v16)
/-- The contents of `main_v19`. -/
abbrev b_v19 : FVec Ideal S2x96x2048 .f32 := W (Proc.devRef .tc main_v19)
/-- The contents of `main_v22`. -/
abbrev b_v22 : FVec Ideal S2x2048x64 .f32 := W (Proc.devRef .tc main_v22)
/-- The contents of `main_v25`. -/
abbrev b_v25 : FVec Ideal S2x2048 .f32 := W (Proc.devRef .tc main_v25)
/-- The contents of `main_v28`. -/
abbrev b_v28 : FVec Ideal S2x2048x16 .f32 := W (Proc.devRef .tc main_v28)
/-- The contents of `main_v31`. -/
abbrev b_v31 : FVec Ideal S2x2048 .f32 := W (Proc.devRef .tc main_v31)
/-- The contents of `main_v32`. -/
abbrev b_v32 : FVec Ideal S2x2x4099x2048 .f32 := W (Proc.devRef .tc main_v32)
/-- The contents of `main_v64`. -/
abbrev b_v64 : FVec Ideal S2x2x4096x2048 .f32 := W (Proc.devRef .tc main_v64)
/-- The contents of `main_v65`. -/
abbrev b_v65 : FVec Ideal S2x2x4096x2048 .f32 := W (Proc.devRef .tc main_v65)
/-- The contents of `main_v67`. -/
abbrev b_v67 : FVec Ideal S2x2x4096x64 .f32 := W (Proc.devRef .tc main_v67)
/-- The contents of `main_v68`. -/
abbrev b_v68 : FVec Ideal S2x2x4096x16 .f32 := W (Proc.devRef .tc main_v68)
/-- The contents of `main_v69`. -/
abbrev b_v69 : FVec Ideal S2x2x4096x16 .f32 := W (Proc.devRef .tc main_v69)
/-- The contents of `main_v73`. -/
abbrev b_v73 : FVec Ideal S2x2x4096x2048 .f32 := W (Proc.devRef .tc main_v73)
/-- The contents of `main_v74`. -/
abbrev b_v74 : FVec Ideal S2x2x4096x2048 .f32 := W (Proc.devRef .tc main_v74)
/-- The contents of `main_v88_0`. -/
abbrev b_v88_0 : FVec Ideal S4096x2x2x2048 .f32 := W (Proc.devRef .tc main_v88_0)
/-- The contents of `main_v88_1`. -/
abbrev b_v88_1 : FVec Ideal S4096x2x2x2048 .f32 := W (Proc.devRef .tc main_v88_1)
/-- The contents of `main_v88_2`. -/
abbrev b_v88_2 : FVec Ideal S4096x2x2x16 .f32 := W (Proc.devRef .tc main_v88_2)
/-- The contents of `main_v88_3`. -/
abbrev b_v88_3 : FVec Ideal S4096x2x2x16 .f32 := W (Proc.devRef .tc main_v88_3)
/-- The contents of `main_v88_4`. -/
abbrev b_v88_4 : FVec Ideal S2x2048x16 .f32 := W (Proc.devRef .tc main_v88_4)
/-- The contents of `main_v88_6`. -/
abbrev b_v88_6 : FVec Ideal S2x2x2048x16 .f32 := W (Proc.devRef .tc main_v88_6)
/-- The contents of `main_v88_7`. -/
abbrev b_v88_7 : FVec Ideal S4096x2x2x2048 .f32 := W (Proc.devRef .tc main_v88_7)
/-- The contents of `main_v93`. -/
abbrev b_v93 : FVec Ideal S2x2x4096x2048 .f32 := W (Proc.devRef .tc main_v93)
/-- The contents of `main_v94`. -/
abbrev b_v94 : FVec Ideal S2x2x4096x2048 .f32 := W (Proc.devRef .tc main_v94)
/-- The contents of `main_v97`. -/
abbrev b_v97 : FVec Ideal S2x4096x2048 .f32 := W (Proc.devRef .tc main_v97)
/-- The contents of `main_v99`. -/
abbrev b_v99 : FVec Ideal S2x4096x2048 .f32 := W (Proc.devRef .tc main_v99)
/-- The contents of `main_v100`. -/
abbrev b_v100 : FVec Ideal S2x4096x2048 .f32 := W (Proc.devRef .tc main_v100)
/-- The contents of `main_v102`. -/
abbrev b_v102 : FVec Ideal S2x4096x1024 .f32 := W (Proc.devRef .tc main_v102)
/-- The contents of `main_v105`. -/
abbrev b_v105 : FVec Ideal S2x4096x1024 .f32 := W (Proc.devRef .tc main_v105)
/-- The contents of `main_cst_3`. -/
abbrev b_cst_3 : FVec Ideal S_ .f32 := W (Proc.devRef .tc main_cst_3)

/-- The input projection. -/
theorem s0_v0 (b : Fin 2) (t : Fin 4096) (e : Fin 4096) : b_v0 (StableHlo.after hostOps0 W) (ix3 b t e) = ∑ k : Fin 1024, b_arg0 W (ix3 b t k) * b_arg2 W (ix2 e k) := by
  after_reads_at

/-- Its first half. -/
theorem s0_v1 (b : Fin 2) (t : Fin 4096) (d : Fin 2048) : b_v1 (StableHlo.after hostOps0 W) (ix3 b t d) = ∑ k : Fin 1024, b_arg0 W (ix3 b t k) * b_arg2 W (ix2 (⟨d.val, by omega⟩ : Fin 4096) k) := by
  after_reads_at

/-- Its second half. -/
theorem s0_v2 (b : Fin 2) (t : Fin 4096) (d : Fin 2048) : b_v2 (StableHlo.after hostOps0 W) (ix3 b t d) = ∑ k : Fin 1024, b_arg0 W (ix3 b t k) * b_arg2 W (ix2 (⟨2048 + d.val, by omega⟩ : Fin 4096) k) := by
  after_reads_at

/-- The first half flipped along the sequence. -/
theorem s1_v3 (b : Fin 2) (t : Fin 4096) (d : Fin 2048) : b_v3 (StableHlo.after hostOps0_1 W) (ix3 b t d) = b_v1 W (ix3 b t.rev d) := by
  after_reads_at
  rfl

/-- The second half flipped along the sequence. -/
theorem s3_v7 (b : Fin 2) (t : Fin 4096) (d : Fin 2048) : b_v7 (StableHlo.after hostOps0_3 W) (ix3 b t d) = b_v2 W (ix3 b t.rev d) := by
  after_reads_at
  rfl

/-- One direction of the stacked inputs. -/
theorem s2_v6_0 (b : Fin 2) (t : Fin 4096) (d : Fin 2048) : b_v6 (StableHlo.after hostOps0_2 W) (ix4 0 b t d) = b_v1 W (ix3 b t d) := by
  after_reads_at

/-- One direction of the stacked inputs. -/
theorem s2_v6_1 (b : Fin 2) (t : Fin 4096) (d : Fin 2048) : b_v6 (StableHlo.after hostOps0_2 W) (ix4 1 b t d) = b_v3 W (ix3 b t d) := by
  after_reads_at

/-- One direction of the stacked gates. -/
theorem s4_v10_0 (b : Fin 2) (t : Fin 4096) (d : Fin 2048) : b_v10 (StableHlo.after hostOps0_4 W) (ix4 0 b t d) = b_v2 W (ix3 b t d) := by
  after_reads_at

/-- One direction of the stacked gates. -/
theorem s4_v10_1 (b : Fin 2) (t : Fin 4096) (d : Fin 2048) : b_v10 (StableHlo.after hostOps0_4 W) (ix4 1 b t d) = b_v7 W (ix3 b t d) := by
  after_reads_at

/-- One direction of a stacked vector. -/
theorem s4_v16_0 (d : Fin 2048) : b_v16 (StableHlo.after hostOps0_4 W) (ix2 0 d) = b_arg4 W (ix1 d) := by
  after_reads_at

/-- One direction of a stacked vector. -/
theorem s4_v16_1 (d : Fin 2048) : b_v16 (StableHlo.after hostOps0_4 W) (ix2 1 d) = b_arg11 W (ix1 d) := by
  after_reads_at

/-- One direction of a stacked vector. -/
theorem s4_v25_0 (d : Fin 2048) : b_v25 (StableHlo.after hostOps0_4 W) (ix2 0 d) = b_arg7 W (ix1 d) := by
  after_reads_at

/-- One direction of a stacked vector. -/
theorem s4_v25_1 (d : Fin 2048) : b_v25 (StableHlo.after hostOps0_4 W) (ix2 1 d) = b_arg14 W (ix1 d) := by
  after_reads_at

/-- One direction of a stacked vector. -/
theorem s4_v31_0 (d : Fin 2048) : b_v31 (StableHlo.after hostOps0_4 W) (ix2 0 d) = b_arg9 W (ix1 d) := by
  after_reads_at

/-- One direction of a stacked vector. -/
theorem s4_v31_1 (d : Fin 2048) : b_v31 (StableHlo.after hostOps0_4 W) (ix2 1 d) = b_arg16 W (ix1 d) := by
  after_reads_at

/-- One direction of a stacked matrix. -/
theorem s4_v19_0 (i : Fin 96) (j : Fin 2048) : b_v19 (StableHlo.after hostOps0_4 W) (ix3 0 i j) = b_arg5 W (ix2 i j) := by
  after_reads_at

/-- One direction of a stacked matrix. -/
theorem s4_v19_1 (i : Fin 96) (j : Fin 2048) : b_v19 (StableHlo.after hostOps0_4 W) (ix3 1 i j) = b_arg12 W (ix2 i j) := by
  after_reads_at

/-- One direction of a stacked matrix. -/
theorem s4_v22_0 (i : Fin 2048) (j : Fin 64) : b_v22 (StableHlo.after hostOps0_4 W) (ix3 0 i j) = b_arg6 W (ix2 i j) := by
  after_reads_at

/-- One direction of a stacked matrix. -/
theorem s4_v22_1 (i : Fin 2048) (j : Fin 64) : b_v22 (StableHlo.after hostOps0_4 W) (ix3 1 i j) = b_arg13 W (ix2 i j) := by
  after_reads_at

/-- One direction of a stacked matrix. -/
theorem s4_v28_0 (i : Fin 2048) (j : Fin 16) : b_v28 (StableHlo.after hostOps0_4 W) (ix3 0 i j) = b_arg8 W (ix2 i j) := by
  after_reads_at

/-- One direction of a stacked matrix. -/
theorem s4_v28_1 (i : Fin 2048) (j : Fin 16) : b_v28 (StableHlo.after hostOps0_4 W) (ix3 1 i j) = b_arg15 W (ix2 i j) := by
  after_reads_at

/-- One direction of the stacked taps. -/
theorem s4_v13_0 (d : Fin 2048) (j : Fin 4) : b_v13 (StableHlo.after hostOps0_4 W) (ix4 0 d 0 j) = b_arg3 W (ix3 d 0 j) := by
  after_reads_at

/-- One direction of the stacked taps. -/
theorem s4_v13_1 (d : Fin 2048) (j : Fin 4) : b_v13 (StableHlo.after hostOps0_4 W) (ix4 1 d 0 j) = b_arg10 W (ix3 d 0 j) := by
  after_reads_at

/-- The convolution with its bias. -/
theorem s6_v64 (g b : Fin 2) (t : Fin 4096) (d : Fin 2048) : b_v64 (StableHlo.after hostOps0_6 W) (ix4 g b t d) = ((((0 + b_v13 W (ix4 g d 0 0) * b_v32 W (ix4 g b ⟨0 + t.val, by omega⟩ d)) + b_v13 W (ix4 g d 0 1) * b_v32 W (ix4 g b ⟨1 + t.val, by omega⟩ d)) + b_v13 W (ix4 g d 0 2) * b_v32 W (ix4 g b ⟨2 + t.val, by omega⟩ d)) + b_v13 W (ix4 g d 0 3) * b_v32 W (ix4 g b ⟨3 + t.val, by omega⟩ d)) + b_v16 W (ix2 g d) := by
  after_reads_at

/-- The activation. -/
theorem s7_v65 (g b : Fin 2) (t : Fin 4096) (d : Fin 2048) : b_v65 (StableHlo.after hostOps0_7 W) (ix4 g b t d) = b_v64 W (ix4 g b t d) * Ideal.logistic (b_v64 W (ix4 g b t d)) := by
  after_reads_at
  rfl

/-- A slice of the projection. -/
theorem s8_v67 (g b : Fin 2) (t : Fin 4096) (r : Fin 64) : b_v67 (StableHlo.after hostOps0_8 W) (ix4 g b t r) = ∑ d : Fin 2048, b_v65 W (ix4 g b t d) * b_v19 W (ix3 g (⟨0 + r.val, by omega⟩ : Fin 96) d) := by
  after_reads_at

/-- A slice of the projection. -/
theorem s8_v68 (g b : Fin 2) (t : Fin 4096) (r : Fin 16) : b_v68 (StableHlo.after hostOps0_8 W) (ix4 g b t r) = ∑ d : Fin 2048, b_v65 W (ix4 g b t d) * b_v19 W (ix3 g (⟨64 + r.val, by omega⟩ : Fin 96) d) := by
  after_reads_at

/-- A slice of the projection. -/
theorem s8_v69 (g b : Fin 2) (t : Fin 4096) (r : Fin 16) : b_v69 (StableHlo.after hostOps0_8 W) (ix4 g b t r) = ∑ d : Fin 2048, b_v65 W (ix4 g b t d) * b_v19 W (ix3 g (⟨80 + r.val, by omega⟩ : Fin 96) d) := by
  after_reads_at

/-- The raw step sizes. -/
theorem s8_v73 (g b : Fin 2) (t : Fin 4096) (d : Fin 2048) : b_v73 (StableHlo.after hostOps0_8 W) (ix4 g b t d) = (∑ r : Fin 64, (∑ e : Fin 2048, b_v65 W (ix4 g b t e) * b_v19 W (ix3 g (⟨r.val, by omega⟩ : Fin 96) e)) * b_v22 W (ix3 g d r)) + b_v25 W (ix2 g d) := by
  after_reads_at

/-- The step sizes. -/
theorem s9_v74 (g b : Fin 2) (t : Fin 4096) (d : Fin 2048) : b_v74 (StableHlo.after hostOps0_9 W) (ix4 g b t d) = max (b_v73 W (ix4 g b t d)) 0 + Ideal.log1p (Ideal.exp (-(FloatOps.absf (F := Ideal) (φ := .f32) (b_v73 W (ix4 g b t d))))) := by
  after_reads_at
  exact if_neg (not_not.mpr rfl)

/-- An array the loop slices. -/
theorem s10_0 (s : Fin 4096) (g b : Fin 2) (d : Fin 2048) : b_v88_0 (StableHlo.after hostOps0_10 W) (ix4 s g b d) = b_v65 W (ix4 g b s d) := by
  after_reads_at
  rw [id]
  pointwise

/-- An array the loop slices. -/
theorem s10_1 (s : Fin 4096) (g b : Fin 2) (d : Fin 2048) : b_v88_1 (StableHlo.after hostOps0_10 W) (ix4 s g b d) = b_v74 W (ix4 g b s d) := by
  after_reads_at
  rw [id]
  pointwise

/-- An array the loop slices. -/
theorem s10_2 (s : Fin 4096) (g b : Fin 2) (d : Fin 16) : b_v88_2 (StableHlo.after hostOps0_10 W) (ix4 s g b d) = b_v68 W (ix4 g b s d) := by
  after_reads_at
  rw [id]
  pointwise

/-- An array the loop slices. -/
theorem s10_3 (s : Fin 4096) (g b : Fin 2) (d : Fin 16) : b_v88_3 (StableHlo.after hostOps0_10 W) (ix4 s g b d) = b_v69 W (ix4 g b s d) := by
  after_reads_at
  rw [id]
  pointwise

/-- The rates. -/
theorem s10_4 (g : Fin 2) (d : Fin 2048) (n : Fin 16) : b_v88_4 (StableHlo.after hostOps0_10 W) (ix3 g d n) = -(Ideal.exp (b_v28 W (ix3 g d n))) := by
  after_reads_at
  rw [id]
  pointwise

/-- The state starts at zero. -/
theorem s10_6 (g b : Fin 2) (d : Fin 2048) (n : Fin 16) : b_v88_6 (StableHlo.after hostOps0_10 W) (ix4 g b d n) = 0 := by
  after_reads_at
  rw [id]
  pointwise

/-- The counter starts at zero. -/
theorem s10_5 : StableHlo.after hostOps0_10 W (Proc.devRef .tc main_v88_5) = fun _ => BitVec.ofNat 32 0 := by
  after_reads_simp
  rfl

/-- The branches' outputs before the gate. -/
theorem s11_v93 (g b : Fin 2) (t : Fin 4096) (d : Fin 2048) : b_v93 (StableHlo.after hostOps0_11 W) (ix4 g b t d) = b_v88_7 W (ix4 t g b d) + b_v65 W (ix4 g b t d) * b_v31 W (ix2 g d) := by
  after_reads_at

/-- The gates. -/
theorem s12_v94 (g b : Fin 2) (t : Fin 4096) (d : Fin 2048) : b_v94 (StableHlo.after hostOps0_12 W) (ix4 g b t d) = b_v10 W (ix4 g b t d) * Ideal.logistic (b_v10 W (ix4 g b t d)) := by
  after_reads_at
  rfl

/-- A gated branch. -/
theorem s13_v97 (b : Fin 2) (t : Fin 4096) (d : Fin 2048) : b_v97 (StableHlo.after hostOps0_13 W) (ix3 b t d) = b_v93 W (ix4 0 b t d) * b_v94 W (ix4 0 b t d) := by
  after_reads_at

/-- A gated branch. -/
theorem s13_v99 (b : Fin 2) (t : Fin 4096) (d : Fin 2048) : b_v99 (StableHlo.after hostOps0_13 W) (ix3 b t d) = b_v93 W (ix4 1 b t d) * b_v94 W (ix4 1 b t d) := by
  after_reads_at

/-- The second branch flipped back. -/
theorem s14_v100 (b : Fin 2) (t : Fin 4096) (d : Fin 2048) : b_v100 (StableHlo.after hostOps0_14 W) (ix3 b t d) = b_v99 W (ix3 b t.rev d) := by
  after_reads_at
  rfl

/-- The output projection. -/
theorem s15_v102 (b : Fin 2) (t : Fin 4096) (o : Fin 1024) : b_v102 (StableHlo.after hostOps0_15 W) (ix3 b t o) = ∑ d : Fin 2048, (b_v97 W (ix3 b t d) + b_v100 W (ix3 b t d)) * b_arg17 W (ix2 o d) := by
  after_reads_at

/-- The inputs padded in front. -/
theorem s5_v32 (hc : W (Proc.devRef .tc main_c) = constantI S_ 32 0#32) (g b : Fin 2) (t : Fin 4099) (d : Fin 2048) : b_v32 (StableHlo.after hostOps0_5 W) (ix4 g b t d) = if h : t.val < 3 then 0 else b_v6 W (ix4 g b ⟨t.val - 3, by omega⟩ d) := by
  after_reads_at
  have hz : FloatOps.sitofp (F := Ideal) .f32 (W (Proc.devRef .tc main_c) (Shape.Idx.first h_S_)) = (0 : EReal) := by
    rw [hc]
    show (((0#32 : BitVec 32).toInt : ℝ) : EReal) = 0
    simp
  by_cases h : t.val < 3
  · rw [dif_pos h, dif_neg (fun h' => by omega)]
    exact hz
  · rw [dif_neg h, dif_pos ⟨by omega, by omega⟩]

/-- The mask applied. -/
theorem s16_v105 (b : Fin 2) (t : Fin 4096) (o : Fin 1024) : b_v105 (StableHlo.after hostOps0_16 W) (ix3 b t o) = Scalar.select ((show IVec S2x4096x1 1 from W (Proc.devRef .tc main_v104)) (ix3 b t 0)) (b_v102 W (ix3 b t o)) (b_cst_3 W ix0) := by
  after_reads_at
  rfl

/-- The mask as the last step takes it. -/
theorem s15_v104 (b : Fin 2) (t : Fin 4096) :
    (show IVec S2x4096x1 1 from StableHlo.after hostOps0_15 W (Proc.devRef .tc main_v104)) (ix3 b t 0)
      = (show IVec S2x1x4096 1 from W (Proc.devRef .tc main_arg1)) (ix3 b 0 t) := by
  after_reads_at

/-- The value outside the mask. -/
theorem s15_cst  : b_cst_3 (StableHlo.after hostOps0_15 W) ix0 = 0 := by
  after_reads_at

end Cert.ReferenceIdeal.Host
-- ==== Proof.RefLoop.lean ====
/- The loop over the sequence of the reference: what its carried arrays hold after any number of trips. -/
module

public import proofs.«01_k».proof.Proof.Gen.ReferenceIdeal.Run
public import proofs.«01_k».proof.Proof.Seq
public import Idealize.ShloMosaic.Lib.Pipeline.ValueKit
public import Idealize.ShloMosaic.Lib.Pointwise
public import Idealize.ShloMosaic.Lib.DynamicIndex
public import Idealize.ShloMosaic.Lib.WordCmp

@[expose] public section

set_option maxRecDepth 8192

noncomputable section

namespace Cert.ReferenceIdeal.Loop

open Idealize.ShloMosaic Idealize.ShloMosaic.TcCoe Cert.ReferenceIdeal.Gen Cert.ReferenceIdeal.Value

/-- The start of a slice whose first coordinate is the trip's number and whose others are zero. -/
theorem start_eq {k : ℕ} (hk : k < 4096) (a : Fin 4) :
    ((![(fun _ => BitVec.ofNat 32 k), constantI S_ 32 0#32, constantI S_ 32 0#32, constantI S_ 32 0#32] :
      Fin 4 → (⟨S_, .i32⟩ : BufTy).Contents (Elt Ideal)) a (Shape.Idx.first h_S_)).toInt
      = ((![k, 0, 0, 0] : Fin 4 → ℕ) a : Int) := by
  have h : (BitVec.ofNat 32 k).toInt = (k : Int) := by
    rw [BitVec.toInt_eq_toNat_cond, BitVec.toNat_ofNat]
    have : k % 2 ^ 32 = k := Nat.mod_eq_of_lt (by omega)
    rw [this, if_pos (by omega)]
  fin_cases a
  · exact h
  · rfl
  · rfl
  · rfl

/-- A row of an array over the channels, sliced at the trip's number. -/
theorem row_d (X : FVec Ideal S4096x2x2x2048 .f32) (V : Valuation τ sig (Elt Ideal)) {k : ℕ} (hk : k < 4096)
    (hc : V (Proc.devRef .tc main_v88_5) = fun _ => BitVec.ofNat 32 k) (g b : Fin 2) (d : Fin 2048) :
    shapeCast S2x2x2048 (Host.dynamicSlice S1x2x2x2048 X (fun k => (((![V (Proc.devRef .tc main_v88_5), constantI S_ 32 0#32, constantI S_ 32 0#32, constantI S_ 32 0#32] : Fin 4 → (⟨S_, .i32⟩ : BufTy).Contents (Elt Ideal))) k (Shape.Idx.first h_S_)).toInt) sliceFits_S4096x2x2x2048_S1x2x2x2048) shapeCasts_S1x2x2x2048_S2x2x2048 (ix3 g b d)
      = X (ix4 ⟨k, hk⟩ g b d) := by
  have hoff : S4096x2x2x2048.Slices ![k, 0, 0, 0] S1x2x2x2048 := by
    refine ⟨rfl, fun a => ?_⟩
    fin_cases a
    · show k + 1 ≤ 4096; omega
    · exact le_of_eq (Nat.zero_add _)
    · exact le_of_eq (Nat.zero_add _)
    · exact le_of_eq (Nat.zero_add _)
  rw [hc]
  refine (congrArg (fun z => shapeCast S2x2x2048 z shapeCasts_S1x2x2x2048_S2x2x2048 (ix3 g b d))
    (Host.dynamicSlice_eq_extractStridedSlice S1x2x2x2048 X _ ![k, 0, 0, 0] _ hoff (start_eq hk))).trans ?_
  pointwise

/-- A row of an array over the states, sliced at the trip's number. -/
theorem row_n (X : FVec Ideal S4096x2x2x16 .f32) (V : Valuation τ sig (Elt Ideal)) {k : ℕ} (hk : k < 4096)
    (hc : V (Proc.devRef .tc main_v88_5) = fun _ => BitVec.ofNat 32 k) (g b : Fin 2) (n : Fin 16) :
    shapeCast S2x2x16 (Host.dynamicSlice S1x2x2x16 X (fun k => (((![V (Proc.devRef .tc main_v88_5), constantI S_ 32 0#32, constantI S_ 32 0#32, constantI S_ 32 0#32] : Fin 4 → (⟨S_, .i32⟩ : BufTy).Contents (Elt Ideal))) k (Shape.Idx.first h_S_)).toInt) sliceFits_S4096x2x2x16_S1x2x2x16) shapeCasts_S1x2x2x16_S2x2x16 (ix3 g b n)
      = X (ix4 ⟨k, hk⟩ g b n) := by
  have hoff : S4096x2x2x16.Slices ![k, 0, 0, 0] S1x2x2x16 := by
    refine ⟨rfl, fun a => ?_⟩
    fin_cases a
    · show k + 1 ≤ 4096; omega
    · exact le_of_eq (Nat.zero_add _)
    · exact le_of_eq (Nat.zero_add _)
    · exact le_of_eq (Nat.zero_add _)
  rw [hc]
  refine (congrArg (fun z => shapeCast S2x2x16 z shapeCasts_S1x2x2x16_S2x2x16 (ix3 g b n))
    (Host.dynamicSlice_eq_extractStridedSlice S1x2x2x16 X _ ![k, 0, 0, 0] _ hoff (start_eq hk))).trans ?_
  pointwise

variable (V : Valuation τ sig (Elt Ideal))

/-- The carried inputs of the recurrence. -/
abbrev aU : FVec Ideal S4096x2x2x2048 .f32 := V (Proc.devRef .tc main_v88_0)
/-- The carried step sizes. -/
abbrev aDt : FVec Ideal S4096x2x2x2048 .f32 := V (Proc.devRef .tc main_v88_1)
/-- The carried input maps. -/
abbrev aB : FVec Ideal S4096x2x2x16 .f32 := V (Proc.devRef .tc main_v88_2)
/-- The carried output maps. -/
abbrev aC : FVec Ideal S4096x2x2x16 .f32 := V (Proc.devRef .tc main_v88_3)
/-- The carried rates. -/
abbrev aA : FVec Ideal S2x2048x16 .f32 := V (Proc.devRef .tc main_v88_4)
/-- The carried state. -/
abbrev aH : FVec Ideal S2x2x2048x16 .f32 := V (Proc.devRef .tc main_v88_6)
/-- The carried outputs. -/
abbrev aY : FVec Ideal S4096x2x2x2048 .f32 := V (Proc.devRef .tc main_v88_7)

/-- The state after one trip, at an element. -/
theorem state_apply {k : ℕ} (hk : k < 4096)
    (hc : V (Proc.devRef .tc main_v88_5) = fun _ => BitVec.ofNat 32 k) (g b : Fin 2) (d : Fin 2048) (n : Fin 16) :
    (show FVec Ideal S2x2x2048x16 .f32 from res_main_while0b_v123 V) (ix4 g b d n)
      = Ideal.exp (aDt V (ix4 ⟨k, hk⟩ g b d) * aA V (ix3 g d n))
          * aH V (ix4 g b d n)
        + aDt V (ix4 ⟨k, hk⟩ g b d) * aU V (ix4 ⟨k, hk⟩ g b d)
          * aB V (ix4 ⟨k, hk⟩ g b n) := by
  have e1 := row_d (aDt V) V hk hc g b d
  have e0 := row_d (aU V) V hk hc g b d
  have e2 := row_n (aB V) V hk hc g b n
  unfold res_main_while0b_v123 res_main_while0b_v107
  rw [← e1, ← e0, ← e2]
  generalize shapeCast S2x2x2048 _ _ = a1
  generalize shapeCast S2x2x2048 _ _ = a0
  generalize shapeCast S2x2x16 _ _ = a2
  pointwise

/-- The output rows after one trip, at an element: the trip's row is the state read out, the others stay. -/
theorem rows_apply {k : ℕ} (hk : k < 4096)
    (hc : V (Proc.devRef .tc main_v88_5) = fun _ => BitVec.ofNat 32 k) (s : Fin 4096) (g b : Fin 2) (d : Fin 2048) :
    (show FVec Ideal S4096x2x2x2048 .f32 from step_main_v88_7 V) (ix4 s g b d)
      = if s.val = k then ∑ n : Fin 16, (show FVec Ideal S2x2x2048x16 .f32 from res_main_while0b_v123 V) (ix4 g b d n)
          * aC V (ix4 ⟨k, hk⟩ g b n)
        else aY V (ix4 s g b d) := by
  have e3 := row_n (aC V) V hk hc g b
  have hoff : S4096x2x2x2048.Slices ![k, 0, 0, 0] S1x2x2x2048 := by
    refine ⟨rfl, fun a => ?_⟩
    fin_cases a
    · show k + 1 ≤ 4096; omega
    · exact le_of_eq (Nat.zero_add _)
    · exact le_of_eq (Nat.zero_add _)
    · exact le_of_eq (Nat.zero_add _)
  unfold step_main_v88_7
  simp only [← e3]
  generalize shapeCast S2x2x16 _ _ = a3
  generalize res_main_while0b_v123 V = h
  rw [hc]
  refine (congrFun (WordCmp.dynamicUpdateSlice_eq_update (aY V) _ _ _ ![k, 0, 0, 0] hoff (start_eq hk)) (ix4 s g b d)).trans ?_
  pointwise
  by_cases e : s.val = k
  · rw [dif_pos ⟨by omega, by omega⟩, if_pos e]
  · rw [dif_neg (fun e' => by omega), if_neg e]

/-- What the loop leaves after `k` trips, of arrays that hold the inputs of the recurrence. -/
structure Inv (P : Fin 2 → Seq.Par) (x : Fin 2 → Fin 2 → ℕ → Fin 2048 → EReal) (k : ℕ) : Prop where
  u : ∀ s g b d, aU V (ix4 s g b d) = Seq.u (P g) (x g b) s.val d
  dt : ∀ s g b d, aDt V (ix4 s g b d) = Seq.dt (P g) (x g b) s.val d
  B : ∀ s g b n, aB V (ix4 s g b n) = Seq.B (P g) (x g b) s.val n
  C : ∀ s g b n, aC V (ix4 s g b n) = Seq.C (P g) (x g b) s.val n
  A : ∀ g d n, aA V (ix3 g d n) = (P g).A d n
  count : V (Proc.devRef .tc main_v88_5) = fun _ => BitVec.ofNat 32 k
  h : ∀ g b d n, aH V (ix4 g b d n) = Seq.H (P g) (x g b) k d n
  y : ∀ s g b d, s.val < k → aY V (ix4 s g b d) = Seq.y (P g) (x g b) s.val d

variable {V} in
/-- One trip carries the statement on. -/
theorem Inv.step {P : Fin 2 → Seq.Par} {x : Fin 2 → Fin 2 → ℕ → Fin 2048 → EReal} {k : ℕ} (hk : k < 4096)
    (I : Inv V P x k) : Inv (STEP V) P x (k + 1) := by
  have hs : ∀ g b d n, (show FVec Ideal S2x2x2048x16 .f32 from res_main_while0b_v123 V) (ix4 g b d n)
      = Seq.H (P g) (x g b) (k + 1) d n := fun g b d n => by
    rw [state_apply V hk I.count, I.dt, I.A, I.h, I.u, I.B]
    rfl
  refine ⟨?_, ?_, ?_, ?_, ?_, ?_, ?_, ?_⟩
  · intro s g b d; unfold aU; rw [STEP_main_v88_0]; exact I.u s g b d
  · intro s g b d; unfold aDt; rw [STEP_main_v88_1]; exact I.dt s g b d
  · intro s g b n; unfold aB; rw [STEP_main_v88_2]; exact I.B s g b n
  · intro s g b n; unfold aC; rw [STEP_main_v88_3]; exact I.C s g b n
  · intro g d n; unfold aA; rw [STEP_main_v88_4]; exact I.A g d n
  · rw [STEP_main_v88_5, step_main_v88_5, I.count]
    funext i
    exact (BitVec.ofNat_add k 1).symm
  · intro g b d n; unfold aH; rw [STEP_main_v88_6]; exact hs g b d n
  · intro s g b d hlt
    unfold aY
    rw [STEP_main_v88_7]
    refine (rows_apply V hk I.count s g b d).trans ?_
    by_cases e : s.val = k
    · rw [if_pos e, e]
      unfold Seq.y
      refine Finset.sum_congr (M := EReal) rfl fun n _ => ?_
      rw [hs, I.C]
      exact mul_comm _ _
    · rw [if_neg e]
      exact I.y s g b d (by omega)

variable {V} in
/-- Any number of trips up to the last. -/
theorem Inv.iterate {P : Fin 2 → Seq.Par} {x : Fin 2 → Fin 2 → ℕ → Fin 2048 → EReal}
    (I : Inv V P x 0) : ∀ k, k ≤ 4096 → Inv (STEP^[k] V) P x k
  | 0, _ => I
  | k + 1, h => by
      rw [Function.iterate_succ_apply']
      exact (Inv.iterate I k (by omega)).step (by omega)

end Cert.ReferenceIdeal.Loop
-- ==== Proof.RefVal.lean ====
/- The reference's result, element by element. -/
module

public import proofs.«01_k».proof.Proof.RefHost
public import proofs.«01_k».proof.Proof.RefLoop
public import proofs.«01_k».proof.Proof.Spec

@[expose] public section

set_option maxRecDepth 8192

noncomputable section

namespace Cert.ReferenceIdeal.Host

open Idealize.ShloMosaic Idealize.ShloMosaic.TcCoe Cert.ReferenceIdeal.Gen Cert.ReferenceIdeal.Value

variable (W : Valuation τ sig (Elt Ideal))

/-- The contents after the first 1 of the stretches before the loop. -/
def w0 : Valuation τ sig (Elt Ideal) := StableHlo.after hostOps0 W
/-- The contents after the first 2 of the stretches before the loop. -/
def w1 : Valuation τ sig (Elt Ideal) := StableHlo.after hostOps0_1 (w0 W)
/-- The contents after the first 3 of the stretches before the loop. -/
def w2 : Valuation τ sig (Elt Ideal) := StableHlo.after hostOps0_2 (w1 W)
/-- The contents after the first 4 of the stretches before the loop. -/
def w3 : Valuation τ sig (Elt Ideal) := StableHlo.after hostOps0_3 (w2 W)
/-- The contents after the first 5 of the stretches before the loop. -/
def w4 : Valuation τ sig (Elt Ideal) := StableHlo.after hostOps0_4 (w3 W)
/-- The contents after the first 6 of the stretches before the loop. -/
def w5 : Valuation τ sig (Elt Ideal) := StableHlo.after hostOps0_5 (w4 W)
/-- The contents after the first 7 of the stretches before the loop. -/
def w6 : Valuation τ sig (Elt Ideal) := StableHlo.after hostOps0_6 (w5 W)
/-- The contents after the first 8 of the stretches before the loop. -/
def w7 : Valuation τ sig (Elt Ideal) := StableHlo.after hostOps0_7 (w6 W)
/-- The contents after the first 9 of the stretches before the loop. -/
def w8 : Valuation τ sig (Elt Ideal) := StableHlo.after hostOps0_8 (w7 W)
/-- The contents after the first 10 of the stretches before the loop. -/
def w9 : Valuation τ sig (Elt Ideal) := StableHlo.after hostOps0_9 (w8 W)
/-- The contents after the first 11 of the stretches before the loop. -/
def w10 : Valuation τ sig (Elt Ideal) := StableHlo.after hostOps0_10 (w9 W)

theorem k3_arg3 : b_arg3 (w3 W) = b_arg3 W := by
  unfold w3 w2 w1 w0
  after_reads_simp

theorem k3_arg4 : b_arg4 (w3 W) = b_arg4 W := by
  unfold w3 w2 w1 w0
  after_reads_simp

theorem k3_arg5 : b_arg5 (w3 W) = b_arg5 W := by
  unfold w3 w2 w1 w0
  after_reads_simp

theorem k3_arg6 : b_arg6 (w3 W) = b_arg6 W := by
  unfold w3 w2 w1 w0
  after_reads_simp

theorem k3_arg7 : b_arg7 (w3 W) = b_arg7 W := by
  unfold w3 w2 w1 w0
  after_reads_simp

theorem k3_arg8 : b_arg8 (w3 W) = b_arg8 W := by
  unfold w3 w2 w1 w0
  after_reads_simp

theorem k3_arg9 : b_arg9 (w3 W) = b_arg9 W := by
  unfold w3 w2 w1 w0
  after_reads_simp

theorem k3_arg10 : b_arg10 (w3 W) = b_arg10 W := by
  unfold w3 w2 w1 w0
  after_reads_simp

theorem k3_arg11 : b_arg11 (w3 W) = b_arg11 W := by
  unfold w3 w2 w1 w0
  after_reads_simp

theorem k3_arg12 : b_arg12 (w3 W) = b_arg12 W := by
  unfold w3 w2 w1 w0
  after_reads_simp

theorem k3_arg13 : b_arg13 (w3 W) = b_arg13 W := by
  unfold w3 w2 w1 w0
  after_reads_simp

theorem k3_arg14 : b_arg14 (w3 W) = b_arg14 W := by
  unfold w3 w2 w1 w0
  after_reads_simp

theorem k3_arg15 : b_arg15 (w3 W) = b_arg15 W := by
  unfold w3 w2 w1 w0
  after_reads_simp

theorem k3_arg16 : b_arg16 (w3 W) = b_arg16 W := by
  unfold w3 w2 w1 w0
  after_reads_simp

theorem k1_v1 : b_v1 (w1 W) = b_v1 (w0 W) := by
  unfold w1
  after_reads_simp

theorem k1_v2 : b_v2 (w1 W) = b_v2 (w0 W) := by
  unfold w1
  after_reads_simp

theorem k2_v2 : b_v2 (w2 W) = b_v2 (w0 W) := by
  unfold w2 w1
  after_reads_simp

theorem k3_v2 : b_v2 (w3 W) = b_v2 (w0 W) := by
  unfold w3 w2 w1
  after_reads_simp

theorem k4_v6 : b_v6 (w4 W) = b_v6 (w2 W) := by
  unfold w4 w3
  after_reads_simp

theorem k5_v13 : b_v13 (w5 W) = b_v13 (w4 W) := by
  unfold w5
  after_reads_simp

theorem k5_v16 : b_v16 (w5 W) = b_v16 (w4 W) := by
  unfold w5
  after_reads_simp

theorem k7_v19 : b_v19 (w7 W) = b_v19 (w4 W) := by
  unfold w7 w6 w5
  after_reads_simp

theorem k7_v22 : b_v22 (w7 W) = b_v22 (w4 W) := by
  unfold w7 w6 w5
  after_reads_simp

theorem k7_v25 : b_v25 (w7 W) = b_v25 (w4 W) := by
  unfold w7 w6 w5
  after_reads_simp

theorem k9_v65 : b_v65 (w9 W) = b_v65 (w7 W) := by
  unfold w9 w8
  after_reads_simp

theorem k9_v68 : b_v68 (w9 W) = b_v68 (w8 W) := by
  unfold w9
  after_reads_simp

theorem k9_v69 : b_v69 (w9 W) = b_v69 (w8 W) := by
  unfold w9
  after_reads_simp

theorem k9_v28 : b_v28 (w9 W) = b_v28 (w4 W) := by
  unfold w9 w8 w7 w6 w5
  after_reads_simp

theorem k10_v31 : b_v31 (w10 W) = b_v31 (w4 W) := by
  unfold w10 w9 w8 w7 w6 w5
  after_reads_simp

theorem k10_v10 : b_v10 (w10 W) = b_v10 (w4 W) := by
  unfold w10 w9 w8 w7 w6 w5
  after_reads_simp

theorem k10_v65 : b_v65 (w10 W) = b_v65 (w7 W) := by
  unfold w10 w9 w8
  after_reads_simp

theorem k10_arg17 : b_arg17 (w10 W) = b_arg17 W := by
  unfold w10 w9 w8 w7 w6 w5 w4 w3 w2 w1 w0
  after_reads_simp

theorem k10_arg1 : w10 W (Proc.devRef .tc main_arg1) = W (Proc.devRef .tc main_arg1) := by
  unfold w10 w9 w8 w7 w6 w5 w4 w3 w2 w1 w0
  after_reads_simp

theorem k4_c : w4 W (Proc.devRef .tc main_c) = constantI S_ 32 0#32 := by
  unfold w4
  after_reads_simp

/-- The arguments of the block as the reference is given them. -/
def args : Spec.Args where
  x b t k := b_arg0 W (ix3 b t k)
  mask b t := (show IVec S2x1x4096 1 from W (Proc.devRef .tc main_arg1)) (ix3 b 0 t)
  win e k := b_arg2 W (ix2 e k)
  F := Spec.par (fun d j => b_arg3 W (ix3 d 0 j)) (fun d => b_arg4 W (ix1 d)) (fun p d => b_arg5 W (ix2 p d)) (fun d r => b_arg6 W (ix2 d r))
    (fun d => b_arg7 W (ix1 d)) (fun d n => b_arg8 W (ix2 d n)) (fun d => b_arg9 W (ix1 d))
  B := Spec.par (fun d j => b_arg10 W (ix3 d 0 j)) (fun d => b_arg11 W (ix1 d)) (fun p d => b_arg12 W (ix2 p d)) (fun d r => b_arg13 W (ix2 d r))
    (fun d => b_arg14 W (ix1 d)) (fun d n => b_arg15 W (ix2 d n)) (fun d => b_arg16 W (ix1 d))
  wout o d := b_arg17 W (ix2 o d)

/-- The two directions' weights. -/
def PP : Fin 2 → Seq.Par := ![(args W).F, (args W).B]
/-- The two directions' sequences. -/
def XX : Fin 2 → Fin 2 → ℕ → Fin 2048 → EReal := ![Spec.seqF (args W), Spec.seqB (args W)]

theorem ofNat_rev (t : Fin 4096) : Fin.ofNat 4096 (4095 - t.val) = t.rev :=
  Fin.ext (by show (4095 - t.val) % 4096 = 4096 - (t.val + 1); omega)

/-- The stacked inputs. -/
theorem v6_at (g b : Fin 2) (t : Fin 4096) (d : Fin 2048) : b_v6 (w2 W) (ix4 g b t d) = XX W g b t.val d := by
  fin_cases g
  · refine (s2_v6_0 (w1 W) b t d).trans ?_
    rw [k1_v1]
    refine (s0_v1 W b t d).trans ?_
    show _ = Spec.xz (args W) b (Fin.ofNat 4096 t.val) _
    rw [Fin.ofNat_val_eq_self]
    rfl
  · refine (s2_v6_1 (w1 W) b t d).trans ?_
    refine (s1_v3 (w0 W) b t d).trans ?_
    refine (s0_v1 W b t.rev d).trans ?_
    show _ = Spec.xz (args W) b (Fin.ofNat 4096 (4095 - t.val)) _
    rw [ofNat_rev]
    rfl

/-- The gates' operand, forward. -/
theorem v10_at_0 (b : Fin 2) (t : Fin 4096) (d : Fin 2048) :
    b_v10 (w4 W) (ix4 0 b t d) = Spec.xz (args W) b t ⟨2048 + d.val, by omega⟩ := by
  refine (s4_v10_0 (w3 W) b t d).trans ?_
  rw [k3_v2]
  exact s0_v2 W b t d

/-- The gates' operand, backward. -/
theorem v10_at_1 (b : Fin 2) (t : Fin 4096) (d : Fin 2048) :
    b_v10 (w4 W) (ix4 1 b t d) = Spec.xz (args W) b t.rev ⟨2048 + d.val, by omega⟩ := by
  refine (s4_v10_1 (w3 W) b t d).trans ?_
  refine (s3_v7 (w2 W) b t d).trans ?_
  rw [k2_v2]
  exact s0_v2 W b t.rev d

theorem v13_at (g : Fin 2) (d : Fin 2048) (j : Fin 4) : b_v13 (w4 W) (ix4 g d 0 j) = (PP W g).w d j := by
  fin_cases g
  · refine (s4_v13_0 (w3 W) d j).trans ?_
    rw [k3_arg3]
    rfl
  · refine (s4_v13_1 (w3 W) d j).trans ?_
    rw [k3_arg10]
    rfl

theorem v16_at (g : Fin 2) (d : Fin 2048) : b_v16 (w4 W) (ix2 g d) = (PP W g).cb d := by
  fin_cases g
  · refine (s4_v16_0 (w3 W) d).trans ?_
    rw [k3_arg4]
    rfl
  · refine (s4_v16_1 (w3 W) d).trans ?_
    rw [k3_arg11]
    rfl

theorem v19_at (g : Fin 2) (i : Fin 96) (j : Fin 2048) : b_v19 (w4 W) (ix3 g i j) = (PP W g).xw i j := by
  fin_cases g
  · refine (s4_v19_0 (w3 W) i j).trans ?_
    rw [k3_arg5]
    rfl
  · refine (s4_v19_1 (w3 W) i j).trans ?_
    rw [k3_arg12]
    rfl

theorem v22_at (g : Fin 2) (i : Fin 2048) (j : Fin 64) : b_v22 (w4 W) (ix3 g i j) = (PP W g).dw i j := by
  fin_cases g
  · refine (s4_v22_0 (w3 W) i j).trans ?_
    rw [k3_arg6]
    rfl
  · refine (s4_v22_1 (w3 W) i j).trans ?_
    rw [k3_arg13]
    rfl

theorem v25_at (g : Fin 2) (d : Fin 2048) : b_v25 (w4 W) (ix2 g d) = (PP W g).db d := by
  fin_cases g
  · refine (s4_v25_0 (w3 W) d).trans ?_
    rw [k3_arg7]
    rfl
  · refine (s4_v25_1 (w3 W) d).trans ?_
    rw [k3_arg14]
    rfl

theorem v31_at (g : Fin 2) (d : Fin 2048) : b_v31 (w4 W) (ix2 g d) = (PP W g).D d := by
  fin_cases g
  · refine (s4_v31_0 (w3 W) d).trans ?_
    rw [k3_arg9]
    rfl
  · refine (s4_v31_1 (w3 W) d).trans ?_
    rw [k3_arg16]
    rfl

theorem v28_at (g : Fin 2) (d : Fin 2048) (n : Fin 16) : -Ideal.exp (b_v28 (w4 W) (ix3 g d n)) = (PP W g).A d n := by
  fin_cases g
  · refine (congrArg (fun z => -Ideal.exp z) (s4_v28_0 (w3 W) d n)).trans ?_
    rw [k3_arg8]
    rfl
  · refine (congrArg (fun z => -Ideal.exp z) (s4_v28_1 (w3 W) d n)).trans ?_
    rw [k3_arg15]
    rfl

/-- The padded inputs. -/
theorem v32_at (g b : Fin 2) (t : Fin 4099) (d : Fin 2048) : b_v32 (w5 W) (ix4 g b t d) = Seq.xp (XX W g b) t.val d := by
  refine (s5_v32 (w4 W) (k4_c W) g b t d).trans ?_
  unfold Seq.xp
  by_cases h : t.val < 3
  · rw [dif_pos h, if_pos h]
  · rw [dif_neg h, if_neg h, k4_v6, v6_at]

/-- The convolution. -/
theorem v64_at (g b : Fin 2) (t : Fin 4096) (d : Fin 2048) : b_v64 (w6 W) (ix4 g b t d) = Seq.pre (PP W g) (XX W g b) t.val d := by
  refine (s6_v64 (w5 W) g b t d).trans ?_
  rw [k5_v13, k5_v16]
  rw [v13_at, v13_at, v13_at, v13_at, v16_at, v32_at, v32_at, v32_at, v32_at]
  unfold Seq.pre
  rw [zero_add, add_comm, ← add_assoc, ← add_assoc, ← add_assoc]
  simp only [Nat.add_comm]

/-- The activation. -/
theorem v65_at (g b : Fin 2) (t : Fin 4096) (d : Fin 2048) : b_v65 (w7 W) (ix4 g b t d) = Seq.u (PP W g) (XX W g b) t.val d := by
  refine (s7_v65 (w6 W) g b t d).trans ?_
  rw [v64_at]
  rfl

/-- The projection at a row. -/
theorem pr_at (g b : Fin 2) (t : Fin 4096) (p : Fin 96) :
    ∑ d : Fin 2048, b_v65 (w7 W) (ix4 g b t d) * b_v19 (w7 W) (ix3 g p d) = Seq.pr (PP W g) (XX W g b) t.val p := by
  refine Finset.sum_congr (M := EReal) rfl fun d _ => ?_
  rw [k7_v19, v65_at, v19_at]

/-- The step sizes. -/
theorem v74_at (g b : Fin 2) (t : Fin 4096) (d : Fin 2048) : b_v74 (w9 W) (ix4 g b t d) = Seq.dt (PP W g) (XX W g b) t.val d := by
  refine (s9_v74 (w8 W) g b t d).trans ?_
  have h : b_v73 (w8 W) (ix4 g b t d) = (∑ r : Fin 64, Seq.pr (PP W g) (XX W g b) t.val ⟨r.val, by omega⟩ * (PP W g).dw d r) + (PP W g).db d := by
    refine (s8_v73 (w7 W) g b t d).trans ?_
    rw [k7_v22, k7_v25, v25_at]
    refine congrArg (· + _) (Finset.sum_congr (M := EReal) rfl fun r _ => ?_)
    rw [pr_at, v22_at]
  rw [h]
  rfl

/-- What the loop starts from. -/
theorem start : Loop.Inv (w10 W) (PP W) (XX W) 0 where
  u s g b d := by
    refine (s10_0 (w9 W) s g b d).trans ?_
    rw [k9_v65, v65_at]
  dt s g b d := by
    refine (s10_1 (w9 W) s g b d).trans ?_
    rw [v74_at]
  B s g b n := by
    refine (s10_2 (w9 W) s g b n).trans ?_
    rw [k9_v68]
    refine (s8_v68 (w7 W) g b s n).trans ?_
    exact pr_at W g b s _
  C s g b n := by
    refine (s10_3 (w9 W) s g b n).trans ?_
    rw [k9_v69]
    refine (s8_v69 (w7 W) g b s n).trans ?_
    exact pr_at W g b s _
  A g d n := by
    refine (s10_4 (w9 W) g d n).trans ?_
    rw [k9_v28, v28_at]
  count := s10_5 (w9 W)
  h g b d n := s10_6 (w9 W) g b d n
  y s g b d h := absurd h (Nat.not_lt_zero _)

end Cert.ReferenceIdeal.Host
-- ==== Proof.RefPost.lean ====
/- The reference's results after its loop. -/
module

public import proofs.«01_k».proof.Proof.RefVal

@[expose] public section

set_option maxRecDepth 8192

noncomputable section

namespace Cert.ReferenceIdeal.Host

open Idealize.ShloMosaic Idealize.ShloMosaic.TcCoe Cert.ReferenceIdeal.Gen Cert.ReferenceIdeal.Value Idealize.ShloMosaic.StableHlo

variable (m : (ℓ : Loc nD τ sig) → Buf (Elt Ideal) ℓ) (c : Dev nD)

/-- What core `c`'s buffers hold at launch. -/
def launch : Valuation τ sig (Elt Ideal) := launchContents m c

theorem entry_eq : entryContents preI m c = w10 (launch m c) := rfl

/-- What the buffers hold when the loop is left. -/
def leave : Valuation τ sig (Elt Ideal) := after condOps (atTrip condOps bodyI (entryContents preI m) 4096 c)

theorem trip_v65 (V : Valuation τ sig (Elt Ideal)) : afterL bodyI (after condOps V) (Proc.devRef .tc main_v65) = V (Proc.devRef .tc main_v65) := by
  simp only [afterL_cons, afterL_nil]
  after_reads_simp
theorem cond_v65 (V : Valuation τ sig (Elt Ideal)) : after condOps V (Proc.devRef .tc main_v65) = V (Proc.devRef .tc main_v65) := by
  after_reads_simp
/-- The loop leaves `main_v65` as it was. -/
theorem leave_v65 : leave m c (Proc.devRef .tc main_v65) = w10 (launch m c) (Proc.devRef .tc main_v65) := by
  have h : ∀ k, atTrip condOps bodyI (entryContents preI m) k c (Proc.devRef .tc main_v65) = w10 (launch m c) (Proc.devRef .tc main_v65) := fun k => by
    induction k with
    | zero => exact congrFun (entry_eq m c) _
    | succ k ih => exact (trip_v65 (atTrip condOps bodyI (entryContents preI m) k c)).trans ih
  exact (cond_v65 _).trans (h 4096)

theorem trip_v31 (V : Valuation τ sig (Elt Ideal)) : afterL bodyI (after condOps V) (Proc.devRef .tc main_v31) = V (Proc.devRef .tc main_v31) := by
  simp only [afterL_cons, afterL_nil]
  after_reads_simp
theorem cond_v31 (V : Valuation τ sig (Elt Ideal)) : after condOps V (Proc.devRef .tc main_v31) = V (Proc.devRef .tc main_v31) := by
  after_reads_simp
/-- The loop leaves `main_v31` as it was. -/
theorem leave_v31 : leave m c (Proc.devRef .tc main_v31) = w10 (launch m c) (Proc.devRef .tc main_v31) := by
  have h : ∀ k, atTrip condOps bodyI (entryContents preI m) k c (Proc.devRef .tc main_v31) = w10 (launch m c) (Proc.devRef .tc main_v31) := fun k => by
    induction k with
    | zero => exact congrFun (entry_eq m c) _
    | succ k ih => exact (trip_v31 (atTrip condOps bodyI (entryContents preI m) k c)).trans ih
  exact (cond_v31 _).trans (h 4096)

theorem trip_v10 (V : Valuation τ sig (Elt Ideal)) : afterL bodyI (after condOps V) (Proc.devRef .tc main_v10) = V (Proc.devRef .tc main_v10) := by
  simp only [afterL_cons, afterL_nil]
  after_reads_simp
theorem cond_v10 (V : Valuation τ sig (Elt Ideal)) : after condOps V (Proc.devRef .tc main_v10) = V (Proc.devRef .tc main_v10) := by
  after_reads_simp
/-- The loop leaves `main_v10` as it was. -/
theorem leave_v10 : leave m c (Proc.devRef .tc main_v10) = w10 (launch m c) (Proc.devRef .tc main_v10) := by
  have h : ∀ k, atTrip condOps bodyI (entryContents preI m) k c (Proc.devRef .tc main_v10) = w10 (launch m c) (Proc.devRef .tc main_v10) := fun k => by
    induction k with
    | zero => exact congrFun (entry_eq m c) _
    | succ k ih => exact (trip_v10 (atTrip condOps bodyI (entryContents preI m) k c)).trans ih
  exact (cond_v10 _).trans (h 4096)

theorem trip_arg17 (V : Valuation τ sig (Elt Ideal)) : afterL bodyI (after condOps V) (Proc.devRef .tc main_arg17) = V (Proc.devRef .tc main_arg17) := by
  simp only [afterL_cons, afterL_nil]
  after_reads_simp
theorem cond_arg17 (V : Valuation τ sig (Elt Ideal)) : after condOps V (Proc.devRef .tc main_arg17) = V (Proc.devRef .tc main_arg17) := by
  after_reads_simp
/-- The loop leaves `main_arg17` as it was. -/
theorem leave_arg17 : leave m c (Proc.devRef .tc main_arg17) = w10 (launch m c) (Proc.devRef .tc main_arg17) := by
  have h : ∀ k, atTrip condOps bodyI (entryContents preI m) k c (Proc.devRef .tc main_arg17) = w10 (launch m c) (Proc.devRef .tc main_arg17) := fun k => by
    induction k with
    | zero => exact congrFun (entry_eq m c) _
    | succ k ih => exact (trip_arg17 (atTrip condOps bodyI (entryContents preI m) k c)).trans ih
  exact (cond_arg17 _).trans (h 4096)

theorem trip_arg1 (V : Valuation τ sig (Elt Ideal)) : afterL bodyI (after condOps V) (Proc.devRef .tc main_arg1) = V (Proc.devRef .tc main_arg1) := by
  simp only [afterL_cons, afterL_nil]
  after_reads_simp
theorem cond_arg1 (V : Valuation τ sig (Elt Ideal)) : after condOps V (Proc.devRef .tc main_arg1) = V (Proc.devRef .tc main_arg1) := by
  after_reads_simp
/-- The loop leaves `main_arg1` as it was. -/
theorem leave_arg1 : leave m c (Proc.devRef .tc main_arg1) = w10 (launch m c) (Proc.devRef .tc main_arg1) := by
  have h : ∀ k, atTrip condOps bodyI (entryContents preI m) k c (Proc.devRef .tc main_arg1) = w10 (launch m c) (Proc.devRef .tc main_arg1) := fun k => by
    induction k with
    | zero => exact congrFun (entry_eq m c) _
    | succ k ih => exact (trip_arg1 (atTrip condOps bodyI (entryContents preI m) k c)).trans ih
  exact (cond_arg1 _).trans (h 4096)

theorem cond_v88_7 (V : Valuation τ sig (Elt Ideal)) : after condOps V (Proc.devRef .tc main_v88_7) = V (Proc.devRef .tc main_v88_7) := by
  after_reads_simp

/-- The rows the loop leaves are the scan's. -/
theorem leave_rows (s : Fin 4096) (g b : Fin 2) (d : Fin 2048) :
    b_v88_7 (leave m c) (ix4 s g b d) = Seq.y (PP (launch m c) g) (XX (launch m c) g b) s.val d := by
  have h1 : leave m c (Proc.devRef .tc main_v88_7) = STEP^[4096] (entryContents preI m c) (Proc.devRef .tc main_v88_7) :=
    (cond_v88_7 _).trans (atK_agree m c 4096 main_v88_7 (by decide))
  refine (congrFun h1 (ix4 s g b d)).trans ?_
  rw [entry_eq]
  exact ((start (launch m c)).iterate 4096 (le_refl _)).y s g b d s.isLt

/-- The contents after stretch 1 behind the loop. -/
def z11 : Valuation τ sig (Elt Ideal) := after hostOps0_11 (leave m c)
/-- The contents after stretch 2 behind the loop. -/
def z12 : Valuation τ sig (Elt Ideal) := after hostOps0_12 (z11 m c)
/-- The contents after stretch 3 behind the loop. -/
def z13 : Valuation τ sig (Elt Ideal) := after hostOps0_13 (z12 m c)
/-- The contents after stretch 4 behind the loop. -/
def z14 : Valuation τ sig (Elt Ideal) := after hostOps0_14 (z13 m c)
/-- The contents after stretch 5 behind the loop. -/
def z15 : Valuation τ sig (Elt Ideal) := after hostOps0_15 (z14 m c)
/-- The contents after stretch 6 behind the loop. -/
def z16 : Valuation τ sig (Elt Ideal) := after hostOps0_16 (z15 m c)
theorem p11_v10 : z11 m c (Proc.devRef .tc main_v10) = leave m c (Proc.devRef .tc main_v10) := by
  unfold z11
  after_reads_simp
theorem p12_v93 : z12 m c (Proc.devRef .tc main_v93) = z11 m c (Proc.devRef .tc main_v93) := by
  unfold z12
  after_reads_simp
theorem p14_v97 : z14 m c (Proc.devRef .tc main_v97) = z13 m c (Proc.devRef .tc main_v97) := by
  unfold z14
  after_reads_simp
theorem p14_arg17 : z14 m c (Proc.devRef .tc main_arg17) = leave m c (Proc.devRef .tc main_arg17) := by
  unfold z14 z13 z12 z11
  after_reads_simp
theorem p14_arg1 : z14 m c (Proc.devRef .tc main_arg1) = leave m c (Proc.devRef .tc main_arg1) := by
  unfold z14 z13 z12 z11
  after_reads_simp
theorem pk16_arg1 : z16 m c (Proc.devRef .tc main_arg1) = leave m c (Proc.devRef .tc main_arg1) := by
  unfold z16 z15 z14 z13 z12 z11
  after_reads_simp

theorem final_eq : finalContents condOps preI bodyI postI 4096 m c = z16 m c := rfl

/-- A branch before its gate. -/
theorem v93_at (g b : Fin 2) (t : Fin 4096) (d : Fin 2048) :
    b_v93 (z11 m c) (ix4 g b t d) = Seq.out (PP (launch m c) g) (XX (launch m c) g b) t.val d := by
  refine (s11_v93 (leave m c) g b t d).trans ?_
  have h65 : b_v65 (leave m c) = b_v65 (w7 (launch m c)) := (leave_v65 m c).trans (k10_v65 _)
  have h31 : b_v31 (leave m c) = b_v31 (w4 (launch m c)) := (leave_v31 m c).trans (k10_v31 _)
  rw [leave_rows, h65, h31, v65_at, v31_at]
  rfl

theorem v10_leave : b_v10 (z11 m c) = b_v10 (w4 (launch m c)) := (p11_v10 m c).trans ((leave_v10 m c).trans (k10_v10 _))

/-- The forward branch, gated. -/
theorem v97_at (b : Fin 2) (t : Fin 4096) (d : Fin 2048) :
    b_v97 (z13 m c) (ix3 b t d) = Spec.yF (args (launch m c)) b t d * Spec.gate (args (launch m c)) b t d := by
  refine (s13_v97 (z12 m c) b t d).trans ?_
  have h : b_v93 (z12 m c) = b_v93 (z11 m c) := p12_v93 m c
  have hg : b_v94 (z12 m c) (ix4 0 b t d) = Spec.gate (args (launch m c)) b t d := by
    refine (s12_v94 (z11 m c) 0 b t d).trans ?_
    rw [v10_leave, v10_at_0]
    rfl
  rw [h, v93_at, hg]
  rfl

/-- The backward branch, gated, as it runs. -/
theorem v99_at (b : Fin 2) (t : Fin 4096) (d : Fin 2048) :
    b_v99 (z13 m c) (ix3 b t d) = Seq.out (args (launch m c)).B (Spec.seqB (args (launch m c)) b) t.val d * Spec.gate (args (launch m c)) b t.rev d := by
  refine (s13_v99 (z12 m c) b t d).trans ?_
  have h : b_v93 (z12 m c) = b_v93 (z11 m c) := p12_v93 m c
  have hg : b_v94 (z12 m c) (ix4 1 b t d) = Spec.gate (args (launch m c)) b t.rev d := by
    refine (s12_v94 (z11 m c) 1 b t d).trans ?_
    rw [v10_leave, v10_at_1]
    rfl
  rw [h, v93_at, hg]
  rfl

/-- The backward branch, gated, flipped back. -/
theorem v100_at (b : Fin 2) (t : Fin 4096) (d : Fin 2048) :
    b_v100 (z14 m c) (ix3 b t d) = Spec.yB (args (launch m c)) b t d * Spec.gate (args (launch m c)) b t d := by
  refine (s14_v100 (z13 m c) b t d).trans ?_
  rw [v99_at, Fin.rev_rev]
  have h : t.rev.val = 4095 - t.val := by
    rw [Fin.val_rev]
    omega
  rw [h]
  rfl

/-- The reference's first result. -/
theorem result (b : Fin 2) (t : Fin 4096) (o : Fin 1024) :
    b_v105 (finalContents condOps preI bodyI postI 4096 m c) (ix3 b t o) = Spec.refOut (args (launch m c)) b t o := by
  rw [final_eq]
  refine (s16_v105 (z15 m c) b t o).trans ?_
  have e1 : (show IVec S2x4096x1 1 from z15 m c (Proc.devRef .tc main_v104)) (ix3 b t 0) = (args (launch m c)).mask b t := by
    refine (s15_v104 (z14 m c) b t).trans ?_
    exact congrFun ((p14_arg1 m c).trans ((leave_arg1 m c).trans (k10_arg1 _))) (ix3 b 0 t)
  have e2 : b_cst_3 (z15 m c) ix0 = 0 := s15_cst (z14 m c)
  have e3 : b_v102 (z15 m c) (ix3 b t o) = ∑ d : Fin 2048, (Spec.yF (args (launch m c)) b t d * Spec.gate (args (launch m c)) b t d
      + Spec.yB (args (launch m c)) b t d * Spec.gate (args (launch m c)) b t d) * (args (launch m c)).wout o d := by
    refine (s15_v102 (z14 m c) b t o).trans ?_
    refine Finset.sum_congr (M := EReal) rfl fun d _ => ?_
    have h97 : b_v97 (z14 m c) = b_v97 (z13 m c) := p14_v97 m c
    have h17 : b_arg17 (z14 m c) = b_arg17 (launch m c) := (p14_arg17 m c).trans ((leave_arg17 m c).trans (k10_arg17 _))
    rw [h97, h17, v97_at, v100_at]
    rfl
  rw [e1, e2, e3]
  rfl

end Cert.ReferenceIdeal.Host
-- ==== Proof.RefFrame.lean ====
/- The reference's run leaves its arguments as they were. -/
module

public import proofs.«01_k».proof.Proof.RefPost
public import Idealize.ShloMosaic.Lib.Quiescent

@[expose] public section

set_option maxRecDepth 8192

noncomputable section

namespace Cert.ReferenceIdeal.Host

open Idealize.ShloMosaic Idealize.ShloMosaic.TcCoe Cert.ReferenceIdeal.Gen Cert.ReferenceIdeal.Value Idealize.ShloMosaic.StableHlo

/-- The arguments' buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- `hostOps0` writes no argument. -/
theorem arg_hostOps0 (V : Valuation τ sig (Elt Ideal)) {r : Ref sig .tc} (hr : r ∈ argRefs) :
    after hostOps0 V (Proc.devRef .tc r) = V (Proc.devRef .tc r) :=
  after_of_writes_sub hostOps0 V hostOps0_writes ((by decide : ∀ r ∈ argRefs, r ∉ hostOps0_W) r hr)
/-- `hostOps0_1` writes no argument. -/
theorem arg_hostOps0_1 (V : Valuation τ sig (Elt Ideal)) {r : Ref sig .tc} (hr : r ∈ argRefs) :
    after hostOps0_1 V (Proc.devRef .tc r) = V (Proc.devRef .tc r) :=
  after_of_writes_sub hostOps0_1 V hostOps0_1_writes ((by decide : ∀ r ∈ argRefs, r ∉ hostOps0_1_W) r hr)
/-- `hostOps0_2` writes no argument. -/
theorem arg_hostOps0_2 (V : Valuation τ sig (Elt Ideal)) {r : Ref sig .tc} (hr : r ∈ argRefs) :
    after hostOps0_2 V (Proc.devRef .tc r) = V (Proc.devRef .tc r) :=
  after_of_writes_sub hostOps0_2 V hostOps0_2_writes ((by decide : ∀ r ∈ argRefs, r ∉ hostOps0_2_W) r hr)
/-- `hostOps0_3` writes no argument. -/
theorem arg_hostOps0_3 (V : Valuation τ sig (Elt Ideal)) {r : Ref sig .tc} (hr : r ∈ argRefs) :
    after hostOps0_3 V (Proc.devRef .tc r) = V (Proc.devRef .tc r) :=
  after_of_writes_sub hostOps0_3 V hostOps0_3_writes ((by decide : ∀ r ∈ argRefs, r ∉ hostOps0_3_W) r hr)
/-- `hostOps0_4` writes no argument. -/
theorem arg_hostOps0_4 (V : Valuation τ sig (Elt Ideal)) {r : Ref sig .tc} (hr : r ∈ argRefs) :
    after hostOps0_4 V (Proc.devRef .tc r) = V (Proc.devRef .tc r) :=
  after_of_writes_sub hostOps0_4 V hostOps0_4_writes ((by decide : ∀ r ∈ argRefs, r ∉ hostOps0_4_W) r hr)
/-- `hostOps0_5` writes no argument. -/
theorem arg_hostOps0_5 (V : Valuation τ sig (Elt Ideal)) {r : Ref sig .tc} (hr : r ∈ argRefs) :
    after hostOps0_5 V (Proc.devRef .tc r) = V (Proc.devRef .tc r) :=
  after_of_writes_sub hostOps0_5 V hostOps0_5_writes ((by decide : ∀ r ∈ argRefs, r ∉ hostOps0_5_W) r hr)
/-- `hostOps0_6` writes no argument. -/
theorem arg_hostOps0_6 (V : Valuation τ sig (Elt Ideal)) {r : Ref sig .tc} (hr : r ∈ argRefs) :
    after hostOps0_6 V (Proc.devRef .tc r) = V (Proc.devRef .tc r) :=
  after_of_writes_sub hostOps0_6 V hostOps0_6_writes ((by decide : ∀ r ∈ argRefs, r ∉ hostOps0_6_W) r hr)
/-- `hostOps0_7` writes no argument. -/
theorem arg_hostOps0_7 (V : Valuation τ sig (Elt Ideal)) {r : Ref sig .tc} (hr : r ∈ argRefs) :
    after hostOps0_7 V (Proc.devRef .tc r) = V (Proc.devRef .tc r) :=
  after_of_writes_sub hostOps0_7 V hostOps0_7_writes ((by decide : ∀ r ∈ argRefs, r ∉ hostOps0_7_W) r hr)
/-- `hostOps0_8` writes no argument. -/
theorem arg_hostOps0_8 (V : Valuation τ sig (Elt Ideal)) {r : Ref sig .tc} (hr : r ∈ argRefs) :
    after hostOps0_8 V (Proc.devRef .tc r) = V (Proc.devRef .tc r) :=
  after_of_writes_sub hostOps0_8 V hostOps0_8_writes ((by decide : ∀ r ∈ argRefs, r ∉ hostOps0_8_W) r hr)
/-- `hostOps0_9` writes no argument. -/
theorem arg_hostOps0_9 (V : Valuation τ sig (Elt Ideal)) {r : Ref sig .tc} (hr : r ∈ argRefs) :
    after hostOps0_9 V (Proc.devRef .tc r) = V (Proc.devRef .tc r) :=
  after_of_writes_sub hostOps0_9 V hostOps0_9_writes ((by decide : ∀ r ∈ argRefs, r ∉ hostOps0_9_W) r hr)
/-- `hostOps0_10` writes no argument. -/
theorem arg_hostOps0_10 (V : Valuation τ sig (Elt Ideal)) {r : Ref sig .tc} (hr : r ∈ argRefs) :
    after hostOps0_10 V (Proc.devRef .tc r) = V (Proc.devRef .tc r) :=
  after_of_writes_sub hostOps0_10 V hostOps0_10_writes ((by decide : ∀ r ∈ argRefs, r ∉ hostOps0_10_W) r hr)
/-- `while0Ops0` writes no argument. -/
theorem arg_while0Ops0 (V : Valuation τ sig (Elt Ideal)) {r : Ref sig .tc} (hr : r ∈ argRefs) :
    after while0Ops0 V (Proc.devRef .tc r) = V (Proc.devRef .tc r) :=
  after_of_writes_sub while0Ops0 V while0Ops0_writes ((by decide : ∀ r ∈ argRefs, r ∉ while0Ops0_W) r hr)
/-- `while0Ops0_1` writes no argument. -/
theorem arg_while0Ops0_1 (V : Valuation τ sig (Elt Ideal)) {r : Ref sig .tc} (hr : r ∈ argRefs) :
    after while0Ops0_1 V (Proc.devRef .tc r) = V (Proc.devRef .tc r) :=
  after_of_writes_sub while0Ops0_1 V while0Ops0_1_writes ((by decide : ∀ r ∈ argRefs, r ∉ while0Ops0_1_W) r hr)
/-- `while0Ops0_2` writes no argument. -/
theorem arg_while0Ops0_2 (V : Valuation τ sig (Elt Ideal)) {r : Ref sig .tc} (hr : r ∈ argRefs) :
    after while0Ops0_2 V (Proc.devRef .tc r) = V (Proc.devRef .tc r) :=
  after_of_writes_sub while0Ops0_2 V while0Ops0_2_writes ((by decide : ∀ r ∈ argRefs, r ∉ while0Ops0_2_W) r hr)
/-- `while0Ops0_3` writes no argument. -/
theorem arg_while0Ops0_3 (V : Valuation τ sig (Elt Ideal)) {r : Ref sig .tc} (hr : r ∈ argRefs) :
    after while0Ops0_3 V (Proc.devRef .tc r) = V (Proc.devRef .tc r) :=
  after_of_writes_sub while0Ops0_3 V while0Ops0_3_writes ((by decide : ∀ r ∈ argRefs, r ∉ while0Ops0_3_W) r hr)
/-- `while0Ops0_4` writes no argument. -/
theorem arg_while0Ops0_4 (V : Valuation τ sig (Elt Ideal)) {r : Ref sig .tc} (hr : r ∈ argRefs) :
    after while0Ops0_4 V (Proc.devRef .tc r) = V (Proc.devRef .tc r) :=
  after_of_writes_sub while0Ops0_4 V while0Ops0_4_writes ((by decide : ∀ r ∈ argRefs, r ∉ while0Ops0_4_W) r hr)
/-- `while0Ops0_5` writes no argument. -/
theorem arg_while0Ops0_5 (V : Valuation τ sig (Elt Ideal)) {r : Ref sig .tc} (hr : r ∈ argRefs) :
    after while0Ops0_5 V (Proc.devRef .tc r) = V (Proc.devRef .tc r) :=
  after_of_writes_sub while0Ops0_5 V while0Ops0_5_writes ((by decide : ∀ r ∈ argRefs, r ∉ while0Ops0_5_W) r hr)
/-- `while0Ops0_6` writes no argument. -/
theorem arg_while0Ops0_6 (V : Valuation τ sig (Elt Ideal)) {r : Ref sig .tc} (hr : r ∈ argRefs) :
    after while0Ops0_6 V (Proc.devRef .tc r) = V (Proc.devRef .tc r) :=
  after_of_writes_sub while0Ops0_6 V while0Ops0_6_writes ((by decide : ∀ r ∈ argRefs, r ∉ while0Ops0_6_W) r hr)
/-- `condOps` writes no argument. -/
theorem arg_condOps (V : Valuation τ sig (Elt Ideal)) {r : Ref sig .tc} (hr : r ∈ argRefs) :
    after condOps V (Proc.devRef .tc r) = V (Proc.devRef .tc r) :=
  after_of_writes_sub condOps V condOps_writes ((by decide : ∀ r ∈ argRefs, r ∉ condOps_W) r hr)
/-- `hostOps0_11` writes no argument. -/
theorem arg_hostOps0_11 (V : Valuation τ sig (Elt Ideal)) {r : Ref sig .tc} (hr : r ∈ argRefs) :
    after hostOps0_11 V (Proc.devRef .tc r) = V (Proc.devRef .tc r) :=
  after_of_writes_sub hostOps0_11 V (W := [main_v89, main_v90, main_v91, main_v92, main_v93]) (forall_writes_sub_of_map rfl) ((by decide : ∀ r ∈ argRefs, r ∉ ([main_v89, main_v90, main_v91, main_v92, main_v93] : List (Ref sig .tc))) r hr)
/-- `hostOps0_12` writes no argument. -/
theorem arg_hostOps0_12 (V : Valuation τ sig (Elt Ideal)) {r : Ref sig .tc} (hr : r ∈ argRefs) :
    after hostOps0_12 V (Proc.devRef .tc r) = V (Proc.devRef .tc r) :=
  after_of_writes_sub hostOps0_12 V (W := [main_call10_v0, main_call10_v1, main_call10_cst, main_call10_v2, main_call10_v3, main_call10_cst_0, main_call10_v4, main_call10_v5, main_v94]) (forall_writes_sub_of_map rfl) ((by decide : ∀ r ∈ argRefs, r ∉ ([main_call10_v0, main_call10_v1, main_call10_cst, main_call10_v2, main_call10_v3, main_call10_cst_0, main_call10_v4, main_call10_v5, main_v94] : List (Ref sig .tc))) r hr)
/-- `hostOps0_13` writes no argument. -/
theorem arg_hostOps0_13 (V : Valuation τ sig (Elt Ideal)) {r : Ref sig .tc} (hr : r ∈ argRefs) :
    after hostOps0_13 V (Proc.devRef .tc r) = V (Proc.devRef .tc r) :=
  after_of_writes_sub hostOps0_13 V (W := [main_v95, main_v96, main_v97, main_v98, main_v99]) (forall_writes_sub_of_map rfl) ((by decide : ∀ r ∈ argRefs, r ∉ ([main_v95, main_v96, main_v97, main_v98, main_v99] : List (Ref sig .tc))) r hr)
/-- `hostOps0_14` writes no argument. -/
theorem arg_hostOps0_14 (V : Valuation τ sig (Elt Ideal)) {r : Ref sig .tc} (hr : r ∈ argRefs) :
    after hostOps0_14 V (Proc.devRef .tc r) = V (Proc.devRef .tc r) :=
  after_of_writes_sub hostOps0_14 V (W := [main_v100]) (forall_writes_sub_of_map rfl) ((by decide : ∀ r ∈ argRefs, r ∉ ([main_v100] : List (Ref sig .tc))) r hr)
/-- `hostOps0_15` writes no argument. -/
theorem arg_hostOps0_15 (V : Valuation τ sig (Elt Ideal)) {r : Ref sig .tc} (hr : r ∈ argRefs) :
    after hostOps0_15 V (Proc.devRef .tc r) = V (Proc.devRef .tc r) :=
  after_of_writes_sub hostOps0_15 V (W := [main_v101, main_v102, main_v103, main_v104, main_cst_3]) (forall_writes_sub_of_map rfl) ((by decide : ∀ r ∈ argRefs, r ∉ ([main_v101, main_v102, main_v103, main_v104, main_cst_3] : List (Ref sig .tc))) r hr)
/-- `hostOps0_16` writes no argument. -/
theorem arg_hostOps0_16 (V : Valuation τ sig (Elt Ideal)) {r : Ref sig .tc} (hr : r ∈ argRefs) :
    after hostOps0_16 V (Proc.devRef .tc r) = V (Proc.devRef .tc r) :=
  after_of_writes_sub hostOps0_16 V (W := [main_call12_v0, main_call12_v1, main_call12_v2, main_v105]) (forall_writes_sub_of_map rfl) ((by decide : ∀ r ∈ argRefs, r ∉ ([main_call12_v0, main_call12_v1, main_call12_v2, main_v105] : List (Ref sig .tc))) r hr)
/-- The stretches `preI` write no argument. -/
theorem argL_preI (V : Valuation τ sig (Elt Ideal)) {r : Ref sig .tc} (hr : r ∈ argRefs) :
    afterL preI V (Proc.devRef .tc r) = V (Proc.devRef .tc r) :=
  ((arg_hostOps0_10 _ hr).trans
    ((arg_hostOps0_9 _ hr).trans
    ((arg_hostOps0_8 _ hr).trans
    ((arg_hostOps0_7 _ hr).trans
    ((arg_hostOps0_6 _ hr).trans
    ((arg_hostOps0_5 _ hr).trans
    ((arg_hostOps0_4 _ hr).trans
    ((arg_hostOps0_3 _ hr).trans
    ((arg_hostOps0_2 _ hr).trans
    ((arg_hostOps0_1 _ hr).trans
    (arg_hostOps0 _ hr)))))))))))
/-- The stretches `bodyI` write no argument. -/
theorem argL_bodyI (V : Valuation τ sig (Elt Ideal)) {r : Ref sig .tc} (hr : r ∈ argRefs) :
    afterL bodyI V (Proc.devRef .tc r) = V (Proc.devRef .tc r) :=
  ((arg_while0Ops0_6 _ hr).trans
    ((arg_while0Ops0_5 _ hr).trans
    ((arg_while0Ops0_4 _ hr).trans
    ((arg_while0Ops0_3 _ hr).trans
    ((arg_while0Ops0_2 _ hr).trans
    ((arg_while0Ops0_1 _ hr).trans
    (arg_while0Ops0 _ hr)))))))
/-- The stretches `postI` write no argument. -/
theorem argL_postI (V : Valuation τ sig (Elt Ideal)) {r : Ref sig .tc} (hr : r ∈ argRefs) :
    afterL postI V (Proc.devRef .tc r) = V (Proc.devRef .tc r) :=
  ((arg_hostOps0_16 _ hr).trans
    ((arg_hostOps0_15 _ hr).trans
    ((arg_hostOps0_14 _ hr).trans
    ((arg_hostOps0_13 _ hr).trans
    ((arg_hostOps0_12 _ hr).trans
    (arg_hostOps0_11 _ hr))))))

variable (m : (ℓ : Loc nD τ sig) → Buf (Elt Ideal) ℓ) (c : Dev nD)

/-- An argument is at the end what it was at launch. -/
theorem final_arg {r : Ref sig .tc} (hr : r ∈ argRefs) :
    finalContents condOps preI bodyI postI 4096 m c (Proc.devRef .tc r) = m ((c.tc : Thread nD τ).loc r) := by
  have h : ∀ k, atTrip condOps bodyI (entryContents preI m) k c (Proc.devRef .tc r) = m ((c.tc : Thread nD τ).loc r) := fun k => by
    induction k with
    | zero => exact (argL_preI _ hr).trans rfl
    | succ k ih => exact (argL_bodyI _ hr).trans ((arg_condOps _ hr).trans ih)
  exact (argL_postI _ hr).trans ((arg_condOps _ hr).trans (h 4096))

/-- The reference runs; its result is the block's, its arguments stay, and its counters end at zero. -/
theorem run (ρ : Dev nD → PrngReg) : θ_run (defs (F := Ideal)) (onTc (τ := τ) (main (F := Ideal))) ⟨m, fun _ => 0, ρ⟩
    (fun r => (∀ c : Dev nD, (∀ b t o, (show FVec Ideal S2x4096x1024 .f32 from r.2.mem ((c.tc : Thread nD τ).loc main_v105)) (ix3 b t o) = Spec.refOut (args (launch m c)) b t o)
      ∧ ∀ a ∈ argRefs, r.2.mem ((c.tc : Thread nD τ).loc a) = m ((c.tc : Thread nD τ).loc a)) ∧ r.2.sem = fun _ => 0) :=
  (θ_run _ _ _).mono (fun r h => ⟨fun c => ⟨fun b t o => (congrFun (h c main_v105 rfl) (ix3 b t o)).trans (result m c b t o),
    fun a ha => (h c a ((by decide : ∀ a ∈ argRefs, (Proc.devRef .tc a : DevRef τ sig).isScoped = false) a ha)).trans (final_arg m c ha)⟩,
    sem_eq_zero_of_no_sems (by decide) r.2⟩) (run_fold m ρ)

end Cert.ReferenceIdeal.Host

end
-- ==== Proof.Fin.lean ====
/- What the precondition gives: with standard rates the decays are powers of the first, and with finite forward
arguments the forward output and the gate are finite, so that the gate distributes over the sum of the directions. -/
module

public import proofs.«01_k».proof.Proof.Spec

@[expose] public section

noncomputable section

namespace Cert.Fin

open Idealize.ShloMosaic

/-- A finite value. -/
def R (v : EReal) : Prop := ∃ r : ℝ, v = (r : EReal)

/-- A finite value that is not negative. -/
def N (v : EReal) : Prop := ∃ r : ℝ, 0 ≤ r ∧ v = (r : EReal)

theorem N.real {v : EReal} : N v → R v := fun ⟨r, _, h⟩ => ⟨r, h⟩

theorem R.zero : R 0 := ⟨0, rfl⟩

theorem R.add {a b : EReal} : R a → R b → R (a + b) := by
  rintro ⟨x, rfl⟩ ⟨y, rfl⟩
  exact ⟨x + y, (EReal.coe_add x y).symm⟩

theorem R.mul {a b : EReal} : R a → R b → R (a * b) := by
  rintro ⟨x, rfl⟩ ⟨y, rfl⟩
  exact ⟨x * y, (EReal.coe_mul x y).symm⟩

theorem R.sum {ι : Type} (s : Finset ι) (f : ι → EReal) (h : ∀ i, R (f i)) : R (∑ i ∈ s, f i) := by
  classical
  induction s using Finset.induction_on with
  | empty => exact ⟨0, by simp⟩
  | insert a s ha ih => rw [Finset.sum_insert ha]; exact (h a).add ih

/-- The exponential of a finite value is a positive one. -/
theorem exp_coe (r : ℝ) : Ideal.exp (r : EReal) = (Real.exp r : EReal) := rfl

/-- The logistic function of a finite value is finite. -/
theorem R.logistic {a : EReal} : R a → R (Ideal.logistic a) := by
  rintro ⟨r, rfl⟩
  have h0 : (1 : ℝ) + Real.exp (-r) ≠ 0 := by positivity
  have h1 : (1 : EReal) + Ideal.exp (-(r : EReal)) = ((1 + Real.exp (-r) : ℝ) : EReal) := by
    rw [← EReal.coe_neg, exp_coe, EReal.coe_add, EReal.coe_one]
  refine ⟨(1 + Real.exp (-r))⁻¹, ?_⟩
  show Ideal.div 1 (1 + Ideal.exp (-(r : EReal))) = _
  rw [h1]
  unfold Ideal.div
  rw [if_neg (by exact_mod_cast h0), one_mul, EReal.coe_inv]

theorem R.silu {a : EReal} (h : R a) : R (Seq.silu a) := h.mul h.logistic

/-- A softplus of a finite value is finite and not negative. -/
theorem R.softplus {a : EReal} : R a → N (Seq.softplus a) := by
  rintro ⟨r, rfl⟩
  have ha : FloatOps.absf (F := Ideal) (φ := .f32) (r : EReal) = ((|r| : ℝ) : EReal) := by
    show max (r : EReal) (-(r : EReal)) = _
    rw [← EReal.coe_neg]
    exact (EReal.coe_strictMono.monotone.map_max).symm
  have hp : (0 : ℝ) < 1 + Real.exp (-|r|) := by positivity
  have hl : Ideal.log1p (Ideal.exp (-((|r| : ℝ) : EReal))) = ((Real.log (1 + Real.exp (-|r|)) : ℝ) : EReal) := by
    rw [← EReal.coe_neg, exp_coe]
    show Ideal.log (1 + (Real.exp (-|r|) : EReal)) = _
    rw [← EReal.coe_one, ← EReal.coe_add]
    show (if 1 + Real.exp (-|r|) ≤ 0 then (⊥ : EReal) else _) = _
    rw [if_neg (not_le.mpr hp)]
  refine ⟨max r 0 + Real.log (1 + Real.exp (-|r|)),
    add_nonneg (le_max_right _ _) (Real.log_nonneg (by linarith [Real.exp_pos (-|r|)])), ?_⟩
  unfold Seq.softplus
  rw [ha, hl, EReal.coe_add]
  refine congrArg (· + _) ?_
  rw [← EReal.coe_zero]
  exact (EReal.coe_strictMono.monotone.map_max).symm

/-- The exponential of minus a nonnegative value, possibly infinite, times a finite nonnegative one is finite. -/
theorem decay_real {z a : EReal} (hz : N z) : R (Ideal.exp (z * -Ideal.exp a)) := by
  obtain ⟨x, hx, rfl⟩ := hz
  have key : ∀ e : ℝ, R (Ideal.exp ((x : EReal) * -(e : EReal))) := fun e => by
    rw [← EReal.coe_neg, ← EReal.coe_mul]
    exact ⟨_, exp_coe _⟩
  induction a with
  | bot => exact key 0
  | coe r => exact key (Real.exp r)
  | top =>
    show R (Ideal.exp ((x : EReal) * -(⊤ : EReal)))
    rw [EReal.neg_top]
    rcases hx.eq_or_lt with h | h
    · rw [← h, EReal.coe_zero, zero_mul]
      exact ⟨Real.exp 0, exp_coe 0⟩
    · rw [EReal.coe_mul_bot_of_pos h]
      exact ⟨0, rfl⟩

/-- Finite weights and a finite sequence keep one direction's output finite; the logarithms of the rates may be any. -/
theorem out_real (cw cb xw dw db al D) (x : ℕ → Fin 2048 → EReal) (hcw : ∀ d k, R (cw d k)) (hcb : ∀ d, R (cb d))
    (hxw : ∀ p d, R (xw p d)) (hdw : ∀ d r, R (dw d r)) (hdb : ∀ d, R (db d)) (hD : ∀ d, R (D d)) (hx : ∀ t d, R (x t d)) (t d) :
    R (Seq.out (Spec.par cw cb xw dw db al D) x t d) := by
  have hxp : ∀ s d, R (Seq.xp x s d) := fun s d => by
    unfold Seq.xp
    split
    · exact R.zero
    · exact hx _ _
  have hu : ∀ t d, R (Seq.u (Spec.par cw cb xw dw db al D) x t d) := fun t d =>
    R.silu ((((((hcb d).add ((hcw d 0).mul (hxp _ d))).add ((hcw d 1).mul (hxp _ d))).add
      ((hcw d 2).mul (hxp _ d)))).add ((hcw d 3).mul (hxp _ d)))
  have hpr : ∀ t p, R (Seq.pr (Spec.par cw cb xw dw db al D) x t p) := fun t p =>
    R.sum _ _ fun d => (hu t d).mul (hxw p d)
  have hdt : ∀ t d, N (Seq.dt (Spec.par cw cb xw dw db al D) x t d) := fun t d =>
    R.softplus ((R.sum _ _ fun r => (hpr t _).mul (hdw d r)).add (hdb d))
  have hH : ∀ t d n, R (Seq.H (Spec.par cw cb xw dw db al D) x t d n) := fun t => by
    induction t with
    | zero => exact fun d n => R.zero
    | succ t ih =>
      exact fun d n => ((decay_real (hdt t d)).mul (ih d n)).add (((hdt t d).real.mul (hu t d)).mul (hpr t _))
  exact (R.sum _ _ fun n => (hpr t _).mul (hH (t + 1) d n)).add ((hu t d).mul (hD d))

/-- A finite factor distributes over a sum with a finite term. -/
theorem distrib {a c : EReal} (b : EReal) : R a → R c → (a + b) * c = a * c + b * c := by
  rintro ⟨x, rfl⟩ ⟨z, rfl⟩
  induction b with
  | coe y =>
    rw [← EReal.coe_add, ← EReal.coe_mul, ← EReal.coe_mul, ← EReal.coe_mul, ← EReal.coe_add, add_mul]
  | top =>
    rw [EReal.coe_add_top]
    rcases lt_trichotomy z 0 with h | rfl | h
    · rw [EReal.top_mul_coe_of_neg h, ← EReal.coe_mul, EReal.add_bot]
    · rw [EReal.coe_zero, mul_zero, mul_zero, zero_add]
    · rw [EReal.top_mul_coe_of_pos h, ← EReal.coe_mul, EReal.coe_add_top]
  | bot =>
    rw [EReal.add_bot]
    rcases lt_trichotomy z 0 with h | rfl | h
    · rw [EReal.bot_mul_coe_of_neg h, ← EReal.coe_mul, EReal.coe_add_top]
    · rw [EReal.coe_zero, mul_zero, mul_zero, zero_add]
    · rw [EReal.bot_mul_coe_of_pos h, ← EReal.coe_mul, EReal.add_bot]

/-- Masking the terms by a bit as a number is choosing between the sum and zero. -/
theorem mask_sum {n : ℕ} (f g : Fin n → EReal) (b : BitVec 1) :
    ∑ d, f d * ((b.toNat : ℝ) : EReal) * g d = Scalar.select b (∑ d, f d * g d) 0 := by
  obtain rfl | rfl : b = 0#1 ∨ b = 1#1 := by revert b; decide
  · refine (Finset.sum_eq_zero fun d _ => ?_).trans rfl
    show f d * (((0 : ℕ) : ℝ) : EReal) * g d = 0
    simp
  · refine (Finset.sum_congr rfl fun d _ => ?_).trans (rfl : _ = Scalar.select 1#1 (∑ d, f d * g d) 0)
    show f d * (((1 : ℕ) : ℝ) : EReal) * g d = f d * g d
    simp

/-- With a finite forward output and a finite gate the kernel's result is the reference's. -/
theorem kerOut_eq (G : Spec.Args) (hy : ∀ b t d, R (Spec.yF G b t d)) (hg : ∀ b t d, R (Spec.gate G b t d)) (b t o) :
    Spec.kerOut G b t o = Spec.refOut G b t o := by
  unfold Spec.kerOut Spec.refOut
  rw [mask_sum]
  refine congrArg (fun s => Scalar.select _ s 0) (Finset.sum_congr rfl fun d _ => ?_)
  rw [distrib _ (hy b t d) (hg b t d)]

/-- Adding the logarithm of `k` to a logarithm multiplies its exponential by `k`. -/
theorem exp_add_log {k : ℝ} (hk : 0 < k) (a : EReal) :
    Ideal.exp (a + (Real.log k : EReal)) = (k : EReal) * Ideal.exp a := by
  induction a with
  | bot =>
    rw [EReal.bot_add]
    exact (mul_zero _).symm
  | coe r =>
    rw [← EReal.coe_add, exp_coe, exp_coe, ← EReal.coe_mul, Real.exp_add, Real.exp_log hk, mul_comm]
  | top =>
    rw [EReal.top_add_coe]
    exact (EReal.coe_mul_top_of_pos hk).symm

/-- A positive multiple in the exponent is a power. -/
theorem exp_mul_nat (n : ℕ) (w : EReal) : Ideal.exp (((n + 1 : ℝ) : EReal) * w) = Ideal.exp w ^ (n + 1) := by
  have hk : (0 : ℝ) < (n : ℝ) + 1 := by positivity
  induction w with
  | bot =>
    rw [EReal.coe_mul_bot_of_pos hk]
    exact (zero_pow (Nat.succ_ne_zero n)).symm
  | coe r =>
    rw [← EReal.coe_mul, exp_coe, exp_coe, ← EReal.coe_pow, ← Real.exp_nat_mul]
    push_cast
    rfl
  | top =>
    rw [EReal.coe_mul_top_of_pos hk]
    show (⊤ : EReal) = ⊤ ^ (n + 1)
    induction n with
    | zero => rw [pow_one]
    | succ n ih => rw [pow_succ, ← ih (by positivity), EReal.top_mul_top]

/-- With logarithms `log (n + 1)` above the first one, the decays are powers of the first. -/
theorem rates_pow (al : Fin 16 → EReal) (h : ∀ n, al n = al 0 + (Real.log ((n.val : ℝ) + 1) : EReal)) (z : EReal) (n : Fin 16) :
    Ideal.exp (z * -Ideal.exp (al n)) = Ideal.exp (z * -Ideal.exp (al 0)) ^ (n.val + 1) := by
  have hk : (0 : ℝ) < (n.val : ℝ) + 1 := by positivity
  rw [h n, exp_add_log hk, ← exp_mul_nat]
  refine congrArg Ideal.exp ?_
  rw [mul_neg, mul_neg, mul_neg, mul_left_comm]

end Cert.Fin

end
-- ==== Proof.PreVal.lean ====
/- The precondition read as statements about elements. -/
module

public import proofs.«01_k».proof.Pre_standard_rates
public import proofs.«01_k».proof.Proof.Fin

@[expose] public section

set_option maxRecDepth 8192

noncomputable section

namespace Cert.Pre_standard_rates

open Idealize.ShloMosaic

/-- The shape relations the precondition's operations state. -/
theorem facts : Facts where
  bcast_S_S2x4096x1024 := by decide
  bcast_S_S4096x1024 := by decide
  bcast_S_S2048x1x4 := by decide
  bcast_S_S2048 := by decide
  bcast_S_S96x2048 := by decide
  bcast_S_S2048x64 := by decide
  slices_S2048x16_S2048x1_0_0 := by decide
  bcast_S_S16 := by decide
  bcast_S16_S1x16_1 := by decide
  bcast_S2048x1_S2048x16_0_1 := by decide
  bcast_S1x16_S2048x16_0_1 := by decide

/-- A comparison that answers one holds. -/
theorem of_bit {p : Prop} [Decidable p] (h : BitVec.ofBool (decide p) = 1#1) : p := by
  by_contra hp
  rw [decide_eq_false hp] at h
  exact absurd h (by decide)

/-- A value whose absolute value is below infinity is finite. -/
theorem finite_of_lt (v : EReal) (h : max v (-v) < ⊤) : Fin.R v := by
  induction v with
  | bot => exact absurd h (by simp)
  | coe r => exact ⟨r, rfl⟩
  | top => exact absurd h (by simp)

/-- An array whose absolute values are below infinity is finite. -/
theorem finite_of {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) :
    Fin.R (x i) := by
  have h1 : max (x i) (-(x i)) < (Ideal.ofBits .f32 0x7F800000#32 : EReal) := of_bit (congrFun h i)
  exact finite_of_lt _ (lt_of_lt_of_le h1 le_top)

/-- An array of logarithms of rates with the standard steps. -/
theorem rate_of [Facts] (x : FVec Ideal S2048x16 .f32)
    (h : cmpf .oeq x (addf (broadcastInDim S2048x16 ![0, 1] Facts.bcast_S2048x1_S2048x16_0_1 (extractStridedSlice S2048x1 ![0, 0] x Facts.slices_S2048x16_S2048x1_0_0))
      (broadcastInDim S2048x16 ![0, 1] Facts.bcast_S1x16_S2048x16_0_1 (broadcastInDim S1x16 ![1] Facts.bcast_S16_S1x16_1
        (Host.log (addf (sitofp (F := Ideal) .f32 (iotaInDim S16 32 0)) (broadcastInDim S16 ![] Facts.bcast_S_S16 (constant (F := Ideal) S_ .f32 0x3F800000#32))))))) = fun _ => 1#1)
    (d : Fin 2048) (n : Fin 16) :
    x (ix2 d n) = x (ix2 d 0) + ((Real.log ((n.val : ℝ) + 1) : ℝ) : EReal) := by
  have h1 := congrFun h (ix2 d n)
  have h2 := of_bit h1
  refine h2.trans ?_
  pointwise
  have hn : FloatOps.sitofp (F := Ideal) .f32 (BitVec.ofNat 32 n.val) = ((n.val : ℝ) : EReal) := by
    show (((BitVec.ofNat 32 n.val).toInt : ℝ) : EReal) = _
    rw [(by decide : ∀ n : Fin 16, (BitVec.ofNat 32 n.val).toInt = (n.val : ℤ)) n, Int.cast_natCast]
  have hp : (0 : ℝ) < (n.val : ℝ) + 1 := by positivity
  refine congrArg (x (ix2 d 0) + ·) ?_
  rw [hn, ← EReal.coe_one, ← EReal.coe_add]
  show (if (n.val : ℝ) + 1 ≤ 0 then (⊥ : EReal) else _) = _
  rw [if_neg (not_le.mpr hp)]

/-- What the precondition says of the arguments' elements. -/
structure Std (a0 : FVec Ideal S2x4096x1024 .f32) (a2 : FVec Ideal S4096x1024 .f32) (a3 : FVec Ideal S2048x1x4 .f32) (a4 : FVec Ideal S2048 .f32) (a5 : FVec Ideal S96x2048 .f32) (a6 : FVec Ideal S2048x64 .f32) (a7 : FVec Ideal S2048 .f32) (a9 : FVec Ideal S2048 .f32) (a8 : FVec Ideal S2048x16 .f32) (a15 : FVec Ideal S2048x16 .f32) : Prop where
  f0 : ∀ i, Fin.R (a0 i)
  f2 : ∀ i, Fin.R (a2 i)
  f3 : ∀ i, Fin.R (a3 i)
  f4 : ∀ i, Fin.R (a4 i)
  f5 : ∀ i, Fin.R (a5 i)
  f6 : ∀ i, Fin.R (a6 i)
  f7 : ∀ i, Fin.R (a7 i)
  f9 : ∀ i, Fin.R (a9 i)
  r8 : ∀ (d : Fin 2048) (n : Fin 16), a8 (ix2 d n) = a8 (ix2 d 0) + ((Real.log ((n.val : ℝ) + 1) : ℝ) : EReal)
  r15 : ∀ (d : Fin 2048) (n : Fin 16), a15 (ix2 d n) = a15 (ix2 d 0) + ((Real.log ((n.val : ℝ) + 1) : ℝ) : EReal)

/-- The precondition gives these statements. -/
theorem std [Facts] (a0 : FVec Ideal S2x4096x1024 .f32) (a1 : IVec S2x1x4096 1) (a2 : FVec Ideal S4096x1024 .f32) (a3 : FVec Ideal S2048x1x4 .f32) (a4 : FVec Ideal S2048 .f32) (a5 : FVec Ideal S96x2048 .f32) (a6 : FVec Ideal S2048x64 .f32) (a7 : FVec Ideal S2048 .f32) (a8 : FVec Ideal S2048x16 .f32) (a9 : FVec Ideal S2048 .f32) (a10 : FVec Ideal S2048x1x4 .f32) (a11 : FVec Ideal S2048 .f32) (a12 : FVec Ideal S96x2048 .f32) (a13 : FVec Ideal S2048x64 .f32) (a14 : FVec Ideal S2048 .f32) (a15 : FVec Ideal S2048x16 .f32) (a16 : FVec Ideal S2048 .f32) (a17 : FVec Ideal S1024x2048 .f32)
    (h : (fn (F := Ideal) a0 a1 a2 a3 a4 a5 a6 a7 a8 a9 a10 a11 a12 a13 a14 a15 a16 a17).1 = (fun _ => 1#1)
      ∧ (fn (F := Ideal) a0 a1 a2 a3 a4 a5 a6 a7 a8 a9 a10 a11 a12 a13 a14 a15 a16 a17).2.1 = (fun _ => 1#1)
      ∧ (fn (F := Ideal) a0 a1 a2 a3 a4 a5 a6 a7 a8 a9 a10 a11 a12 a13 a14 a15 a16 a17).2.2.1 = (fun _ => 1#1)
      ∧ (fn (F := Ideal) a0 a1 a2 a3 a4 a5 a6 a7 a8 a9 a10 a11 a12 a13 a14 a15 a16 a17).2.2.2.1 = (fun _ => 1#1)
      ∧ (fn (F := Ideal) a0 a1 a2 a3 a4 a5 a6 a7 a8 a9 a10 a11 a12 a13 a14 a15 a16 a17).2.2.2.2.1 = (fun _ => 1#1)
      ∧ (fn (F := Ideal) a0 a1 a2 a3 a4 a5 a6 a7 a8 a9 a10 a11 a12 a13 a14 a15 a16 a17).2.2.2.2.2.1 = (fun _ => 1#1)
      ∧ (fn (F := Ideal) a0 a1 a2 a3 a4 a5 a6 a7 a8 a9 a10 a11 a12 a13 a14 a15 a16 a17).2.2.2.2.2.2.1 = (fun _ => 1#1)
      ∧ (fn (F := Ideal) a0 a1 a2 a3 a4 a5 a6 a7 a8 a9 a10 a11 a12 a13 a14 a15 a16 a17).2.2.2.2.2.2.2.1 = (fun _ => 1#1)
      ∧ (fn (F := Ideal) a0 a1 a2 a3 a4 a5 a6 a7 a8 a9 a10 a11 a12 a13 a14 a15 a16 a17).2.2.2.2.2.2.2.2.1 = (fun _ => 1#1)
      ∧ (fn (F := Ideal) a0 a1 a2 a3 a4 a5 a6 a7 a8 a9 a10 a11 a12 a13 a14 a15 a16 a17).2.2.2.2.2.2.2.2.2 = (fun _ => 1#1)) : Std a0 a2 a3 a4 a5 a6 a7 a9 a8 a15 := by
  obtain ⟨h0, h1, h2, h3, h4, h5, h6, h7, h8, h9⟩ := h
  exact ⟨finite_of a0 _ h0, finite_of a2 _ h1, finite_of a3 _ h2, finite_of a4 _ h3, finite_of a5 _ h4, finite_of a6 _ h5, finite_of a7 _ h6, finite_of a9 _ h7, rate_of a8 h8, rate_of a15 h9⟩

end Cert.Pre_standard_rates

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.WholeB
public import proofs.«01_k».proof.Proof.KerVal
public import proofs.«01_k».proof.Proof.RefFrame
public import proofs.«01_k».proof.Proof.PreVal
public import Idealize.ShloMosaic.Adequacy
public import Idealize.ShloMosaic.Init

@[expose] public section

set_option maxRecDepth 8192

noncomputable section

namespace Cert.Proof

open Idealize.ShloMosaic Idealize.SL.Sem

/-- The reference runs from any arguments, leaves them and ends with its counters at zero. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) ∧ r.2.sem = fun _ => 0) :=
  (θ_run _ _ _).mono (fun r h => ⟨fun c => ⟨(h.1 c).2 Cert.ReferenceIdeal.main_arg0 (by decide), (h.1 c).2 Cert.ReferenceIdeal.main_arg1 (by decide), (h.1 c).2 Cert.ReferenceIdeal.main_arg2 (by decide), (h.1 c).2 Cert.ReferenceIdeal.main_arg3 (by decide), (h.1 c).2 Cert.ReferenceIdeal.main_arg4 (by decide), (h.1 c).2 Cert.ReferenceIdeal.main_arg5 (by decide), (h.1 c).2 Cert.ReferenceIdeal.main_arg6 (by decide), (h.1 c).2 Cert.ReferenceIdeal.main_arg7 (by decide), (h.1 c).2 Cert.ReferenceIdeal.main_arg8 (by decide), (h.1 c).2 Cert.ReferenceIdeal.main_arg9 (by decide), (h.1 c).2 Cert.ReferenceIdeal.main_arg10 (by decide), (h.1 c).2 Cert.ReferenceIdeal.main_arg11 (by decide), (h.1 c).2 Cert.ReferenceIdeal.main_arg12 (by decide), (h.1 c).2 Cert.ReferenceIdeal.main_arg13 (by decide), (h.1 c).2 Cert.ReferenceIdeal.main_arg14 (by decide), (h.1 c).2 Cert.ReferenceIdeal.main_arg15 (by decide), (h.1 c).2 Cert.ReferenceIdeal.main_arg16 (by decide), (h.1 c).2 Cert.ReferenceIdeal.main_arg17 (by decide)⟩, h.2⟩) (Cert.ReferenceIdeal.Host.run m g)

/-- Equal argument arrays are the same arguments of the block. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Host.args (Cert.ReferenceIdeal.Host.launch m' c) = Cert.KernelIdeal.Host.args (Cert.KernelIdeal.Whole.U0 m c) := by
  have e0 : Cert.ReferenceIdeal.Host.b_arg0 (Cert.ReferenceIdeal.Host.launch m' c) = Cert.KernelIdeal.Host.b_arg0 (Cert.KernelIdeal.Whole.U0 m c) := h0
  have e1 : (show IVec Cert.ReferenceIdeal.S2x1x4096 1 from Cert.ReferenceIdeal.Host.launch m' c (Proc.devRef .tc Cert.ReferenceIdeal.main_arg1)) = (show IVec Cert.KernelIdeal.S2x1x4096 1 from Cert.KernelIdeal.Whole.U0 m c (Proc.devRef .tc Cert.KernelIdeal.main_arg1)) := h1
  have e2 : Cert.ReferenceIdeal.Host.b_arg2 (Cert.ReferenceIdeal.Host.launch m' c) = Cert.KernelIdeal.Host.b_arg2 (Cert.KernelIdeal.Whole.U0 m c) := h2
  have e3 : Cert.ReferenceIdeal.Host.b_arg3 (Cert.ReferenceIdeal.Host.launch m' c) = Cert.KernelIdeal.Host.b_arg3 (Cert.KernelIdeal.Whole.U0 m c) := h3
  have e4 : Cert.ReferenceIdeal.Host.b_arg4 (Cert.ReferenceIdeal.Host.launch m' c) = Cert.KernelIdeal.Host.b_arg4 (Cert.KernelIdeal.Whole.U0 m c) := h4
  have e5 : Cert.ReferenceIdeal.Host.b_arg5 (Cert.ReferenceIdeal.Host.launch m' c) = Cert.KernelIdeal.Host.b_arg5 (Cert.KernelIdeal.Whole.U0 m c) := h5
  have e6 : Cert.ReferenceIdeal.Host.b_arg6 (Cert.ReferenceIdeal.Host.launch m' c) = Cert.KernelIdeal.Host.b_arg6 (Cert.KernelIdeal.Whole.U0 m c) := h6
  have e7 : Cert.ReferenceIdeal.Host.b_arg7 (Cert.ReferenceIdeal.Host.launch m' c) = Cert.KernelIdeal.Host.b_arg7 (Cert.KernelIdeal.Whole.U0 m c) := h7
  have e8 : Cert.ReferenceIdeal.Host.b_arg8 (Cert.ReferenceIdeal.Host.launch m' c) = Cert.KernelIdeal.Host.b_arg8 (Cert.KernelIdeal.Whole.U0 m c) := h8
  have e9 : Cert.ReferenceIdeal.Host.b_arg9 (Cert.ReferenceIdeal.Host.launch m' c) = Cert.KernelIdeal.Host.b_arg9 (Cert.KernelIdeal.Whole.U0 m c) := h9
  have e10 : Cert.ReferenceIdeal.Host.b_arg10 (Cert.ReferenceIdeal.Host.launch m' c) = Cert.KernelIdeal.Host.b_arg10 (Cert.KernelIdeal.Whole.U0 m c) := h10
  have e11 : Cert.ReferenceIdeal.Host.b_arg11 (Cert.ReferenceIdeal.Host.launch m' c) = Cert.KernelIdeal.Host.b_arg11 (Cert.KernelIdeal.Whole.U0 m c) := h11
  have e12 : Cert.ReferenceIdeal.Host.b_arg12 (Cert.ReferenceIdeal.Host.launch m' c) = Cert.KernelIdeal.Host.b_arg12 (Cert.KernelIdeal.Whole.U0 m c) := h12
  have e13 : Cert.ReferenceIdeal.Host.b_arg13 (Cert.ReferenceIdeal.Host.launch m' c) = Cert.KernelIdeal.Host.b_arg13 (Cert.KernelIdeal.Whole.U0 m c) := h13
  have e14 : Cert.ReferenceIdeal.Host.b_arg14 (Cert.ReferenceIdeal.Host.launch m' c) = Cert.KernelIdeal.Host.b_arg14 (Cert.KernelIdeal.Whole.U0 m c) := h14
  have e15 : Cert.ReferenceIdeal.Host.b_arg15 (Cert.ReferenceIdeal.Host.launch m' c) = Cert.KernelIdeal.Host.b_arg15 (Cert.KernelIdeal.Whole.U0 m c) := h15
  have e16 : Cert.ReferenceIdeal.Host.b_arg16 (Cert.ReferenceIdeal.Host.launch m' c) = Cert.KernelIdeal.Host.b_arg16 (Cert.KernelIdeal.Whole.U0 m c) := h16
  have e17 : Cert.ReferenceIdeal.Host.b_arg17 (Cert.ReferenceIdeal.Host.launch m' c) = Cert.KernelIdeal.Host.b_arg17 (Cert.KernelIdeal.Whole.U0 m c) := h17
  unfold Cert.ReferenceIdeal.Host.args Cert.KernelIdeal.Host.args
  rw [e0, e1, e2, e3, e4, e5, e6, e7, e8, e9, e10, e11, e12, e13, e14, e15, e16, e17]

/-- Rates with the standard steps and finite forward arguments make the kernel's form of the block the reference's. -/
theorem block_eq (G : Spec.Args) (hx : ∀ b t k, Fin.R (G.x b t k)) (hw : ∀ e k, Fin.R (G.win e k))
    (hF : ∀ (x : ℕ → Fin 2048 → EReal), (∀ t d, Fin.R (x t d)) → ∀ t d, Fin.R (Seq.out G.F x t d)) (b : Fin 2) (t : Fin 4096) (o : Fin 1024) :
    Spec.kerOut G b t o = Spec.refOut G b t o := by
  have hxz : ∀ b t e, Fin.R (Spec.xz G b t e) := fun b t e => Fin.R.sum _ _ fun k => (hx b t k).mul (hw e k)
  exact Fin.kerOut_eq G (fun b t d => hF (Spec.seqF G b) (fun _ _ => hxz _ _ _) _ _) (fun b t d => Fin.R.silu (hxz _ _ _)) b t o

open Cert.KernelIdeal.Host Cert.KernelIdeal.Whole in
/-- The precondition read on the kernel's arguments. -/
theorem std_of [hP : Cert.Pre_standard_rates.Facts] (m : (ℓ : Loc Cert.KernelIdeal.nD Cert.KernelIdeal.τ Cert.KernelIdeal.sig) → Buf (Elt Ideal) ℓ)
    (h : Cert.Pre_KernelIdeal_standard_rates m) (c : Dev Cert.KernelIdeal.nD) :
    Cert.Pre_standard_rates.Std (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg8)) (m ((c.tc : Thread Cert.KernelIdeal.nD Cert.KernelIdeal.τ).loc Cert.KernelIdeal.main_arg15)) :=
  Cert.Pre_standard_rates.std (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (h c)

open Cert.KernelIdeal.Host Cert.KernelIdeal.Whole in
/-- Under the precondition the kernel's result is the reference's function of its arguments. -/
theorem value [hP : Cert.Pre_standard_rates.Facts] (m : (ℓ : Loc Cert.KernelIdeal.nD Cert.KernelIdeal.τ Cert.KernelIdeal.sig) → Buf (Elt Ideal) ℓ)
    (h : Cert.Pre_KernelIdeal_standard_rates m) (c : Dev Cert.KernelIdeal.nD) (b : Fin 2) (t : Fin 4096) (o : Fin 1024) :
    (show FVec Ideal Cert.KernelIdeal.S2x4096x1024 .f32 from Cert.KernelIdeal.Reg3.res (U6 m) c) (ix3 b t o)
      = Spec.refOut (args (U0 m c)) b t o := by
  have S : Cert.Pre_standard_rates.Std (b_arg0 (U0 m c)) (b_arg2 (U0 m c)) (b_arg3 (U0 m c)) (b_arg4 (U0 m c)) (b_arg5 (U0 m c)) (b_arg6 (U0 m c)) (b_arg7 (U0 m c)) (b_arg9 (U0 m c)) (b_arg8 (U0 m c)) (b_arg15 (U0 m c)) := std_of m h c
  have pF : Pow (args (U0 m c)).F := fun z d n => Fin.rates_pow (fun n => b_arg8 (U0 m c) (ix2 d n)) (S.r8 d) z n
  have pB : Pow (args (U0 m c)).B := fun z d n => Fin.rates_pow (fun n => b_arg15 (U0 m c) (ix2 d n)) (S.r15 d) z n
  refine (result m c pF pB b t o).trans ?_
  refine block_eq _ (fun b t k => S.f0 (ix3 b t k)) (fun e k => S.f2 (ix2 e k)) (fun x hx t d => ?_) b t o
  exact Fin.out_real (fun d j => b_arg3 (U0 m c) (ix3 d 0 j)) (fun d => b_arg4 (U0 m c) (ix1 d)) (fun p d => b_arg5 (U0 m c) (ix2 p d))
    (fun d r => b_arg6 (U0 m c) (ix2 d r)) (fun d => b_arg7 (U0 m c) (ix1 d)) (fun d n => b_arg8 (U0 m c) (ix2 d n)) (fun d => b_arg9 (U0 m c) (ix1 d)) x
    (fun d j => S.f3 (ix3 d 0 j)) (fun d => S.f4 (ix1 d)) (fun p d => S.f5 (ix2 p d)) (fun d r => S.f6 (ix2 d r)) (fun d => S.f7 (ix1 d))
    (fun d => S.f9 (ix1 d)) hx t d

/-- Under the precondition the kernel and the reference end with equal results. -/
theorem algebraic [hP : Cert.Pre_standard_rates.Facts] : Cert.algebraic_KernelIdeal_ReferenceIdeal_pre_standard_rates := by
  intro m ρ m' ρ' hpre hagree
  refine ⟨fun c => Cert.KernelIdeal.Reg3.res (Cert.KernelIdeal.Whole.U6 m) c,
    fun c => m ((c.tc : Thread _ _).loc Cert.KernelIdeal.main_arg1), ?_, ?_⟩
  · exact (θ_run _ _ _).mono (fun _ h c => ⟨(h.1 c).1, (h.1 c).2.2.1, (h.1 c).2⟩) (Cert.KernelIdeal.Whole.run m ρ)
  · refine (θ_run _ _ _).mono (fun r h c => ⟨?_, ((h.1 c).2 Cert.ReferenceIdeal.main_arg1 (by decide)).trans (hagree c).2.1, (h.1 c).2 Cert.ReferenceIdeal.main_arg0 (by decide), (h.1 c).2 Cert.ReferenceIdeal.main_arg1 (by decide), (h.1 c).2 Cert.ReferenceIdeal.main_arg2 (by decide), (h.1 c).2 Cert.ReferenceIdeal.main_arg3 (by decide), (h.1 c).2 Cert.ReferenceIdeal.main_arg4 (by decide), (h.1 c).2 Cert.ReferenceIdeal.main_arg5 (by decide), (h.1 c).2 Cert.ReferenceIdeal.main_arg6 (by decide), (h.1 c).2 Cert.ReferenceIdeal.main_arg7 (by decide), (h.1 c).2 Cert.ReferenceIdeal.main_arg8 (by decide), (h.1 c).2 Cert.ReferenceIdeal.main_arg9 (by decide), (h.1 c).2 Cert.ReferenceIdeal.main_arg10 (by decide), (h.1 c).2 Cert.ReferenceIdeal.main_arg11 (by decide), (h.1 c).2 Cert.ReferenceIdeal.main_arg12 (by decide), (h.1 c).2 Cert.ReferenceIdeal.main_arg13 (by decide), (h.1 c).2 Cert.ReferenceIdeal.main_arg14 (by decide), (h.1 c).2 Cert.ReferenceIdeal.main_arg15 (by decide), (h.1 c).2 Cert.ReferenceIdeal.main_arg16 (by decide), (h.1 c).2 Cert.ReferenceIdeal.main_arg17 (by decide)⟩)
      (Cert.ReferenceIdeal.Host.run m' ρ')
    obtain ⟨g0, g1, g2, g3, g4, g5, g6, g7, g8, g9, g10, g11, g12, g13, g14, g15, g16, g17⟩ := hagree c
    funext y
    rw [eq_ix3 y]
    refine ((h.1 c).1 (y 0) (y 1) (y 2)).trans ?_
    rw [args_eq m m' c g0 g1 g2 g3 g4 g5 g6 g7 g8 g9 g10 g11 g12 g13 g14 g15 g16 g17]
    exact (value m hpre c (y 0) (y 1) (y 2)).symm

theorem claim : Cert.Claim := ⟨Cert.Kernel.Gen.facts, Cert.KernelIdeal.Gen.facts, Cert.ReferenceIdeal.Gen.facts, Cert.Pre_standard_rates.facts,
  fun m ρ _ => (θ_run _ _ _).mono (fun _ h => ⟨fun c => (h.1 c).2, h.2⟩) (Cert.Kernel.Whole.run m ρ),
  fun m ρ _ => (θ_run _ _ _).mono (fun _ h => ⟨fun c => (h.1 c).2, h.2⟩) (Cert.KernelIdeal.Whole.run m ρ),
  fun m ρ _ => (θ_run _ _ _).mono (fun _ h => ⟨fun c => (h.1 c).2, h.2⟩) (Cert.KernelIdeal.Whole.run m ρ),
  fun m ρ _ => frame_r m ρ, fun m ρ _ => frame_r m ρ, trivial, @algebraic Cert.Pre_standard_rates.facts⟩

end Cert.Proof

end
